-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)) (v3 : (c : Dev Cert.Kernel2Ideal.nD) → Buf (Elt Ideal) ((c.tc : Thread Cert.Kernel2Ideal.nD Cert.Kernel2Ideal.τ).loc Cert.Kernel2Ideal.main_v25_3)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v25_5)) (v6 : (c : Dev Cert.Kernel2Ideal.nD) → Buf (Elt Ideal) ((c.tc : Thread Cert.Kernel2Ideal.nD Cert.Kernel2Ideal.τ).loc Cert.Kernel2Ideal.main_v25_6)) (v7 : (c : Dev Cert.Kernel2Ideal.nD) → Buf (Elt Ideal) ((c.tc : Thread Cert.Kernel2Ideal.nD Cert.Kernel2Ideal.τ).loc Cert.Kernel2Ideal.main_v25_7)) (v8 : (c : Dev Cert.Kernel2Ideal.nD) → Buf (Elt Ideal) ((c.tc : Thread Cert.Kernel2Ideal.nD Cert.Kernel2Ideal.τ).loc Cert.Kernel2Ideal.main_v25_8)) (v9 : (c : Dev Cert.Kernel2Ideal.nD) → Buf (Elt Ideal) ((c.tc : Thread Cert.Kernel2Ideal.nD Cert.Kernel2Ideal.τ).loc Cert.Kernel2Ideal.main_v25_9)) (v10 : (c : Dev Cert.Kernel2Ideal.nD) → Buf (Elt Ideal) ((c.tc : Thread Cert.Kernel2Ideal.nD Cert.Kernel2Ideal.τ).loc Cert.Kernel2Ideal.main_v25_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v25_5) = v5 c
          ∧ r.2.mem ((c.tc : Thread Cert.Kernel2Ideal.nD Cert.Kernel2Ideal.τ).loc Cert.Kernel2Ideal.main_v25_6) = v6 c
          ∧ r.2.mem ((c.tc : Thread Cert.Kernel2Ideal.nD Cert.Kernel2Ideal.τ).loc Cert.Kernel2Ideal.main_v25_7) = v7 c
          ∧ r.2.mem ((c.tc : Thread Cert.Kernel2Ideal.nD Cert.Kernel2Ideal.τ).loc Cert.Kernel2Ideal.main_v25_8) = v8 c
          ∧ r.2.mem ((c.tc : Thread Cert.Kernel2Ideal.nD Cert.Kernel2Ideal.τ).loc Cert.Kernel2Ideal.main_v25_9) = v9 c
          ∧ r.2.mem ((c.tc : Thread Cert.Kernel2Ideal.nD Cert.Kernel2Ideal.τ).loc Cert.Kernel2Ideal.main_v25_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_v35) = v4 c
          ∧ r.2.mem ((c.tc : Thread Cert.Reference2Ideal.nD Cert.Reference2Ideal.τ).loc Cert.Reference2Ideal.main_v40) = v5 c
          ∧ r.2.mem ((c.tc : Thread Cert.Reference2Ideal.nD Cert.Reference2Ideal.τ).loc Cert.Reference2Ideal.main_v43) = v6 c
          ∧ r.2.mem ((c.tc : Thread Cert.Reference2Ideal.nD Cert.Reference2Ideal.τ).loc Cert.Reference2Ideal.main_v45) = v7 c
          ∧ r.2.mem ((c.tc : Thread Cert.Reference2Ideal.nD Cert.Reference2Ideal.τ).loc Cert.Reference2Ideal.main_v47) = v8 c
          ∧ r.2.mem ((c.tc : Thread Cert.Reference2Ideal.nD Cert.Reference2Ideal.τ).loc Cert.Reference2Ideal.main_v50) = v9 c
          ∧ r.2.mem ((c.tc : Thread Cert.Reference2Ideal.nD Cert.Reference2Ideal.τ).loc Cert.Reference2Ideal.main_v53) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
-- ==== Pre_routed.lean ====
abbrev S4 : Shape := ⟨1, ![4]⟩
abbrev S34816 : Shape := ⟨1, ![34816]⟩
abbrev S32768x1152 : Shape := ⟨2, ![32768, 1152]⟩
abbrev S1x1024 : Shape := ⟨2, ![1, 1024]⟩
abbrev S1x32x1024x256 : Shape := ⟨4, ![1, 32, 1024, 256]⟩
abbrev S1x32x256x1024 : Shape := ⟨4, ![1, 32, 256, 1024]⟩
abbrev S_ : Shape := ⟨0, ![]⟩

class Facts : Prop where
  bcast_S_S34816 : S_.BroadcastsInDim S34816 (![] : Fin 0 → Fin S34816.rank)
  bcast_S_S4 : S_.BroadcastsInDim S4 (![] : Fin 0 → Fin S4.rank)

variable [Facts]

def fn {F : FTy → Type} [FloatOps F] (main_arg0 : IVec S4 32) (main_arg1 : IVec S34816 32) (main_arg2 : FVec F S32768x1152 .f32) (main_arg3 : FVec F S1x1024 .f32) (main_arg4 : FVec F S1x32x1024x256 .f32) (main_arg5 : FVec F S1x32x1024x256 .f32) (main_arg6 : FVec F S1x32x256x1024 .f32) : IVec S34816 1 × IVec S4 1 :=
  let main_c : IVec S_ 32 := constantI S_ 32 0#32
  let main_v0 : IVec S34816 32 := broadcastInDim S34816 ![] bcast_S_S34816 main_c
  let main_v1 : IVec S34816 1 := cmpi .sge main_arg1 main_v0
  let main_c_0 : IVec S_ 32 := constantI S_ 32 32768#32
  let main_v2 : IVec S34816 32 := broadcastInDim S34816 ![] bcast_S_S34816 main_c_0
  let main_v3 : IVec S34816 1 := cmpi .slt main_arg1 main_v2
  let main_v4 : IVec S34816 1 := andi main_v1 main_v3
  let main_c_1 : IVec S_ 32 := constantI S_ 32 0#32
  let main_v5 : IVec S4 32 := broadcastInDim S4 ![] bcast_S_S4 main_c_1
  let main_v6 : IVec S4 1 := cmpi .sge main_arg0 main_v5
  let main_c_2 : IVec S_ 32 := constantI S_ 32 68#32
  let main_v7 : IVec S4 32 := broadcastInDim S4 ![] bcast_S_S4 main_c_2
  let main_v8 : IVec S4 1 := cmpi .slt main_arg0 main_v7
  let main_v9 : IVec S4 1 := andi main_v6 main_v8
  (main_v4, main_v9)
-- ==== Kernel.lean ====
abbrev S4 : Shape := ⟨1, ![4]⟩
abbrev S34816 : Shape := ⟨1, ![34816]⟩
abbrev S32768x1152 : Shape := ⟨2, ![32768, 1152]⟩
abbrev S1x1024 : Shape := ⟨2, ![1, 1024]⟩
abbrev S1x32x1024x256 : Shape := ⟨4, ![1, 32, 1024, 256]⟩
abbrev S1x32x256x1024 : Shape := ⟨4, ![1, 32, 256, 1024]⟩
abbrev S_ : Shape := ⟨0, ![]⟩
abbrev S68 : Shape := ⟨1, ![68]⟩
abbrev S1 : Shape := ⟨1, ![1]⟩
abbrev S68x1x512 : Shape := ⟨3, ![68, 1, 512]⟩
abbrev S1024 : Shape := ⟨1, ![1024]⟩
abbrev S32x1024x256 : Shape := ⟨3, ![32, 1024, 256]⟩
abbrev S4x8x1024x256 : Shape := ⟨4, ![4, 8, 1024, 256]⟩
abbrev S32x256x1024 : Shape := ⟨3, ![32, 256, 1024]⟩
abbrev S4x8x256x1024 : Shape := ⟨4, ![4, 8, 256, 1024]⟩
abbrev S278528x128 : Shape := ⟨2, ![278528, 128]⟩
abbrev S1x1x512 : Shape := ⟨3, ![1, 1, 512]⟩
abbrev S1x8x1024x256 : Shape := ⟨4, ![1, 8, 1024, 256]⟩
abbrev S1x8x256x1024 : Shape := ⟨4, ![1, 8, 256, 1024]⟩
abbrev S4096x128 : Shape := ⟨2, ![4096, 128]⟩
abbrev S2x512x1152 : Shape := ⟨3, ![2, 512, 1152]⟩
abbrev S2 : Shape := ⟨1, ![2]⟩
abbrev S512x1024 : Shape := ⟨2, ![512, 1024]⟩
abbrev S512x128 : Shape := ⟨2, ![512, 128]⟩
abbrev S1x1x1 : Shape := ⟨3, ![1, 1, 1]⟩
abbrev S1x1x1152 : Shape := ⟨3, ![1, 1, 1152]⟩
abbrev S1x1152 : Shape := ⟨2, ![1, 1152]⟩
abbrev S1x128 : Shape := ⟨2, ![1, 128]⟩
abbrev S1x512x1024 : Shape := ⟨3, ![1, 512, 1024]⟩
abbrev S512 : Shape := ⟨1, ![512]⟩
abbrev S512x1 : Shape := ⟨2, ![512, 1]⟩
abbrev S1x512x128 : Shape := ⟨3, ![1, 512, 128]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 51
  | .vmem => 12
  | .smem => 6
  | _ => 0

abbrev bufTy : (tb : Table) → Fin (tcTables nBuf tb) → BufTy
  | .hbm, ⟨0, _⟩ => ⟨S4, .i32⟩
  | .hbm, ⟨1, _⟩ => ⟨S34816, .i32⟩
  | .hbm, ⟨2, _⟩ => ⟨S32768x1152, .f32⟩
  | .hbm, ⟨3, _⟩ => ⟨S1x1024, .f32⟩
  | .hbm, ⟨4, _⟩ => ⟨S1x32x1024x256, .f32⟩
  | .hbm, ⟨5, _⟩ => ⟨S1x32x1024x256, .f32⟩
  | .hbm, ⟨6, _⟩ => ⟨S1x32x256x1024, .f32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S68, .i32⟩
  | .hbm, ⟨11, _⟩ => ⟨S_, .i32⟩
  | .hbm, ⟨12, _⟩ => ⟨S68, .i32⟩
  | .hbm, ⟨13, _⟩ => ⟨S68, .i32⟩
  | .hbm, ⟨14, _⟩ => ⟨S1, .i32⟩
  | .hbm, ⟨15, _⟩ => ⟨S_, .i32⟩
  | .hbm, ⟨16, _⟩ => ⟨S68, .i32⟩
  | .hbm, ⟨17, _⟩ => ⟨S68, .i1⟩
  | .hbm, ⟨18, _⟩ => ⟨S68, .i32⟩
  | .hbm, ⟨19, _⟩ => ⟨S_, .i32⟩
  | .hbm, ⟨20, _⟩ => ⟨S68, .i32⟩
  | .hbm, ⟨21, _⟩ => ⟨S68, .i32⟩
  | .hbm, ⟨22, _⟩ => ⟨S1, .i32⟩
  | .hbm, ⟨23, _⟩ => ⟨S_, .i32⟩
  | .hbm, ⟨24, _⟩ => ⟨S68, .i32⟩
  | .hbm, ⟨25, _⟩ => ⟨S68, .i1⟩
  | .hbm, ⟨26, _⟩ => ⟨S68, .i32⟩
  | .hbm, ⟨27, _⟩ => ⟨S68, .i32⟩
  | .hbm, ⟨28, _⟩ => ⟨S1, .i32⟩
  | .hbm, ⟨29, _⟩ => ⟨S_, .i32⟩
  | .hbm, ⟨30, _⟩ => ⟨S68, .i32⟩
  | .hbm, ⟨31, _⟩ => ⟨S68, .i1⟩
  | .hbm, ⟨32, _⟩ => ⟨S68, .i32⟩
  | .hbm, ⟨33, _⟩ => ⟨S1, .i32⟩
  | .hbm, ⟨34, _⟩ => ⟨S_, .i32⟩
  | .hbm, ⟨35, _⟩ => ⟨S68, .i32⟩
  | .hbm, ⟨36, _⟩ => ⟨S68, .i1⟩
  | .hbm, ⟨37, _⟩ => ⟨S68x1x512, .i32⟩
  | .hbm, ⟨38, _⟩ => ⟨S68x1x512, .i32⟩
  | .hbm, ⟨39, _⟩ => ⟨S1024, .f32⟩
  | .hbm, ⟨40, _⟩ => ⟨S1x1024, .f32⟩
  | .hbm, ⟨41, _⟩ => ⟨S32x1024x256, .f32⟩
  | .hbm, ⟨42, _⟩ => ⟨S32x1024x256, .bf16⟩
  | .hbm, ⟨43, _⟩ => ⟨S4x8x1024x256, .bf16⟩
  | .hbm, ⟨44, _⟩ => ⟨S32x1024x256, .f32⟩
  | .hbm, ⟨45, _⟩ => ⟨S32x1024x256, .bf16⟩
  | .hbm, ⟨46, _⟩ => ⟨S4x8x1024x256, .bf16⟩
  | .hbm, ⟨47, _⟩ => ⟨S32x256x1024, .f32⟩
  | .hbm, ⟨48, _⟩ => ⟨S32x256x1024, .bf16⟩
  | .hbm, ⟨49, _⟩ => ⟨S4x8x256x1024, .bf16⟩
  | .hbm, ⟨50, _⟩ => ⟨S278528x128, .f32⟩
  | .local _ .vmem, ⟨0, _⟩ => ⟨S1x1024, .f32⟩
  | .local _ .vmem, ⟨1, _⟩ => ⟨S1x8x1024x256, .bf16⟩
  | .local _ .vmem, ⟨2, _⟩ => ⟨S1x8x1024x256, .bf16⟩
  | .local _ .vmem, ⟨3, _⟩ => ⟨S1x8x1024x256, .bf16⟩
  | .local _ .vmem, ⟨4, _⟩ => ⟨S1x8x1024x256, .bf16⟩
  | .local _ .vmem, ⟨5, _⟩ => ⟨S1x8x256x1024, .bf16⟩
  | .local _ .vmem, ⟨6, _⟩ => ⟨S1x8x256x1024, .bf16⟩
  | .local _ .vmem, ⟨7, _⟩ => ⟨S4096x128, .f32⟩
  | .local _ .vmem, ⟨8, _⟩ => ⟨S4096x128, .f32⟩
  | .local _ .vmem, ⟨9, _⟩ => ⟨S2x512x1152, .f32⟩
  | .local _ .vmem, ⟨10, _⟩ => ⟨S512x1024, .bf16⟩
  | .local _ .vmem, ⟨11, _⟩ => ⟨S512x128, .f32⟩
  | .local _ .smem, ⟨0, _⟩ => ⟨S68, .i32⟩
  | .local _ .smem, ⟨1, _⟩ => ⟨S68, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨2, _⟩ => true
  | .smem, ⟨3, _⟩ => true
  | .smem, ⟨4, _⟩ => true
  | .smem, ⟨5, _⟩ => true
  | _, _ => false

abbrev semScoped : Fin 1 → Bool
  | ⟨0, _⟩ => true
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 1 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v23 : Ref sig .tc := ⟨.smem, 0, rfl⟩
abbrev main_v28 : Ref sig .tc := ⟨.smem, 1, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_v23.idx, main_v28.idx], fun | 0 => main_v23.names | 1 => main_v28.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_14 : BitVec 32 := 0#32
  let c512_i32 : BitVec 32 := 512#32
  let v32 : BitVec 32 := Scalar.addi c0_i32_14 c512_i32
  let c1_i32_15 : BitVec 32 := 1#32
  ⟨c0_i32_14, v32, c1_i32_15⟩
def k0_off2 (k0_t1 : Fin k0_t1_loop.trips) : Fin 3 → Nat :=
  let c0 : Index := 0#32
  let c0_17 : Index := 0#32
  let c0_i32_14 : BitVec 32 := 0#32
  let c1_i32_15 : BitVec 32 := 1#32
  let arg16 : BitVec 32 := Scf.iv c0_i32_14 c1_i32_15 k0_t1
  let v33 : Index := Scalar.indexCast arg16
  ![0, 0, v33.toNat]
def k0_off3 (k0_t1 : Fin k0_t1_loop.trips) : Fin 3 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c0_i32_20 : BitVec 32 := 0#32
  ![0, arg16.toNat, 0]
def k0_off4 (v34 : BitVec 32) : Fin 2 → Nat :=
  let c0_i32_21 : BitVec 32 := 0#32
  ![v34.toNat, 0]

def k0_chk1 (i : grid0.Coords) (v34 : BitVec 32) : Prop :=
  (∀ (k0_h1 : k0_cond1 i = 1#1), ∀ a, (k0_off4 v34) a + S1x1152.size a ≤ S32768x1152.size a)
theorem k0_off4_inb : ∀ (i : grid0.Coords) (v34 : BitVec 32) (k0_hw1 : k0_chk1 i v34), ∀ (k0_h1 : k0_cond1 i = 1#1), ∀ a, (k0_off4 v34) a + S1x1152.size a ≤ S32768x1152.size a := fun i v34 k0_hw1 k0_h1 => k0_hw1 k0_h1

def k0_off5 (i : grid0.Coords) : Fin 1 → Nat :=
  let arg0 : BitVec 32 := BitVec.ofNat 32 (i 0).val
  let c1_i32_6 : BitVec 32 := 1#32
  let v14 : BitVec 32 := Scalar.subi arg0 c1_i32_6
  let c0_i32_7 : BitVec 32 := 0#32
  let v15 : BitVec 32 := Scalar.maxsi v14 c0_i32_7
  let v16 : Index := Scalar.indexCast v15
  ![v16.toNat]
@[reducible] def k0_t2_loop : Scf.Loop 32 :=
  let c0_i32_14 : BitVec 32 := 0#32
  let c512_i32 : BitVec 32 := 512#32
  let v32 : BitVec 32 := Scalar.addi c0_i32_14 c512_i32
  let c1_i32_15 : BitVec 32 := 1#32
  ⟨c0_i32_14, v32, c1_i32_15⟩
def k0_off6 (k0_t2 : Fin k0_t2_loop.trips) : Fin 3 → Nat :=
  let c0 : Index := 0#32
  let c0_17 : Index := 0#32
  let c0_i32_14 : BitVec 32 := 0#32
  let c1_i32_15 : BitVec 32 := 1#32
  let arg16 : BitVec 32 := Scf.iv c0_i32_14 c1_i32_15 k0_t2
  let v33 : Index := Scalar.indexCast arg16
  ![0, 0, v33.toNat]
def k0_off7 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off8 (i : grid0.Coords) (k0_t2 : Fin k0_t2_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg16 : BitVec 32 := Scf.iv c0_i32_14 c1_i32_15 k0_t2
  let c0_i32_18 : BitVec 32 := 0#32
  ![v9.toNat, arg16.toNat, 0]
def k0_off9 (v34 : BitVec 32) : Fin 2 → Nat :=
  let c0_i32_19 : BitVec 32 := 0#32
  ![v34.toNat, 0]
def k0_cond2 (i : grid0.Coords) (v17 : BitVec 32) : BitVec 1 :=
  let arg0 : BitVec 32 := BitVec.ofNat 32 (i 0).val
  let c0_i32_5 : BitVec 32 := 0#32
  let v13 : BitVec 1 := Scalar.cmpi .eq arg0 c0_i32_5
  let c1_i32_8 : BitVec 32 := 1#32
  let v18 : BitVec 1 := Scalar.cmpi .eq v17 c1_i32_8
  let v19 : BitVec 1 := Scalar.ori v13 v18
  let v20 : BitVec 32 := Scalar.extui v19
  let c0_i32_9 : BitVec 32 := 0#32
  let v21 : BitVec 1 := Scalar.cmpi .ne v20 c0_i32_9
  v21

def k0_chk2 (i : grid0.Coords) (v17 : BitVec 32) (v34 : BitVec 32) : Prop :=
  (∀ (k0_h2 : k0_cond2 i v17 = 1#1), ∀ a, (k0_off9 v34) a + S1x1152.size a ≤ S32768x1152.size a)
theorem k0_off9_inb : ∀ (i : grid0.Coords) (v17 : BitVec 32) (v34 : BitVec 32) (k0_hw2 : k0_chk2 i v17 v34), ∀ (k0_h2 : k0_cond2 i v17 = 1#1), ∀ a, (k0_off9 v34) a + S1x1152.size a ≤ S32768x1152.size a := fun i v17 v34 k0_hw2 k0_h2 => k0_hw2 k0_h2

def k0_off10 (i : grid0.Coords) : Fin 1 → Nat :=
  let arg0 : BitVec 32 := BitVec.ofNat 32 (i 0).val
  let v22 : Index := Scalar.indexCast arg0
  ![v22.toNat]
def k0_off11 (i : grid0.Coords) : Fin 1 → Nat :=
  let arg0 : BitVec 32 := BitVec.ofNat 32 (i 0).val
  let v27 : Index := Scalar.indexCast arg0
  ![v27.toNat]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0 : Index := 0#32
  let c0_14 : Index := 0#32
  ![v33.toNat, 0, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : Index := Scalar.indexCast v9
  let c0_21 : Index := 0#32
  let c1024 : Index := 1024#32
  ![v54.toNat, 0, 1024]
def k0_off14 (i : grid0.Coords) : Fin 1 → Nat :=
  let arg0 : BitVec 32 := BitVec.ofNat 32 (i 0).val
  let v60 : Index := Scalar.indexCast arg0
  ![v60.toNat]
@[reducible] def k0_t3_loop : Scf.Loop 32 :=
  let c0_i32_48 : BitVec 32 := 0#32
  let c37_i32 : BitVec 32 := 37#32
  let v93 : BitVec 32 := Scalar.addi c0_i32_48 c37_i32
  let c1_i32_49 : BitVec 32 := 1#32
  ⟨c0_i32_48, v93, c1_i32_49⟩
def k0_off15 (k0_t3 : Fin k0_t3_loop.trips) : Fin 3 → Nat :=
  let c0_238 : Index := 0#32
  let c0_239 : Index := 0#32
  let c0_i32_235 : BitVec 32 := 0#32
  let c2_i32_234 : BitVec 32 := 2#32
  let c0_i32_48 : BitVec 32 := 0#32
  let c1_i32_49 : BitVec 32 := 1#32
  let arg16 : BitVec 32 := Scf.iv c0_i32_48 c1_i32_49 k0_t3
  let v316 : BitVec 32 := Scalar.muli c2_i32_234 arg16
  let v317 : BitVec 32 := Scalar.addi c0_i32_235 v316
  let c0_i32_236 : BitVec 32 := 0#32
  let v318 : BitVec 32 := Scalar.addi v317 c0_i32_236
  let v320 : Index := Scalar.indexCast v318
  ![0, 0, v320.toNat]
def k0_off16 (i : grid0.Coords) : Fin 1 → Nat :=
  let c1_i32_237 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_237 v9
  ![v319.toNat]
def k0_off17 (i : grid0.Coords) (k0_t3 : Fin k0_t3_loop.trips) : Fin 3 → Nat :=
  let c1_i32_237 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_237 v9
  let c0_i32_235 : BitVec 32 := 0#32
  let c2_i32_234 : BitVec 32 := 2#32
  let c0_i32_48 : BitVec 32 := 0#32
  let c1_i32_49 : BitVec 32 := 1#32
  let arg16 : BitVec 32 := Scf.iv c0_i32_48 c1_i32_49 k0_t3
  let v316 : BitVec 32 := Scalar.muli c2_i32_234 arg16
  let v317 : BitVec 32 := Scalar.addi c0_i32_235 v316
  let c0_i32_236 : BitVec 32 := 0#32
  let v318 : BitVec 32 := Scalar.addi v317 c0_i32_236
  let c0_i32_240 : BitVec 32 := 0#32
  ![v319.toNat, v318.toNat, 0]
def k0_off18 (v321 : BitVec 32) : Fin 2 → Nat :=
  let c0_i32_241 : BitVec 32 := 0#32
  ![v321.toNat, 0]
def k0_cond4 (v28 : BitVec 32) : BitVec 1 :=
  let c1_i32_12 : BitVec 32 := 1#32
  let v29 : BitVec 1 := Scalar.cmpi .eq v28 c1_i32_12
  let v30 : BitVec 32 := Scalar.extui v29
  let c0_i32_13 : BitVec 32 := 0#32
  let v31 : BitVec 1 := Scalar.cmpi .ne v30 c0_i32_13
  v31

def k0_chk3 (v28 : BitVec 32) (v321 : BitVec 32) : Prop :=
  (∀ (k0_h4 : k0_cond4 v28 = 1#1), ∀ a, (k0_off18 v321) a + S1x1152.size a ≤ S32768x1152.size a)
theorem k0_off18_inb : ∀ (v28 : BitVec 32) (v321 : BitVec 32) (k0_hw3 : k0_chk3 v28 v321), ∀ (k0_h4 : k0_cond4 v28 = 1#1), ∀ a, (k0_off18 v321) a + S1x1152.size a ≤ S32768x1152.size a := fun v28 v321 k0_hw3 k0_h4 => k0_hw3 k0_h4

def k0_off19 (k0_t3 : Fin k0_t3_loop.trips) : Fin 3 → Nat :=
  let c0_246 : Index := 0#32
  let c0_247 : Index := 0#32
  let c0_i32_243 : BitVec 32 := 0#32
  let c2_i32_242 : BitVec 32 := 2#32
  let c0_i32_48 : BitVec 32 := 0#32
  let c1_i32_49 : BitVec 32 := 1#32
  let arg16 : BitVec 32 := Scf.iv c0_i32_48 c1_i32_49 k0_t3
  let v327 : BitVec 32 := Scalar.muli c2_i32_242 arg16
  let v328 : BitVec 32 := Scalar.addi c0_i32_243 v327
  let c1_i32_244 : BitVec 32 := 1#32
  let v329 : BitVec 32 := Scalar.addi v328 c1_i32_244
  let v331 : Index := Scalar.indexCast v329
  ![0, 0, v331.toNat]
def k0_off20 (i : grid0.Coords) : Fin 1 → Nat :=
  let c1_i32_245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_245 v9
  ![v330.toNat]
def k0_off21 (i : grid0.Coords) (k0_t3 : Fin k0_t3_loop.trips) : Fin 3 → Nat :=
  let c1_i32_245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_245 v9
  let c0_i32_243 : BitVec 32 := 0#32
  let c2_i32_242 : BitVec 32 := 2#32
  let c0_i32_48 : BitVec 32 := 0#32
  let c1_i32_49 : BitVec 32 := 1#32
  let arg16 : BitVec 32 := Scf.iv c0_i32_48 c1_i32_49 k0_t3
  let v327 : BitVec 32 := Scalar.muli c2_i32_242 arg16
  let v328 : BitVec 32 := Scalar.addi c0_i32_243 v327
  let c1_i32_244 : BitVec 32 := 1#32
  let v329 : BitVec 32 := Scalar.addi v328 c1_i32_244
  let c0_i32_248 : BitVec 32 := 0#32
  ![v330.toNat, v329.toNat, 0]
def k0_off22 (v332 : BitVec 32) : Fin 2 → Nat :=
  let c0_i32_249 : BitVec 32 := 0#32
  ![v332.toNat, 0]

def k0_chk4 (v28 : BitVec 32) (v332 : BitVec 32) : Prop :=
  (∀ (k0_h4 : k0_cond4 v28 = 1#1), ∀ a, (k0_off22 v332) a + S1x1152.size a ≤ S32768x1152.size a)
theorem k0_off22_inb : ∀ (v28 : BitVec 32) (v332 : BitVec 32) (k0_hw4 : k0_chk4 v28 v332), ∀ (k0_h4 : k0_cond4 v28 = 1#1), ∀ a, (k0_off22 v332) a + S1x1152.size a ≤ S32768x1152.size a := fun v28 v332 k0_hw4 k0_h4 => k0_hw4 k0_h4

@[reducible] def k0_t4_loop : Scf.Loop 32 :=
  let c0_i32_73 : BitVec 32 := 0#32
  let c37_i32_74 : BitVec 32 := 37#32
  let v122 : BitVec 32 := Scalar.addi c0_i32_73 c37_i32_74
  let c1_i32_75 : BitVec 32 := 1#32
  ⟨c0_i32_73, v122, c1_i32_75⟩
def k0_off23 (k0_t4 : Fin k0_t4_loop.trips) : Fin 3 → Nat :=
  let c0_237 : Index := 0#32
  let c0_238 : Index := 0#32
  let c74_i32 : BitVec 32 := 74#32
  let c2_i32_234 : BitVec 32 := 2#32
  let c0_i32_73 : BitVec 32 := 0#32
  let c1_i32_75 : BitVec 32 := 1#32
  let arg16 : BitVec 32 := Scf.iv c0_i32_73 c1_i32_75 k0_t4
  let v316 : BitVec 32 := Scalar.muli c2_i32_234 arg16
  let v317 : BitVec 32 := Scalar.addi c74_i32 v316
  let c0_i32_235 : BitVec 32 := 0#32
  let v318 : BitVec 32 := Scalar.addi v317 c0_i32_235
  let v320 : Index := Scalar.indexCast v318
  ![0, 0, v320.toNat]
def k0_off24 (i : grid0.Coords) : Fin 1 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  ![v319.toNat]
def k0_off25 (i : grid0.Coords) (k0_t4 : Fin k0_t4_loop.trips) : Fin 3 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  let c74_i32 : BitVec 32 := 74#32
  let c2_i32_234 : BitVec 32 := 2#32
  let c0_i32_73 : BitVec 32 := 0#32
  let c1_i32_75 : BitVec 32 := 1#32
  let arg16 : BitVec 32 := Scf.iv c0_i32_73 c1_i32_75 k0_t4
  let v316 : BitVec 32 := Scalar.muli c2_i32_234 arg16
  let v317 : BitVec 32 := Scalar.addi c74_i32 v316
  let c0_i32_235 : BitVec 32 := 0#32
  let v318 : BitVec 32 := Scalar.addi v317 c0_i32_235
  let c0_i32_239 : BitVec 32 := 0#32
  ![v319.toNat, v318.toNat, 0]
def k0_off26 (v321 : BitVec 32) : Fin 2 → Nat :=
  let c0_i32_240 : BitVec 32 := 0#32
  ![v321.toNat, 0]

def k0_chk5 (v28 : BitVec 32) (v321 : BitVec 32) : Prop :=
  (∀ (k0_h4 : k0_cond4 v28 = 1#1), ∀ a, (k0_off26 v321) a + S1x1152.size a ≤ S32768x1152.size a)
theorem k0_off26_inb : ∀ (v28 : BitVec 32) (v321 : BitVec 32) (k0_hw5 : k0_chk5 v28 v321), ∀ (k0_h4 : k0_cond4 v28 = 1#1), ∀ a, (k0_off26 v321) a + S1x1152.size a ≤ S32768x1152.size a := fun v28 v321 k0_hw5 k0_h4 => k0_hw5 k0_h4

def k0_off27 (k0_t4 : Fin k0_t4_loop.trips) : Fin 3 → Nat :=
  let c0_245 : Index := 0#32
  let c0_246 : Index := 0#32
  let c74_i32_242 : BitVec 32 := 74#32
  let c2_i32_241 : BitVec 32 := 2#32
  let c0_i32_73 : BitVec 32 := 0#32
  let c1_i32_75 : BitVec 32 := 1#32
  let arg16 : BitVec 32 := Scf.iv c0_i32_73 c1_i32_75 k0_t4
  let v327 : BitVec 32 := Scalar.muli c2_i32_241 arg16
  let v328 : BitVec 32 := Scalar.addi c74_i32_242 v327
  let c1_i32_243 : BitVec 32 := 1#32
  let v329 : BitVec 32 := Scalar.addi v328 c1_i32_243
  let v331 : Index := Scalar.indexCast v329
  ![0, 0, v331.toNat]
def k0_off28 (i : grid0.Coords) : Fin 1 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  ![v330.toNat]
def k0_off29 (i : grid0.Coords) (k0_t4 : Fin k0_t4_loop.trips) : Fin 3 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  let c74_i32_242 : BitVec 32 := 74#32
  let c2_i32_241 : BitVec 32 := 2#32
  let c0_i32_73 : BitVec 32 := 0#32
  let c1_i32_75 : BitVec 32 := 1#32
  let arg16 : BitVec 32 := Scf.iv c0_i32_73 c1_i32_75 k0_t4
  let v327 : BitVec 32 := Scalar.muli c2_i32_241 arg16
  let v328 : BitVec 32 := Scalar.addi c74_i32_242 v327
  let c1_i32_243 : BitVec 32 := 1#32
  let v329 : BitVec 32 := Scalar.addi v328 c1_i32_243
  let c0_i32_247 : BitVec 32 := 0#32
  ![v330.toNat, v329.toNat, 0]
def k0_off30 (v332 : BitVec 32) : Fin 2 → Nat :=
  let c0_i32_248 : BitVec 32 := 0#32
  ![v332.toNat, 0]

def k0_chk6 (v28 : BitVec 32) (v332 : BitVec 32) : Prop :=
  (∀ (k0_h4 : k0_cond4 v28 = 1#1), ∀ a, (k0_off30 v332) a + S1x1152.size a ≤ S32768x1152.size a)
theorem k0_off30_inb : ∀ (v28 : BitVec 32) (v332 : BitVec 32) (k0_hw6 : k0_chk6 v28 v332), ∀ (k0_h4 : k0_cond4 v28 = 1#1), ∀ a, (k0_off30 v332) a + S1x1152.size a ≤ S32768x1152.size a := fun v28 v332 k0_hw6 k0_h4 => k0_hw6 k0_h4

@[reducible] def k0_t5_loop : Scf.Loop 32 :=
  let c0_i32_98 : BitVec 32 := 0#32
  let c37_i32_99 : BitVec 32 := 37#32
  let v152 : BitVec 32 := Scalar.addi c0_i32_98 c37_i32_99
  let c1_i32_100 : BitVec 32 := 1#32
  ⟨c0_i32_98, v152, c1_i32_100⟩
def k0_off31 (k0_t5 : Fin k0_t5_loop.trips) : Fin 3 → Nat :=
  let c0_237 : Index := 0#32
  let c0_238 : Index := 0#32
  let c148_i32 : BitVec 32 := 148#32
  let c2_i32_234 : BitVec 32 := 2#32
  let c0_i32_98 : BitVec 32 := 0#32
  let c1_i32_100 : BitVec 32 := 1#32
  let arg16 : BitVec 32 := Scf.iv c0_i32_98 c1_i32_100 k0_t5
  let v316 : BitVec 32 := Scalar.muli c2_i32_234 arg16
  let v317 : BitVec 32 := Scalar.addi c148_i32 v316
  let c0_i32_235 : BitVec 32 := 0#32
  let v318 : BitVec 32 := Scalar.addi v317 c0_i32_235
  let v320 : Index := Scalar.indexCast v318
  ![0, 0, v320.toNat]
def k0_off32 (i : grid0.Coords) : Fin 1 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  ![v319.toNat]
def k0_off33 (i : grid0.Coords) (k0_t5 : Fin k0_t5_loop.trips) : Fin 3 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  let c148_i32 : BitVec 32 := 148#32
  let c2_i32_234 : BitVec 32 := 2#32
  let c0_i32_98 : BitVec 32 := 0#32
  let c1_i32_100 : BitVec 32 := 1#32
  let arg16 : BitVec 32 := Scf.iv c0_i32_98 c1_i32_100 k0_t5
  let v316 : BitVec 32 := Scalar.muli c2_i32_234 arg16
  let v317 : BitVec 32 := Scalar.addi c148_i32 v316
  let c0_i32_235 : BitVec 32 := 0#32
  let v318 : BitVec 32 := Scalar.addi v317 c0_i32_235
  let c0_i32_239 : BitVec 32 := 0#32
  ![v319.toNat, v318.toNat, 0]
def k0_off34 (v321 : BitVec 32) : Fin 2 → Nat :=
  let c0_i32_240 : BitVec 32 := 0#32
  ![v321.toNat, 0]

def k0_chk7 (v28 : BitVec 32) (v321 : BitVec 32) : Prop :=
  (∀ (k0_h4 : k0_cond4 v28 = 1#1), ∀ a, (k0_off34 v321) a + S1x1152.size a ≤ S32768x1152.size a)
theorem k0_off34_inb : ∀ (v28 : BitVec 32) (v321 : BitVec 32) (k0_hw7 : k0_chk7 v28 v321), ∀ (k0_h4 : k0_cond4 v28 = 1#1), ∀ a, (k0_off34 v321) a + S1x1152.size a ≤ S32768x1152.size a := fun v28 v321 k0_hw7 k0_h4 => k0_hw7 k0_h4

def k0_off35 (k0_t5 : Fin k0_t5_loop.trips) : Fin 3 → Nat :=
  let c0_245 : Index := 0#32
  let c0_246 : Index := 0#32
  let c148_i32_242 : BitVec 32 := 148#32
  let c2_i32_241 : BitVec 32 := 2#32
  let c0_i32_98 : BitVec 32 := 0#32
  let c1_i32_100 : BitVec 32 := 1#32
  let arg16 : BitVec 32 := Scf.iv c0_i32_98 c1_i32_100 k0_t5
  let v327 : BitVec 32 := Scalar.muli c2_i32_241 arg16
  let v328 : BitVec 32 := Scalar.addi c148_i32_242 v327
  let c1_i32_243 : BitVec 32 := 1#32
  let v329 : BitVec 32 := Scalar.addi v328 c1_i32_243
  let v331 : Index := Scalar.indexCast v329
  ![0, 0, v331.toNat]
def k0_off36 (i : grid0.Coords) : Fin 1 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  ![v330.toNat]
def k0_off37 (i : grid0.Coords) (k0_t5 : Fin k0_t5_loop.trips) : Fin 3 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  let c148_i32_242 : BitVec 32 := 148#32
  let c2_i32_241 : BitVec 32 := 2#32
  let c0_i32_98 : BitVec 32 := 0#32
  let c1_i32_100 : BitVec 32 := 1#32
  let arg16 : BitVec 32 := Scf.iv c0_i32_98 c1_i32_100 k0_t5
  let v327 : BitVec 32 := Scalar.muli c2_i32_241 arg16
  let v328 : BitVec 32 := Scalar.addi c148_i32_242 v327
  let c1_i32_243 : BitVec 32 := 1#32
  let v329 : BitVec 32 := Scalar.addi v328 c1_i32_243
  let c0_i32_247 : BitVec 32 := 0#32
  ![v330.toNat, v329.toNat, 0]
def k0_off38 (v332 : BitVec 32) : Fin 2 → Nat :=
  let c0_i32_248 : BitVec 32 := 0#32
  ![v332.toNat, 0]

def k0_chk8 (v28 : BitVec 32) (v332 : BitVec 32) : Prop :=
  (∀ (k0_h4 : k0_cond4 v28 = 1#1), ∀ a, (k0_off38 v332) a + S1x1152.size a ≤ S32768x1152.size a)
theorem k0_off38_inb : ∀ (v28 : BitVec 32) (v332 : BitVec 32) (k0_hw8 : k0_chk8 v28 v332), ∀ (k0_h4 : k0_cond4 v28 = 1#1), ∀ a, (k0_off38 v332) a + S1x1152.size a ≤ S32768x1152.size a := fun v28 v332 k0_hw8 k0_h4 => k0_hw8 k0_h4

@[reducible] def k0_t6_loop : Scf.Loop 32 :=
  let c0_i32_122 : BitVec 32 := 0#32
  let c37_i32_123 : BitVec 32 := 37#32
  let v181 : BitVec 32 := Scalar.addi c0_i32_122 c37_i32_123
  let c1_i32_124 : BitVec 32 := 1#32
  ⟨c0_i32_122, v181, c1_i32_124⟩
def k0_off39 (k0_t6 : Fin k0_t6_loop.trips) : Fin 3 → Nat :=
  let c0_237 : Index := 0#32
  let c0_238 : Index := 0#32
  let c222_i32 : BitVec 32 := 222#32
  let c2_i32_234 : BitVec 32 := 2#32
  let c0_i32_122 : BitVec 32 := 0#32
  let c1_i32_124 : BitVec 32 := 1#32
  let arg16 : BitVec 32 := Scf.iv c0_i32_122 c1_i32_124 k0_t6
  let v316 : BitVec 32 := Scalar.muli c2_i32_234 arg16
  let v317 : BitVec 32 := Scalar.addi c222_i32 v316
  let c0_i32_235 : BitVec 32 := 0#32
  let v318 : BitVec 32 := Scalar.addi v317 c0_i32_235
  let v320 : Index := Scalar.indexCast v318
  ![0, 0, v320.toNat]
def k0_off40 (i : grid0.Coords) : Fin 1 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  ![v319.toNat]
def k0_off41 (i : grid0.Coords) (k0_t6 : Fin k0_t6_loop.trips) : Fin 3 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  let c222_i32 : BitVec 32 := 222#32
  let c2_i32_234 : BitVec 32 := 2#32
  let c0_i32_122 : BitVec 32 := 0#32
  let c1_i32_124 : BitVec 32 := 1#32
  let arg16 : BitVec 32 := Scf.iv c0_i32_122 c1_i32_124 k0_t6
  let v316 : BitVec 32 := Scalar.muli c2_i32_234 arg16
  let v317 : BitVec 32 := Scalar.addi c222_i32 v316
  let c0_i32_235 : BitVec 32 := 0#32
  let v318 : BitVec 32 := Scalar.addi v317 c0_i32_235
  let c0_i32_239 : BitVec 32 := 0#32
  ![v319.toNat, v318.toNat, 0]
def k0_off42 (v321 : BitVec 32) : Fin 2 → Nat :=
  let c0_i32_240 : BitVec 32 := 0#32
  ![v321.toNat, 0]

def k0_chk9 (v28 : BitVec 32) (v321 : BitVec 32) : Prop :=
  (∀ (k0_h4 : k0_cond4 v28 = 1#1), ∀ a, (k0_off42 v321) a + S1x1152.size a ≤ S32768x1152.size a)
theorem k0_off42_inb : ∀ (v28 : BitVec 32) (v321 : BitVec 32) (k0_hw9 : k0_chk9 v28 v321), ∀ (k0_h4 : k0_cond4 v28 = 1#1), ∀ a, (k0_off42 v321) a + S1x1152.size a ≤ S32768x1152.size a := fun v28 v321 k0_hw9 k0_h4 => k0_hw9 k0_h4

def k0_off43 (k0_t6 : Fin k0_t6_loop.trips) : Fin 3 → Nat :=
  let c0_245 : Index := 0#32
  let c0_246 : Index := 0#32
  let c222_i32_242 : BitVec 32 := 222#32
  let c2_i32_241 : BitVec 32 := 2#32
  let c0_i32_122 : BitVec 32 := 0#32
  let c1_i32_124 : BitVec 32 := 1#32
  let arg16 : BitVec 32 := Scf.iv c0_i32_122 c1_i32_124 k0_t6
  let v327 : BitVec 32 := Scalar.muli c2_i32_241 arg16
  let v328 : BitVec 32 := Scalar.addi c222_i32_242 v327
  let c1_i32_243 : BitVec 32 := 1#32
  let v329 : BitVec 32 := Scalar.addi v328 c1_i32_243
  let v331 : Index := Scalar.indexCast v329
  ![0, 0, v331.toNat]
def k0_off44 (i : grid0.Coords) : Fin 1 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  ![v330.toNat]
def k0_off45 (i : grid0.Coords) (k0_t6 : Fin k0_t6_loop.trips) : Fin 3 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  let c222_i32_242 : BitVec 32 := 222#32
  let c2_i32_241 : BitVec 32 := 2#32
  let c0_i32_122 : BitVec 32 := 0#32
  let c1_i32_124 : BitVec 32 := 1#32
  let arg16 : BitVec 32 := Scf.iv c0_i32_122 c1_i32_124 k0_t6
  let v327 : BitVec 32 := Scalar.muli c2_i32_241 arg16
  let v328 : BitVec 32 := Scalar.addi c222_i32_242 v327
  let c1_i32_243 : BitVec 32 := 1#32
  let v329 : BitVec 32 := Scalar.addi v328 c1_i32_243
  let c0_i32_247 : BitVec 32 := 0#32
  ![v330.toNat, v329.toNat, 0]
def k0_off46 (v332 : BitVec 32) : Fin 2 → Nat :=
  let c0_i32_248 : BitVec 32 := 0#32
  ![v332.toNat, 0]

def k0_chk10 (v28 : BitVec 32) (v332 : BitVec 32) : Prop :=
  (∀ (k0_h4 : k0_cond4 v28 = 1#1), ∀ a, (k0_off46 v332) a + S1x1152.size a ≤ S32768x1152.size a)
theorem k0_off46_inb : ∀ (v28 : BitVec 32) (v332 : BitVec 32) (k0_hw10 : k0_chk10 v28 v332), ∀ (k0_h4 : k0_cond4 v28 = 1#1), ∀ a, (k0_off46 v332) a + S1x1152.size a ≤ S32768x1152.size a := fun v28 v332 k0_hw10 k0_h4 => k0_hw10 k0_h4

@[reducible] def k0_t7_loop : Scf.Loop 32 :=
  let c0_i32_147 : BitVec 32 := 0#32
  let c37_i32_148 : BitVec 32 := 37#32
  let v211 : BitVec 32 := Scalar.addi c0_i32_147 c37_i32_148
  let c1_i32_149 : BitVec 32 := 1#32
  ⟨c0_i32_147, v211, c1_i32_149⟩
def k0_off47 (k0_t7 : Fin k0_t7_loop.trips) : Fin 3 → Nat :=
  let c0_237 : Index := 0#32
  let c0_238 : Index := 0#32
  let c296_i32 : BitVec 32 := 296#32
  let c2_i32_234 : BitVec 32 := 2#32
  let c0_i32_147 : BitVec 32 := 0#32
  let c1_i32_149 : BitVec 32 := 1#32
  let arg16 : BitVec 32 := Scf.iv c0_i32_147 c1_i32_149 k0_t7
  let v316 : BitVec 32 := Scalar.muli c2_i32_234 arg16
  let v317 : BitVec 32 := Scalar.addi c296_i32 v316
  let c0_i32_235 : BitVec 32 := 0#32
  let v318 : BitVec 32 := Scalar.addi v317 c0_i32_235
  let v320 : Index := Scalar.indexCast v318
  ![0, 0, v320.toNat]
def k0_off48 (i : grid0.Coords) : Fin 1 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  ![v319.toNat]
def k0_off49 (i : grid0.Coords) (k0_t7 : Fin k0_t7_loop.trips) : Fin 3 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  let c296_i32 : BitVec 32 := 296#32
  let c2_i32_234 : BitVec 32 := 2#32
  let c0_i32_147 : BitVec 32 := 0#32
  let c1_i32_149 : BitVec 32 := 1#32
  let arg16 : BitVec 32 := Scf.iv c0_i32_147 c1_i32_149 k0_t7
  let v316 : BitVec 32 := Scalar.muli c2_i32_234 arg16
  let v317 : BitVec 32 := Scalar.addi c296_i32 v316
  let c0_i32_235 : BitVec 32 := 0#32
  let v318 : BitVec 32 := Scalar.addi v317 c0_i32_235
  let c0_i32_239 : BitVec 32 := 0#32
  ![v319.toNat, v318.toNat, 0]
def k0_off50 (v321 : BitVec 32) : Fin 2 → Nat :=
  let c0_i32_240 : BitVec 32 := 0#32
  ![v321.toNat, 0]

def k0_chk11 (v28 : BitVec 32) (v321 : BitVec 32) : Prop :=
  (∀ (k0_h4 : k0_cond4 v28 = 1#1), ∀ a, (k0_off50 v321) a + S1x1152.size a ≤ S32768x1152.size a)
theorem k0_off50_inb : ∀ (v28 : BitVec 32) (v321 : BitVec 32) (k0_hw11 : k0_chk11 v28 v321), ∀ (k0_h4 : k0_cond4 v28 = 1#1), ∀ a, (k0_off50 v321) a + S1x1152.size a ≤ S32768x1152.size a := fun v28 v321 k0_hw11 k0_h4 => k0_hw11 k0_h4

def k0_off51 (k0_t7 : Fin k0_t7_loop.trips) : Fin 3 → Nat :=
  let c0_245 : Index := 0#32
  let c0_246 : Index := 0#32
  let c296_i32_242 : BitVec 32 := 296#32
  let c2_i32_241 : BitVec 32 := 2#32
  let c0_i32_147 : BitVec 32 := 0#32
  let c1_i32_149 : BitVec 32 := 1#32
  let arg16 : BitVec 32 := Scf.iv c0_i32_147 c1_i32_149 k0_t7
  let v327 : BitVec 32 := Scalar.muli c2_i32_241 arg16
  let v328 : BitVec 32 := Scalar.addi c296_i32_242 v327
  let c1_i32_243 : BitVec 32 := 1#32
  let v329 : BitVec 32 := Scalar.addi v328 c1_i32_243
  let v331 : Index := Scalar.indexCast v329
  ![0, 0, v331.toNat]
def k0_off52 (i : grid0.Coords) : Fin 1 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  ![v330.toNat]
def k0_off53 (i : grid0.Coords) (k0_t7 : Fin k0_t7_loop.trips) : Fin 3 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  let c296_i32_242 : BitVec 32 := 296#32
  let c2_i32_241 : BitVec 32 := 2#32
  let c0_i32_147 : BitVec 32 := 0#32
  let c1_i32_149 : BitVec 32 := 1#32
  let arg16 : BitVec 32 := Scf.iv c0_i32_147 c1_i32_149 k0_t7
  let v327 : BitVec 32 := Scalar.muli c2_i32_241 arg16
  let v328 : BitVec 32 := Scalar.addi c296_i32_242 v327
  let c1_i32_243 : BitVec 32 := 1#32
  let v329 : BitVec 32 := Scalar.addi v328 c1_i32_243
  let c0_i32_247 : BitVec 32 := 0#32
  ![v330.toNat, v329.toNat, 0]
def k0_off54 (v332 : BitVec 32) : Fin 2 → Nat :=
  let c0_i32_248 : BitVec 32 := 0#32
  ![v332.toNat, 0]

def k0_chk12 (v28 : BitVec 32) (v332 : BitVec 32) : Prop :=
  (∀ (k0_h4 : k0_cond4 v28 = 1#1), ∀ a, (k0_off54 v332) a + S1x1152.size a ≤ S32768x1152.size a)
theorem k0_off54_inb : ∀ (v28 : BitVec 32) (v332 : BitVec 32) (k0_hw12 : k0_chk12 v28 v332), ∀ (k0_h4 : k0_cond4 v28 = 1#1), ∀ a, (k0_off54 v332) a + S1x1152.size a ≤ S32768x1152.size a := fun v28 v332 k0_hw12 k0_h4 => k0_hw12 k0_h4

@[reducible] def k0_t8_loop : Scf.Loop 32 :=
  let c0_i32_171 : BitVec 32 := 0#32
  let c37_i32_172 : BitVec 32 := 37#32
  let v240 : BitVec 32 := Scalar.addi c0_i32_171 c37_i32_172
  let c1_i32_173 : BitVec 32 := 1#32
  ⟨c0_i32_171, v240, c1_i32_173⟩
def k0_off55 (k0_t8 : Fin k0_t8_loop.trips) : Fin 3 → Nat :=
  let c0_237 : Index := 0#32
  let c0_238 : Index := 0#32
  let c370_i32 : BitVec 32 := 370#32
  let c2_i32_234 : BitVec 32 := 2#32
  let c0_i32_171 : BitVec 32 := 0#32
  let c1_i32_173 : BitVec 32 := 1#32
  let arg16 : BitVec 32 := Scf.iv c0_i32_171 c1_i32_173 k0_t8
  let v316 : BitVec 32 := Scalar.muli c2_i32_234 arg16
  let v317 : BitVec 32 := Scalar.addi c370_i32 v316
  let c0_i32_235 : BitVec 32 := 0#32
  let v318 : BitVec 32 := Scalar.addi v317 c0_i32_235
  let v320 : Index := Scalar.indexCast v318
  ![0, 0, v320.toNat]
def k0_off56 (i : grid0.Coords) : Fin 1 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  ![v319.toNat]
def k0_off57 (i : grid0.Coords) (k0_t8 : Fin k0_t8_loop.trips) : Fin 3 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  let c370_i32 : BitVec 32 := 370#32
  let c2_i32_234 : BitVec 32 := 2#32
  let c0_i32_171 : BitVec 32 := 0#32
  let c1_i32_173 : BitVec 32 := 1#32
  let arg16 : BitVec 32 := Scf.iv c0_i32_171 c1_i32_173 k0_t8
  let v316 : BitVec 32 := Scalar.muli c2_i32_234 arg16
  let v317 : BitVec 32 := Scalar.addi c370_i32 v316
  let c0_i32_235 : BitVec 32 := 0#32
  let v318 : BitVec 32 := Scalar.addi v317 c0_i32_235
  let c0_i32_239 : BitVec 32 := 0#32
  ![v319.toNat, v318.toNat, 0]
def k0_off58 (v321 : BitVec 32) : Fin 2 → Nat :=
  let c0_i32_240 : BitVec 32 := 0#32
  ![v321.toNat, 0]

def k0_chk13 (v28 : BitVec 32) (v321 : BitVec 32) : Prop :=
  (∀ (k0_h4 : k0_cond4 v28 = 1#1), ∀ a, (k0_off58 v321) a + S1x1152.size a ≤ S32768x1152.size a)
theorem k0_off58_inb : ∀ (v28 : BitVec 32) (v321 : BitVec 32) (k0_hw13 : k0_chk13 v28 v321), ∀ (k0_h4 : k0_cond4 v28 = 1#1), ∀ a, (k0_off58 v321) a + S1x1152.size a ≤ S32768x1152.size a := fun v28 v321 k0_hw13 k0_h4 => k0_hw13 k0_h4

def k0_off59 (k0_t8 : Fin k0_t8_loop.trips) : Fin 3 → Nat :=
  let c0_245 : Index := 0#32
  let c0_246 : Index := 0#32
  let c370_i32_242 : BitVec 32 := 370#32
  let c2_i32_241 : BitVec 32 := 2#32
  let c0_i32_171 : BitVec 32 := 0#32
  let c1_i32_173 : BitVec 32 := 1#32
  let arg16 : BitVec 32 := Scf.iv c0_i32_171 c1_i32_173 k0_t8
  let v327 : BitVec 32 := Scalar.muli c2_i32_241 arg16
  let v328 : BitVec 32 := Scalar.addi c370_i32_242 v327
  let c1_i32_243 : BitVec 32 := 1#32
  let v329 : BitVec 32 := Scalar.addi v328 c1_i32_243
  let v331 : Index := Scalar.indexCast v329
  ![0, 0, v331.toNat]
def k0_off60 (i : grid0.Coords) : Fin 1 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  ![v330.toNat]
def k0_off61 (i : grid0.Coords) (k0_t8 : Fin k0_t8_loop.trips) : Fin 3 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  let c370_i32_242 : BitVec 32 := 370#32
  let c2_i32_241 : BitVec 32 := 2#32
  let c0_i32_171 : BitVec 32 := 0#32
  let c1_i32_173 : BitVec 32 := 1#32
  let arg16 : BitVec 32 := Scf.iv c0_i32_171 c1_i32_173 k0_t8
  let v327 : BitVec 32 := Scalar.muli c2_i32_241 arg16
  let v328 : BitVec 32 := Scalar.addi c370_i32_242 v327
  let c1_i32_243 : BitVec 32 := 1#32
  let v329 : BitVec 32 := Scalar.addi v328 c1_i32_243
  let c0_i32_247 : BitVec 32 := 0#32
  ![v330.toNat, v329.toNat, 0]
def k0_off62 (v332 : BitVec 32) : Fin 2 → Nat :=
  let c0_i32_248 : BitVec 32 := 0#32
  ![v332.toNat, 0]

def k0_chk14 (v28 : BitVec 32) (v332 : BitVec 32) : Prop :=
  (∀ (k0_h4 : k0_cond4 v28 = 1#1), ∀ a, (k0_off62 v332) a + S1x1152.size a ≤ S32768x1152.size a)
theorem k0_off62_inb : ∀ (v28 : BitVec 32) (v332 : BitVec 32) (k0_hw14 : k0_chk14 v28 v332), ∀ (k0_h4 : k0_cond4 v28 = 1#1), ∀ a, (k0_off62 v332) a + S1x1152.size a ≤ S32768x1152.size a := fun v28 v332 k0_hw14 k0_h4 => k0_hw14 k0_h4

@[reducible] def k0_t9_loop : Scf.Loop 32 :=
  let c0_i32_195 : BitVec 32 := 0#32
  let c34_i32 : BitVec 32 := 34#32
  let v270 : BitVec 32 := Scalar.addi c0_i32_195 c34_i32
  let c1_i32_196 : BitVec 32 := 1#32
  ⟨c0_i32_195, v270, c1_i32_196⟩
def k0_off63 (k0_t9 : Fin k0_t9_loop.trips) : Fin 3 → Nat :=
  let c0_237 : Index := 0#32
  let c0_238 : Index := 0#32
  let c444_i32 : BitVec 32 := 444#32
  let c2_i32_234 : BitVec 32 := 2#32
  let c0_i32_195 : BitVec 32 := 0#32
  let c1_i32_196 : BitVec 32 := 1#32
  let arg16 : BitVec 32 := Scf.iv c0_i32_195 c1_i32_196 k0_t9
  let v316 : BitVec 32 := Scalar.muli c2_i32_234 arg16
  let v317 : BitVec 32 := Scalar.addi c444_i32 v316
  let c0_i32_235 : BitVec 32 := 0#32
  let v318 : BitVec 32 := Scalar.addi v317 c0_i32_235
  let v320 : Index := Scalar.indexCast v318
  ![0, 0, v320.toNat]
def k0_off64 (i : grid0.Coords) : Fin 1 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  ![v319.toNat]
def k0_off65 (i : grid0.Coords) (k0_t9 : Fin k0_t9_loop.trips) : Fin 3 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_236 v9
  let c444_i32 : BitVec 32 := 444#32
  let c2_i32_234 : BitVec 32 := 2#32
  let c0_i32_195 : BitVec 32 := 0#32
  let c1_i32_196 : BitVec 32 := 1#32
  let arg16 : BitVec 32 := Scf.iv c0_i32_195 c1_i32_196 k0_t9
  let v316 : BitVec 32 := Scalar.muli c2_i32_234 arg16
  let v317 : BitVec 32 := Scalar.addi c444_i32 v316
  let c0_i32_235 : BitVec 32 := 0#32
  let v318 : BitVec 32 := Scalar.addi v317 c0_i32_235
  let c0_i32_239 : BitVec 32 := 0#32
  ![v319.toNat, v318.toNat, 0]
def k0_off66 (v321 : BitVec 32) : Fin 2 → Nat :=
  let c0_i32_240 : BitVec 32 := 0#32
  ![v321.toNat, 0]

def k0_chk15 (v28 : BitVec 32) (v321 : BitVec 32) : Prop :=
  (∀ (k0_h4 : k0_cond4 v28 = 1#1), ∀ a, (k0_off66 v321) a + S1x1152.size a ≤ S32768x1152.size a)
theorem k0_off66_inb : ∀ (v28 : BitVec 32) (v321 : BitVec 32) (k0_hw15 : k0_chk15 v28 v321), ∀ (k0_h4 : k0_cond4 v28 = 1#1), ∀ a, (k0_off66 v321) a + S1x1152.size a ≤ S32768x1152.size a := fun v28 v321 k0_hw15 k0_h4 => k0_hw15 k0_h4

def k0_off67 (k0_t9 : Fin k0_t9_loop.trips) : Fin 3 → Nat :=
  let c0_245 : Index := 0#32
  let c0_246 : Index := 0#32
  let c444_i32_242 : BitVec 32 := 444#32
  let c2_i32_241 : BitVec 32 := 2#32
  let c0_i32_195 : BitVec 32 := 0#32
  let c1_i32_196 : BitVec 32 := 1#32
  let arg16 : BitVec 32 := Scf.iv c0_i32_195 c1_i32_196 k0_t9
  let v327 : BitVec 32 := Scalar.muli c2_i32_241 arg16
  let v328 : BitVec 32 := Scalar.addi c444_i32_242 v327
  let c1_i32_243 : BitVec 32 := 1#32
  let v329 : BitVec 32 := Scalar.addi v328 c1_i32_243
  let v331 : Index := Scalar.indexCast v329
  ![0, 0, v331.toNat]
def k0_off68 (i : grid0.Coords) : Fin 1 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  ![v330.toNat]
def k0_off69 (i : grid0.Coords) (k0_t9 : Fin k0_t9_loop.trips) : Fin 3 → Nat :=
  let c1_i32_244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v330 : BitVec 32 := Scalar.subi c1_i32_244 v9
  let c444_i32_242 : BitVec 32 := 444#32
  let c2_i32_241 : BitVec 32 := 2#32
  let c0_i32_195 : BitVec 32 := 0#32
  let c1_i32_196 : BitVec 32 := 1#32
  let arg16 : BitVec 32 := Scf.iv c0_i32_195 c1_i32_196 k0_t9
  let v327 : BitVec 32 := Scalar.muli c2_i32_241 arg16
  let v328 : BitVec 32 := Scalar.addi c444_i32_242 v327
  let c1_i32_243 : BitVec 32 := 1#32
  let v329 : BitVec 32 := Scalar.addi v328 c1_i32_243
  let c0_i32_247 : BitVec 32 := 0#32
  ![v330.toNat, v329.toNat, 0]
def k0_off70 (v332 : BitVec 32) : Fin 2 → Nat :=
  let c0_i32_248 : BitVec 32 := 0#32
  ![v332.toNat, 0]

def k0_chk16 (v28 : BitVec 32) (v332 : BitVec 32) : Prop :=
  (∀ (k0_h4 : k0_cond4 v28 = 1#1), ∀ a, (k0_off70 v332) a + S1x1152.size a ≤ S32768x1152.size a)
theorem k0_off70_inb : ∀ (v28 : BitVec 32) (v332 : BitVec 32) (k0_hw16 : k0_chk16 v28 v332), ∀ (k0_h4 : k0_cond4 v28 = 1#1), ∀ a, (k0_off70 v332) a + S1x1152.size a ≤ S32768x1152.size a := fun v28 v332 k0_hw16 k0_h4 => k0_hw16 k0_h4

def k0_cond3 (v23 : BitVec 32) : BitVec 1 :=
  let c0_i32_10 : BitVec 32 := 0#32
  let v24 : BitVec 1 := Scalar.cmpi .eq v23 c0_i32_10
  let v25 : BitVec 32 := Scalar.extui v24
  let c0_i32_11 : BitVec 32 := 0#32
  let v26 : BitVec 1 := Scalar.cmpi .ne v25 c0_i32_11
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c67_i32 : BitVec 32 := 67#32
  let v1 : BitVec 32 := Scalar.minsi v0 c67_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4 : Shape := ⟨1, ![4]⟩
abbrev S34816 : Shape := ⟨1, ![34816]⟩
abbrev S32768x1152 : Shape := ⟨2, ![32768, 1152]⟩
abbrev S1x1024 : Shape := ⟨2, ![1, 1024]⟩
abbrev S1x32x1024x256 : Shape := ⟨4, ![1, 32, 1024, 256]⟩
abbrev S1x32x256x1024 : Shape := ⟨4, ![1, 32, 256, 1024]⟩
abbrev S_ : Shape := ⟨0, ![]⟩
abbrev S1 : Shape := ⟨1, ![1]⟩
abbrev S34816x1 : Shape := ⟨2, ![34816, 1]⟩
abbrev S34816x1152 : Shape := ⟨2, ![34816, 1152]⟩
abbrev S34816x1024 : Shape := ⟨2, ![34816, 1024]⟩
abbrev S1024 : Shape := ⟨1, ![1024]⟩
abbrev S32 : Shape := ⟨1, ![32]⟩
abbrev S1x32 : Shape := ⟨2, ![1, 32]⟩
abbrev S34816x32 : Shape := ⟨2, ![34816, 32]⟩
abbrev S32x1024x256 : Shape := ⟨3, ![32, 1024, 256]⟩
abbrev S8x1024x256 : Shape := ⟨3, ![8, 1024, 256]⟩
abbrev S34816x8x256 : Shape := ⟨3, ![34816, 8, 256]⟩
abbrev S34816x8 : Shape := ⟨2, ![34816, 8]⟩
abbrev S34816x8x1 : Shape := ⟨3, ![34816, 8, 1]⟩
abbrev S32x256x1024 : Shape := ⟨3, ![32, 256, 1024]⟩
abbrev S8x256x1024 : Shape := ⟨3, ![8, 256, 1024]⟩
abbrev S278528x128 : Shape := ⟨2, ![278528, 128]⟩

abbrev nBuf : Space → Nat
  | .hbm => 186
  | .vmem => 0
  | .smem => 0
  | _ => 0

abbrev hbmTy0_0 (i : Nat) : BufTy := match i % 128 with
  | 0 => ⟨S4, .i32⟩
  | 1 => ⟨S34816, .i32⟩
  | 2 => ⟨S32768x1152, .f32⟩
  | 3 => ⟨S1x1024, .f32⟩
  | 4 => ⟨S1x32x1024x256, .f32⟩
  | 5 => ⟨S1x32x1024x256, .f32⟩
  | 6 => ⟨S1x32x256x1024, .f32⟩
  | 7 => ⟨S_, .i32⟩
  | 8 => ⟨S4, .i32⟩
  | 9 => ⟨S4, .i32⟩
  | 10 => ⟨S34816, .i32⟩
  | 11 => ⟨S1, .i32⟩
  | 12 => ⟨S_, .i32⟩
  | 13 => ⟨S34816, .i32⟩
  | 14 => ⟨S34816, .i1⟩
  | 15 => ⟨S34816, .i32⟩
  | 16 => ⟨S_, .i32⟩
  | 17 => ⟨S34816, .i32⟩
  | 18 => ⟨S34816, .i32⟩
  | 19 => ⟨S1, .i32⟩
  | 20 => ⟨S_, .i32⟩
  | 21 => ⟨S34816, .i32⟩
  | 22 => ⟨S34816, .i1⟩
  | 23 => ⟨S34816, .i32⟩
  | 24 => ⟨S34816, .i32⟩
  | 25 => ⟨S1, .i32⟩
  | 26 => ⟨S_, .i32⟩
  | 27 => ⟨S34816, .i32⟩
  | 28 => ⟨S34816, .i1⟩
  | 29 => ⟨S34816, .i32⟩
  | 30 => ⟨S34816, .i32⟩
  | 31 => ⟨S34816x1, .i32⟩
  | 32 => ⟨S34816x1152, .f32⟩
  | 33 => ⟨S34816x1024, .f32⟩
  | 34 => ⟨S34816x1024, .f32⟩
  | 35 => ⟨S_, .f32⟩
  | 36 => ⟨S34816, .f32⟩
  | 37 => ⟨S34816x1, .f32⟩
  | 38 => ⟨S_, .f32⟩
  | 39 => ⟨S34816x1, .f32⟩
  | 40 => ⟨S34816x1, .f32⟩
  | 41 => ⟨S_, .f32⟩
  | 42 => ⟨S34816x1, .f32⟩
  | 43 => ⟨S34816x1, .f32⟩
  | 44 => ⟨S34816x1, .f32⟩
  | 45 => ⟨S34816x1024, .f32⟩
  | 46 => ⟨S34816x1024, .f32⟩
  | 47 => ⟨S1024, .f32⟩
  | 48 => ⟨S1x1024, .f32⟩
  | 49 => ⟨S34816x1024, .f32⟩
  | 50 => ⟨S34816x1024, .f32⟩
  | 51 => ⟨S32, .i32⟩
  | 52 => ⟨S_, .i32⟩
  | 53 => ⟨S_, .i32⟩
  | 54 => ⟨S32, .i32⟩
  | 55 => ⟨S32, .i32⟩
  | 56 => ⟨S32, .i32⟩
  | 57 => ⟨S_, .i32⟩
  | 58 => ⟨S32, .i32⟩
  | 59 => ⟨S32, .i1⟩
  | 60 => ⟨S32, .i32⟩
  | 61 => ⟨S32, .i32⟩
  | 62 => ⟨S_, .i32⟩
  | 63 => ⟨S32, .i32⟩
  | 64 => ⟨S32, .i1⟩
  | 65 => ⟨S32, .i1⟩
  | 66 => ⟨S_, .i32⟩
  | 67 => ⟨S32, .i32⟩
  | 68 => ⟨S32, .i32⟩
  | 69 => ⟨S32, .i32⟩
  | 70 => ⟨S1x32, .i32⟩
  | 71 => ⟨S34816x1, .i32⟩
  | 72 => ⟨S34816x32, .i32⟩
  | 73 => ⟨S34816x32, .i32⟩
  | 74 => ⟨S34816x32, .i1⟩
  | 75 => ⟨S1, .i32⟩
  | 76 => ⟨S_, .i32⟩
  | 77 => ⟨S34816, .i32⟩
  | 78 => ⟨S34816, .i1⟩
  | 79 => ⟨S34816x1, .i1⟩
  | 80 => ⟨S34816x32, .i1⟩
  | 81 => ⟨S34816x32, .i1⟩
  | 82 => ⟨S34816x32, .f32⟩
  | 83 => ⟨S_, .f32⟩
  | 84 => ⟨S_, .f32⟩
  | 85 => ⟨S34816x32, .f32⟩
  | 86 => ⟨S34816x32, .f32⟩
  | 87 => ⟨S_, .f32⟩
  | 88 => ⟨S34816x1024, .f32⟩
  | 89 => ⟨S32x1024x256, .f32⟩
  | 90 => ⟨S8x1024x256, .f32⟩
  | 91 => ⟨S34816x8x256, .f32⟩
  | 92 => ⟨S34816x8x256, .f32⟩
  | 93 => ⟨S34816x8x256, .f32⟩
  | 94 => ⟨S_, .f32⟩
  | 95 => ⟨S34816x8x256, .f32⟩
  | 96 => ⟨S34816x8x256, .f32⟩
  | 97 => ⟨S_, .f32⟩
  | 98 => ⟨S34816x8x256, .f32⟩
  | 99 => ⟨S34816x8x256, .f32⟩
  | 100 => ⟨S34816x8x256, .f32⟩
  | 101 => ⟨S32x1024x256, .f32⟩
  | 102 => ⟨S8x1024x256, .f32⟩
  | 103 => ⟨S34816x8x256, .f32⟩
  | 104 => ⟨S34816x8x256, .f32⟩
  | 105 => ⟨S34816x8, .f32⟩
  | 106 => ⟨S34816x8x1, .f32⟩
  | 107 => ⟨S34816x8x256, .f32⟩
  | 108 => ⟨S34816x8x256, .f32⟩
  | 109 => ⟨S32x256x1024, .f32⟩
  | 110 => ⟨S8x256x1024, .f32⟩
  | 111 => ⟨S34816x1024, .f32⟩
  | 112 => ⟨S34816x1024, .f32⟩
  | 113 => ⟨S32x1024x256, .f32⟩
  | 114 => ⟨S8x1024x256, .f32⟩
  | 115 => ⟨S34816x8x256, .f32⟩
  | 116 => ⟨S34816x8x256, .f32⟩
  | 117 => ⟨S34816x8x256, .f32⟩
  | 118 => ⟨S_, .f32⟩
  | 119 => ⟨S34816x8x256, .f32⟩
  | 120 => ⟨S34816x8x256, .f32⟩
  | 121 => ⟨S_, .f32⟩
  | 122 => ⟨S34816x8x256, .f32⟩
  | 123 => ⟨S34816x8x256, .f32⟩
  | 124 => ⟨S34816x8x256, .f32⟩
  | 125 => ⟨S32x1024x256, .f32⟩
  | 126 => ⟨S8x1024x256, .f32⟩
  | 127 => ⟨S34816x8x256, .f32⟩
  | _ => ⟨S4, .i32⟩

abbrev hbmTy0_1 (i : Nat) : BufTy := match i % 128 with
  | 0 => ⟨S34816x8x256, .f32⟩
  | 1 => ⟨S34816x8, .f32⟩
  | 2 => ⟨S34816x8x1, .f32⟩
  | 3 => ⟨S34816x8x256, .f32⟩
  | 4 => ⟨S34816x8x256, .f32⟩
  | 5 => ⟨S32x256x1024, .f32⟩
  | 6 => ⟨S8x256x1024, .f32⟩
  | 7 => ⟨S34816x1024, .f32⟩
  | 8 => ⟨S34816x1024, .f32⟩
  | 9 => ⟨S32x1024x256, .f32⟩
  | 10 => ⟨S8x1024x256, .f32⟩
  | 11 => ⟨S34816x8x256, .f32⟩
  | 12 => ⟨S34816x8x256, .f32⟩
  | 13 => ⟨S34816x8x256, .f32⟩
  | 14 => ⟨S_, .f32⟩
  | 15 => ⟨S34816x8x256, .f32⟩
  | 16 => ⟨S34816x8x256, .f32⟩
  | 17 => ⟨S_, .f32⟩
  | 18 => ⟨S34816x8x256, .f32⟩
  | 19 => ⟨S34816x8x256, .f32⟩
  | 20 => ⟨S34816x8x256, .f32⟩
  | 21 => ⟨S32x1024x256, .f32⟩
  | 22 => ⟨S8x1024x256, .f32⟩
  | 23 => ⟨S34816x8x256, .f32⟩
  | 24 => ⟨S34816x8x256, .f32⟩
  | 25 => ⟨S34816x8, .f32⟩
  | 26 => ⟨S34816x8x1, .f32⟩
  | 27 => ⟨S34816x8x256, .f32⟩
  | 28 => ⟨S34816x8x256, .f32⟩
  | 29 => ⟨S32x256x1024, .f32⟩
  | 30 => ⟨S8x256x1024, .f32⟩
  | 31 => ⟨S34816x1024, .f32⟩
  | 32 => ⟨S34816x1024, .f32⟩
  | 33 => ⟨S32x1024x256, .f32⟩
  | 34 => ⟨S8x1024x256, .f32⟩
  | 35 => ⟨S34816x8x256, .f32⟩
  | 36 => ⟨S34816x8x256, .f32⟩
  | 37 => ⟨S34816x8x256, .f32⟩
  | 38 => ⟨S_, .f32⟩
  | 39 => ⟨S34816x8x256, .f32⟩
  | 40 => ⟨S34816x8x256, .f32⟩
  | 41 => ⟨S_, .f32⟩
  | 42 => ⟨S34816x8x256, .f32⟩
  | 43 => ⟨S34816x8x256, .f32⟩
  | 44 => ⟨S34816x8x256, .f32⟩
  | 45 => ⟨S32x1024x256, .f32⟩
  | 46 => ⟨S8x1024x256, .f32⟩
  | 47 => ⟨S34816x8x256, .f32⟩
  | 48 => ⟨S34816x8x256, .f32⟩
  | 49 => ⟨S34816x8, .f32⟩
  | 50 => ⟨S34816x8x1, .f32⟩
  | 51 => ⟨S34816x8x256, .f32⟩
  | 52 => ⟨S34816x8x256, .f32⟩
  | 53 => ⟨S32x256x1024, .f32⟩
  | 54 => ⟨S8x256x1024, .f32⟩
  | 55 => ⟨S34816x1024, .f32⟩
  | 56 => ⟨S34816x1024, .f32⟩
  | 57 => ⟨S278528x128, .f32⟩
  | _ => ⟨S4, .i32⟩

abbrev hbmTy (i : Nat) : BufTy := match i / 128 with
  | 0 => hbmTy0_0 i
  | 1 => hbmTy0_1 i
  | _ => ⟨S4, .i32⟩

abbrev bufTy : (tb : Table) → Fin (tcTables nBuf tb) → BufTy
  | .hbm, ⟨i, _⟩ => hbmTy i
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_call2_v0 : Ref sig .tc := ⟨.hbm, 84, rfl⟩
abbrev main_call2_v1 : Ref sig .tc := ⟨.hbm, 85, rfl⟩
abbrev main_v53 : Ref sig .tc := ⟨.hbm, 86, rfl⟩
abbrev main_cst_5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_call4_v0 : Ref sig .tc := ⟨.hbm, 116, rfl⟩
abbrev main_call4_v1 : Ref sig .tc := ⟨.hbm, 117, rfl⟩
abbrev main_call4_cst : Ref sig .tc := ⟨.hbm, 118, rfl⟩
abbrev main_call4_v2 : Ref sig .tc := ⟨.hbm, 119, rfl⟩
abbrev main_call4_v3 : Ref sig .tc := ⟨.hbm, 120, rfl⟩
abbrev main_call4_cst_0 : Ref sig .tc := ⟨.hbm, 121, rfl⟩
abbrev main_call4_v4 : Ref sig .tc := ⟨.hbm, 122, rfl⟩
abbrev main_call4_v5 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_call5_v0 : Ref sig .tc := ⟨.hbm, 140, rfl⟩
abbrev main_call5_v1 : Ref sig .tc := ⟨.hbm, 141, rfl⟩
abbrev main_call5_cst : Ref sig .tc := ⟨.hbm, 142, rfl⟩
abbrev main_call5_v2 : Ref sig .tc := ⟨.hbm, 143, rfl⟩
abbrev main_call5_v3 : Ref sig .tc := ⟨.hbm, 144, rfl⟩
abbrev main_call5_cst_0 : Ref sig .tc := ⟨.hbm, 145, rfl⟩
abbrev main_call5_v4 : Ref sig .tc := ⟨.hbm, 146, rfl⟩
abbrev main_call5_v5 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_call6_v0 : Ref sig .tc := ⟨.hbm, 164, rfl⟩
abbrev main_call6_v1 : Ref sig .tc := ⟨.hbm, 165, rfl⟩
abbrev main_call6_cst : Ref sig .tc := ⟨.hbm, 166, rfl⟩
abbrev main_call6_v2 : Ref sig .tc := ⟨.hbm, 167, rfl⟩
abbrev main_call6_v3 : Ref sig .tc := ⟨.hbm, 168, rfl⟩
abbrev main_call6_cst_0 : Ref sig .tc := ⟨.hbm, 169, rfl⟩
abbrev main_call6_v4 : Ref sig .tc := ⟨.hbm, 170, rfl⟩
abbrev main_call6_v5 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024 : Shape := ⟨2, ![1, 1024]⟩
abbrev S1x1024x2840 : Shape := ⟨3, ![1, 1024, 2840]⟩
abbrev S512 : Shape := ⟨1, ![512]⟩
abbrev S1024x2840 : Shape := ⟨2, ![1024, 2840]⟩
abbrev S1024x128 : Shape := ⟨2, ![1024, 128]⟩
abbrev S1024x512 : Shape := ⟨2, ![1024, 512]⟩
abbrev S1024x1024 : Shape := ⟨2, ![1024, 1024]⟩
abbrev S_ : Shape := ⟨0, ![]⟩
abbrev S512x1 : Shape := ⟨2, ![512, 1]⟩
abbrev S1024x24 : Shape := ⟨2, ![1024, 24]⟩
abbrev S1024x8 : Shape := ⟨2, ![1024, 8]⟩
abbrev S1024x1824 : Shape := ⟨2, ![1024, 1824]⟩
abbrev S1824x1024 : Shape := ⟨2, ![1824, 1024]⟩
abbrev S32768x1024 : Shape := ⟨2, ![32768, 1024]⟩
abbrev S1024 : Shape := ⟨1, ![1024]⟩
abbrev S4x128x32768 : Shape := ⟨3, ![4, 128, 32768]⟩
abbrev S32768x128 : Shape := ⟨2, ![32768, 128]⟩
abbrev S4x32768x128 : Shape := ⟨3, ![4, 32768, 128]⟩
abbrev S128x32768 : Shape := ⟨2, ![128, 32768]⟩
abbrev S32x32768 : Shape := ⟨2, ![32, 32768]⟩
abbrev S512x1024 : Shape := ⟨2, ![512, 1024]⟩
abbrev S4x128x512 : Shape := ⟨3, ![4, 128, 512]⟩
abbrev S512x128 : Shape := ⟨2, ![512, 128]⟩
abbrev S4x512x128 : Shape := ⟨3, ![4, 512, 128]⟩
abbrev S128x512 : Shape := ⟨2, ![128, 512]⟩
abbrev S32x512 : Shape := ⟨2, ![32, 512]⟩
abbrev S512x512 : Shape := ⟨2, ![512, 512]⟩
abbrev S1x512x128 : Shape := ⟨3, ![1, 512, 128]⟩
abbrev S1824x512 : Shape := ⟨2, ![1824, 512]⟩
abbrev S1x128x512 : Shape := ⟨3, ![1, 128, 512]⟩

abbrev nBuf : Space → Nat
  | .hbm => 43
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2840, .f32⟩
  | .hbm, ⟨3, _⟩ => ⟨S512, .i32⟩
  | .hbm, ⟨4, _⟩ => ⟨S512, .i1⟩
  | .hbm, ⟨5, _⟩ => ⟨S1024x2840, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x512, .f32⟩
  | .hbm, ⟨11, _⟩ => ⟨S1024x1024, .f32⟩
  | .hbm, ⟨12, _⟩ => ⟨S1024x1024, .bf16⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1024x512, .f32⟩
  | .hbm, ⟨19, _⟩ => ⟨S1024x512, .f32⟩
  | .hbm, ⟨20, _⟩ => ⟨S1024x128, .f32⟩
  | .hbm, ⟨21, _⟩ => ⟨S1024x128, .f32⟩
  | .hbm, ⟨22, _⟩ => ⟨S1024x512, .f32⟩
  | .hbm, ⟨23, _⟩ => ⟨S1024x24, .f32⟩
  | .hbm, ⟨24, _⟩ => ⟨S_, .f32⟩
  | .hbm, ⟨25, _⟩ => ⟨S1024x8, .f32⟩
  | .hbm, ⟨26, _⟩ => ⟨S1024x1824, .f32⟩
  | .hbm, ⟨27, _⟩ => ⟨S1824x1024, .f32⟩
  | .hbm, ⟨28, _⟩ => ⟨S1824x1024, .bf16⟩
  | .hbm, ⟨29, _⟩ => ⟨S32768x1024, .f32⟩
  | .hbm, ⟨30, _⟩ => ⟨S1024, .f32⟩
  | .hbm, ⟨31, _⟩ => ⟨S1x1024, .f32⟩
  | .hbm, ⟨32, _⟩ => ⟨S4x128x32768, .bf16⟩
  | .hbm, ⟨33, _⟩ => ⟨S32768x128, .f32⟩
  | .hbm, ⟨34, _⟩ => ⟨S32768x128, .f32⟩
  | .hbm, ⟨35, _⟩ => ⟨S32768x128, .bf16⟩
  | .hbm, ⟨36, _⟩ => ⟨S32768x128, .bf16⟩
  | .hbm, ⟨37, _⟩ => ⟨S4x128x32768, .bf16⟩
  | .hbm, ⟨38, _⟩ => ⟨S4x32768x128, .bf16⟩
  | .hbm, ⟨39, _⟩ => ⟨S128x32768, .bf16⟩
  | .hbm, ⟨40, _⟩ => ⟨S128x32768, .bf16⟩
  | .hbm, ⟨41, _⟩ => ⟨S4x128x32768, .bf16⟩
  | .hbm, ⟨42, _⟩ => ⟨S32x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1824x1024, .bf16⟩
  | .local _ .vmem, ⟨5, _⟩ => ⟨S4x128x512, .bf16⟩
  | .local _ .vmem, ⟨6, _⟩ => ⟨S4x128x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S4x128x512, .bf16⟩
  | .local _ .vmem, ⟨16, _⟩ => ⟨S4x128x512, .bf16⟩
  | .local _ .vmem, ⟨17, _⟩ => ⟨S4x512x128, .bf16⟩
  | .local _ .vmem, ⟨18, _⟩ => ⟨S4x512x128, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S4x128x512, .bf16⟩
  | .local _ .vmem, ⟨24, _⟩ => ⟨S4x128x512, .bf16⟩
  | .local _ .vmem, ⟨25, _⟩ => ⟨S32x512, .f32⟩
  | .local _ .vmem, ⟨26, _⟩ => ⟨S32x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev main_v25_5 : Ref sig .tc := ⟨.hbm, 37, rfl⟩
abbrev main_v25_6 : Ref sig .tc := ⟨.hbm, 38, rfl⟩
abbrev main_v25_7 : Ref sig .tc := ⟨.hbm, 39, rfl⟩
abbrev main_v25_8 : Ref sig .tc := ⟨.hbm, 40, rfl⟩
abbrev main_v25_9 : Ref sig .tc := ⟨.hbm, 41, rfl⟩
abbrev main_v25_10 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1824x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16x2048x1024 : Shape := ⟨3, ![16, 2048, 1024]⟩
abbrev S1x1024 : Shape := ⟨2, ![1, 1024]⟩
abbrev S1x1024x2840 : Shape := ⟨3, ![1, 1024, 2840]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1024x2840 : Shape := ⟨2, ![1024, 2840]⟩
abbrev S32768x2840 : Shape := ⟨2, ![32768, 2840]⟩
abbrev S32768x512 : Shape := ⟨2, ![32768, 512]⟩
abbrev S32768x128 : Shape := ⟨2, ![32768, 128]⟩
abbrev S32768x24 : Shape := ⟨2, ![32768, 24]⟩
abbrev S32768x2x4x64 : Shape := ⟨4, ![32768, 2, 4, 64]⟩
abbrev S4x2x64x32768 : Shape := ⟨4, ![4, 2, 64, 32768]⟩
abbrev S4x128x32768 : Shape := ⟨3, ![4, 128, 32768]⟩
abbrev S512x32768 : Shape := ⟨2, ![512, 32768]⟩
abbrev S32768x4x128 : Shape := ⟨3, ![32768, 4, 128]⟩
abbrev S4x32768x128 : Shape := ⟨3, ![4, 32768, 128]⟩
abbrev S128x32768 : Shape := ⟨2, ![128, 32768]⟩
abbrev S24x32768 : Shape := ⟨2, ![24, 32768]⟩
abbrev S8x32768 : Shape := ⟨2, ![8, 32768]⟩
abbrev S32x32768 : Shape := ⟨2, ![32, 32768]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2840, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x2840, .f32⟩
  | .hbm, ⟨22, _⟩ => ⟨S32768x2840, .f32⟩
  | .hbm, ⟨23, _⟩ => ⟨S32768x512, .f32⟩
  | .hbm, ⟨24, _⟩ => ⟨S32768x128, .f32⟩
  | .hbm, ⟨25, _⟩ => ⟨S32768x128, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S32768x24, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x2x4x64, .f32⟩
  | .hbm, ⟨35, _⟩ => ⟨S4x2x64x32768, .f32⟩
  | .hbm, ⟨36, _⟩ => ⟨S4x128x32768, .f32⟩
  | .hbm, ⟨37, _⟩ => ⟨S_, .f32⟩
  | .hbm, ⟨38, _⟩ => ⟨S4x128x32768, .f32⟩
  | .hbm, ⟨39, _⟩ => ⟨S4x128x32768, .f32⟩
  | .hbm, ⟨40, _⟩ => ⟨S4x128x32768, .bf16⟩
  | .hbm, ⟨41, _⟩ => ⟨S32768x128, .bf16⟩
  | .hbm, ⟨42, _⟩ => ⟨S32768x128, .bf16⟩
  | .hbm, ⟨43, _⟩ => ⟨S512x32768, .f32⟩
  | .hbm, ⟨44, _⟩ => ⟨S4x128x32768, .f32⟩
  | .hbm, ⟨45, _⟩ => ⟨S_, .f32⟩
  | .hbm, ⟨46, _⟩ => ⟨S4x128x32768, .f32⟩
  | .hbm, ⟨47, _⟩ => ⟨S4x128x32768, .f32⟩
  | .hbm, ⟨48, _⟩ => ⟨S4x128x32768, .bf16⟩
  | .hbm, ⟨49, _⟩ => ⟨S32768x4x128, .f32⟩
  | .hbm, ⟨50, _⟩ => ⟨S4x32768x128, .f32⟩
  | .hbm, ⟨51, _⟩ => ⟨S4x32768x128, .bf16⟩
  | .hbm, ⟨52, _⟩ => ⟨S128x32768, .f32⟩
  | .hbm, ⟨53, _⟩ => ⟨S128x32768, .bf16⟩
  | .hbm, ⟨54, _⟩ => ⟨S128x32768, .f32⟩
  | .hbm, ⟨55, _⟩ => ⟨S128x32768, .bf16⟩
  | .hbm, ⟨56, _⟩ => ⟨S512x32768, .f32⟩
  | .hbm, ⟨57, _⟩ => ⟨S4x128x32768, .f32⟩
  | .hbm, ⟨58, _⟩ => ⟨S4x128x32768, .bf16⟩
  | .hbm, ⟨59, _⟩ => ⟨S24x32768, .f32⟩
  | .hbm, ⟨60, _⟩ => ⟨S_, .f32⟩
  | .hbm, ⟨61, _⟩ => ⟨S8x32768, .f32⟩
  | .hbm, ⟨62, _⟩ => ⟨S32x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== Proof.Norm.lean ====
/-
  A row normalised by its mean square, over the extended reals.
-/
module

public import Idealize.ShloMosaic.Lib.Pointwise

@[expose] public section

noncomputable section

namespace Cert.Moe

open Idealize.ShloMosaic

/-- A row normalised by its mean square and scaled. -/
def nrm (h g : Fin 1024 → EReal) (k : Fin 1024) : EReal :=
  h k * Ideal.rsqrt (Ideal.div (∑ x, h x * h x) (Ideal.ofBits .f32 1149239296#32) + Ideal.ofBits .f32 897988541#32) * g k

end Cert.Moe
end
-- ==== Proof.Proj.lean ====
/-
  The input projection at an element, over the extended reals, and where its columns go.
-/
module

public import proofs.«01_k».proof.Proof.Norm

@[expose] public section

noncomputable section

namespace Cert.Proj

open Idealize.ShloMosaic Cert.Moe

/-- Column `n` of the projection's weights; nothing past the last. -/
def wcol (W : Fin 1024 → Fin 2840 → EReal) (k : Fin 1024) (n : ℕ) : EReal := if h : n < 2840 then W k ⟨n, h⟩ else 0

/-- Token `t`'s normalised row times column `n` of the weights. -/
def prj (X : Fin 32768 → Fin 1024 → EReal) (G : Fin 1024 → EReal) (W : Fin 1024 → Fin 2840 → EReal) (t : Fin 32768) (n : ℕ) : EReal :=
  ∑ k, nrm (X t) G k * wcol W k n

theorem prj_in (X : Fin 32768 → Fin 1024 → EReal) (G : Fin 1024 → EReal) (W : Fin 1024 → Fin 2840 → EReal) (t : Fin 32768) (n : Fin 2840) :
    ∑ k, nrm (X t) G k * W k n = prj X G W t n.val := by
  unfold prj wcol
  exact Finset.sum_congr rfl fun k _ => by rw [dif_pos n.isLt]

theorem prj_out (X : Fin 32768 → Fin 1024 → EReal) (G : Fin 1024 → EReal) (W : Fin 1024 → Fin 2840 → EReal) (t : Fin 32768) (n : ℕ) (h : 2840 ≤ n) :
    prj X G W t n = 0 := by
  unfold prj wcol
  exact Finset.sum_eq_zero fun k _ => by rw [dif_neg (by omega), mul_zero]

theorem prj_congr (X : Fin 32768 → Fin 1024 → EReal) (G : Fin 1024 → EReal) (W : Fin 1024 → Fin 2840 → EReal) {t t' : Fin 32768} {n n' : ℕ}
    (ht : t.val = t'.val) (hn : n = n') : prj X G W t n = prj X G W t' n' := by
  obtain rfl : t = t' := Fin.ext ht
  rw [hn]

/-- The projection's column that the packed token-major weights hold at `n`. -/
def colTok (n : ℕ) : ℕ := if n < 384 then 512 + n else if n < 512 then 640 + n else 1304 + n

/-- The query column at place `n` of the order in which the heads of the two groups alternate. -/
def colQ (n : ℕ) : ℕ := (n % 128 / 64 * 4 + n / 128) * 64 + n % 64

/-- The projection's column that the packed feature-major weights hold in row `n`; none past the gates. -/
def colFeat (n : ℕ) : ℕ :=
  if n < 512 then colQ n else if n < 1024 then 792 + n else if n < 1152 then n - 128 else if n < 1280 then n
    else if n < 1792 then 1048 + n else if n < 1816 then n - 512 else 2840

end Cert.Proj
end
-- ==== Proof.ProjHost.lean ====
/-
  The arrays the input projection's call reads, element by element, over the extended reals.
-/
module

public import proofs.«01_k».proof.Proof.Gen.Kernel2Ideal
public import proofs.«01_k».proof.Proof.Proj
public import Idealize.ShloMosaic.Lib.Pointwise

@[expose] public section

set_option maxRecDepth 16384

noncomputable section

namespace Cert.Kernel2Ideal.Hand

open Idealize.ShloMosaic Idealize.ShloMosaic.Pointwise Cert.Kernel2Ideal Cert.Kernel2Ideal.Gen Cert.Moe Cert.Proj
set_option maxHeartbeats 4000000

/-- The places the query columns are taken from. -/
def places : IVec S512x1 32 :=
  broadcastInDim S512x1 ![0] bcast_S512_S512x1_0 (select (constantI S512 1 0#1) (addi (fun i => lit0 (S512.rowMajor i)) (broadcastInDim S512 ![] bcast_S_S512 (constantI S_ 32 2840#32))) (fun i => lit0 (S512.rowMajor i)) : IVec S512 32)

theorem places_eq : ∀ n : Fin 512, places (ix2 n 0) = BitVec.ofNat 32 (colQ n.val) := by decide +kernel

/-- Whole columns taken by number. -/
theorem gather_col (x : FVec Ideal S1024x2840 .f32) (idx : IVec S512x1 32) (k : Fin 1024) (n : Fin 512) (b : Fin 2840) (hb : idx (ix2 n 0) = BitVec.ofNat 32 b.val) :
    Host.gather gather_S1024x2840_S512x1_S1024x512_0_1_n_n_1_1_10241 x idx (ix2 k n) = x (ix2 k b) := by
  unfold Host.gather
  refine congrArg x (funext fun a => Fin.ext ?_)
  generalize hd : gather_S1024x2840_S512x1_S1024x512_0_1_n_n_1_1_10241 = d
  match a with
  | ⟨0, _⟩ =>
    show d.start (ix2 k n) idx 0 + d.batchCoord (ix2 k n) 0 + d.offCoord (ix2 k n) 0 = k.val
    have hs : d.start (ix2 k n) idx 0 = 0 := by subst hd; rfl
    have hb0 : d.batchCoord (ix2 k n) 0 = 0 := by subst hd; rfl
    have hm : (0 : Fin 2) ∈ d.sKept := (d.mem_sKept 0).2 (by subst hd; exact ⟨by decide, by decide⟩)
    have ho : d.offCoord (ix2 k n) 0 = k.val := by
      unfold GatherDims.offCoord
      rw [dif_pos hm]
      have e : ∀ q ∈ d.offsetDims, ((ix2 k n : S1024x512.Idx) q).val = k.val := fun q hq => by
        subst hd
        obtain rfl : q = (0 : Fin 2) := List.mem_singleton.1 hq
        rfl
      exact e _ (List.getElem_mem _)
    rw [hs, hb0, ho, Nat.zero_add]
  | ⟨1, _⟩ =>
    show d.start (ix2 k n) idx 1 + d.batchCoord (ix2 k n) 1 + d.offCoord (ix2 k n) 1 = b.val
    have hs : d.start (ix2 k n) idx 1 = min (idx (ix2 n 0)).toInt.toNat 2839 := by
      subst hd
      have e : ∀ X : S512x1.Idx, X = ix2 n 0 → min (idx X).toInt.toNat 2839 = min (idx (ix2 n 0)).toInt.toNat 2839 := fun X h => by rw [h]
      refine e _ ?_
      funext b'
      apply Fin.ext
      fin_cases b' <;> rfl
    have hz : d.batchCoord (ix2 k n) 1 + d.offCoord (ix2 k n) 1 = 0 := by subst hd; rfl
    have := b.isLt
    rw [Nat.add_assoc, hz, hs, hb]
    have : (BitVec.ofNat 32 b.val).toInt = b.val := by
      rw [BitVec.toInt_eq_toNat_of_lt (by rw [BitVec.toNat_ofNat]; omega), BitVec.toNat_ofNat]
      omega
    rw [this]
    show min b.val 2839 + 0 = _
    omega

variable (W : FVec Ideal S1024x2840 .f32)

/-- The packed token-major weights. -/
def wTok : FVec Ideal S1024x1024 .bf16 :=
  truncf .bf16 (concatenate S1024x1024 1 [⟨S1024x128, extractStridedSlice S1024x128 ![0, 512] W slices_S1024x2840_S1024x128_0_512⟩, ⟨S1024x128, extractStridedSlice S1024x128 ![0, 640] W slices_S1024x2840_S1024x128_0_640⟩, ⟨S1024x128, extractStridedSlice S1024x128 ![0, 768] W slices_S1024x2840_S1024x128_0_768⟩, ⟨S1024x128, extractStridedSlice S1024x128 ![0, 1024] W slices_S1024x2840_S1024x128_0_1024⟩, ⟨S1024x512, extractStridedSlice S1024x512 ![0, 1816] W slices_S1024x2840_S1024x512_0_1816⟩] concatenates_S1024x128_S1024x128_S1024x128_S1024x128_S1024x512_S1024x1024_d1 : FVec Ideal S1024x1024 .f32) bitsLt_bf16_f32

/-- The packed feature-major weights. -/
def wFeat : FVec Ideal S1824x1024 .bf16 :=
  truncf .bf16 (transpose S1824x1024 [1, 0] (concatenate S1024x1824 1 [⟨S1024x512, Host.gather gather_S1024x2840_S512x1_S1024x512_0_1_n_n_1_1_10241 W places⟩, ⟨S1024x512, extractStridedSlice S1024x512 ![0, 1304] W slices_S1024x2840_S1024x512_0_1304⟩, ⟨S1024x128, extractStridedSlice S1024x128 ![0, 896] W slices_S1024x2840_S1024x128_0_896⟩, ⟨S1024x128, extractStridedSlice S1024x128 ![0, 1152] W slices_S1024x2840_S1024x128_0_1152⟩, ⟨S1024x512, extractStridedSlice S1024x512 ![0, 2328] W slices_S1024x2840_S1024x512_0_2328⟩, ⟨S1024x24, extractStridedSlice S1024x24 ![0, 1280] W slices_S1024x2840_S1024x24_0_1280⟩, ⟨S1024x8, broadcastInDim S1024x8 ![] bcast_S_S1024x8 (constant S_ .f32 0x00000000#32)⟩] concatenates_S1024x512_S1024x512_S1024x128_S1024x128_S1024x512_S1024x24_S1024x8_S1024x1824_d1 : FVec Ideal S1024x1824 .f32) transposes_S1024x1824_S1824x1024_1_0) bitsLt_bf16_f32

theorem wcol_eq (k : Fin 1024) (n : ℕ) (b : Fin 2840) (h : b.val = n) : wcol (fun k n => W (ix2 k n)) k n = W (ix2 k b) := by
  subst h
  unfold wcol
  rw [dif_pos b.isLt]

theorem wTok_apply (k n : Fin 1024) : wTok W (ix2 k n) = wcol (fun k n => W (ix2 k n)) k (colTok n.val) := by
  have e : ∀ a : ℕ, a = colTok n.val ↔ a = if n.val < 384 then 512 + n.val else if n.val < 512 then 640 + n.val else 1304 + n.val := fun a => Iff.rfl
  pointwise [wTok]
  split_ifs <;> first | omega | (symm; apply wcol_eq; dsimp only; rw [e]; split_ifs <;> omega)

theorem wFeat_apply (n : Fin 1824) (k : Fin 1024) : wFeat W (ix2 n k) = wcol (fun k n => W (ix2 k n)) k (colFeat n.val) := by
  have hq : ∀ (q : Fin 512), Host.gather gather_S1024x2840_S512x1_S1024x512_0_1_n_n_1_1_10241 W places (ix2 k q) = wcol (fun k n => W (ix2 k n)) k (colQ q.val) := fun q => by
    have hl : colQ q.val < 2840 := by unfold colQ; omega
    rw [gather_col W places k q ⟨colQ q.val, hl⟩ (places_eq q)]
    exact (wcol_eq W k _ _ rfl).symm
  have hz : wcol (fun k n => W (ix2 k n)) k 2840 = 0 := by unfold wcol; rw [dif_neg (by omega)]
  unfold wFeat
  generalize Host.gather gather_S1024x2840_S512x1_S1024x512_0_1_n_n_1_1_10241 W places = Q at hq ⊢
  have e : ∀ a : ℕ, a = colFeat n.val ↔ a = if n.val < 512 then colQ n.val else if n.val < 1024 then 792 + n.val else if n.val < 1152 then n.val - 128 else if n.val < 1280 then n.val
    else if n.val < 1792 then 1048 + n.val else if n.val < 1816 then n.val - 512 else 2840 := fun a => Iff.rfl
  pointwise []
  by_cases h : n.val < 512
  · rw [dif_pos h, hq]
    exact congrArg _ ((e _).2 (by rw [if_pos h]))
  · rw [dif_neg h]
    have e' : ∀ a : ℕ, (a = if n.val < 1024 then 792 + n.val else if n.val < 1152 then n.val - 128 else if n.val < 1280 then n.val
      else if n.val < 1792 then 1048 + n.val else if n.val < 1816 then n.val - 512 else 2840) → a = colFeat n.val := fun a ha => (e a).2 (by rw [if_neg h]; exact ha)
    have hn := n.isLt
    split_ifs <;> first | (symm; apply wcol_eq; dsimp only; apply e'; split_ifs <;> omega) | (rw [← e' 2840 (by split_ifs <;> omega)]; exact hz.symm)

end Cert.Kernel2Ideal.Hand
end
-- ==== Proof.ProjTile.lean ====
/-
  The input projection's call over the extended reals: what a tile computes.
-/
module

public import proofs.«01_k».proof.Proof.Gen.Kernel2Ideal.Value
public import proofs.«01_k».proof.Proof.ProjHost
public import Idealize.ShloMosaic.Lib.Pointwise
public import Idealize.ShloMosaic.Lib.Pipeline.Value

@[expose] public section

set_option maxRecDepth 16384

noncomputable section

namespace Cert.Kernel2Ideal.Hand

open Idealize.ShloMosaic Idealize.ShloMosaic.Pointwise Idealize.ShloMosaic.Tactic Idealize.ShloMosaic.TcCoe Cert.Kernel2Ideal Cert.Kernel2Ideal.Gen Cert.Moe Cert.Proj
open Idealize.SL.Sem
set_option maxHeartbeats 4000000

/-! ## The body's products, of any blocks -/

section Body

variable (x : FVec Ideal S512x1024 .f32) (g : FVec Ideal S1x1024 .f32)

theorem pay3_apply (i : Fin 512) (k : Fin 1024) : k0_pay3 (F := Ideal) x g (ix2 i k) = nrm (fun k => x (ix2 i k)) (fun k => g (ix2 0 k)) k := by
  unfold nrm
  pointwise [k0_pay3]

theorem pay4_apply (w : FVec Ideal S1024x512 .bf16) (i j : Fin 512) :
    k0_pay4 (F := Ideal) x g w (ix2 i j) = ∑ k, nrm (fun k => x (ix2 i k)) (fun k => g (ix2 0 k)) k * w (ix2 k j) := by
  refine Eq.trans (b := ∑ k, k0_pay3 (F := Ideal) x g (ix2 i k) * w (ix2 k j)) (by unfold k0_pay4; generalize k0_pay3 (F := Ideal) x g = y; pointwise []) ?_
  exact Finset.sum_congr rfl fun k _ => by rw [pay3_apply]

theorem pay9_apply (w : FVec Ideal S1024x512 .bf16) (i j : Fin 512) :
    k0_pay9 (F := Ideal) x g w (ix2 i j) = ∑ k, nrm (fun k => x (ix2 i k)) (fun k => g (ix2 0 k)) k * w (ix2 k j) := by
  refine Eq.trans (b := ∑ k, k0_pay3 (F := Ideal) x g (ix2 i k) * w (ix2 k j)) (by unfold k0_pay9; generalize k0_pay3 (F := Ideal) x g = y; pointwise []) ?_
  exact Finset.sum_congr rfl fun k _ => by rw [pay3_apply]

theorem pay15_apply (w : FVec Ideal S1824x1024 .bf16) (n : Fin 1824) (i : Fin 512) :
    k0_pay15 (F := Ideal) (k0_pay3 (F := Ideal) x g) w (ix2 n i) = ∑ k, nrm (fun k => x (ix2 i k)) (fun k => g (ix2 0 k)) k * w (ix2 n k) := by
  refine Eq.trans (b := ∑ k, w (ix2 n k) * k0_pay3 (F := Ideal) x g (ix2 i k)) (by generalize k0_pay3 (F := Ideal) x g = y; pointwise [k0_pay15]) ?_
  exact Finset.sum_congr rfl fun k _ => by rw [pay3_apply, mul_comm]

end Body

variable (m : (ℓ : Loc nD τ sig) → Buf (Elt Ideal) ℓ) (c : Dev nD)

/-! ## The arrays of the call -/

/-- The tokens' rows. -/
abbrev toks : FVec Ideal S32768x1024 .f32 := shapeCast S32768x1024 (m (c, main_arg0) : FVec Ideal S16x2048x1024 .f32) shapeCasts_S16x2048x1024_S32768x1024
/-- The weights. -/
abbrev wts : FVec Ideal S1024x2840 .f32 := shapeCast S1024x2840 (m (c, main_arg2) : FVec Ideal S1x1024x2840 .f32) shapeCasts_S1x1024x2840_S1024x2840

/-- The projection at an element, of the arguments. -/
abbrev P (t : Fin 32768) (n : ℕ) : EReal :=
  prj (fun t k => toks m c (ix2 t k)) (fun k => (m (c, main_arg1) : FVec Ideal S1x1024 .f32) (ix2 0 k)) (fun k n => wts m c (ix2 k n)) t n

theorem V_toks : V m c main_v22 = toks m c := by
  unfold V
  after_results
  rfl

theorem V_scale (k : Fin 1024) : (V m c main_v24 : S1x1024.Idx → EReal) (ix2 0 k) = (m (c, main_arg1) : FVec Ideal S1x1024 .f32) (ix2 0 k) := by
  have e : V m c main_v24 = broadcastInDim S1x1024 ![1] bcast_S1024_S1x1024_1 (shapeCast S1024 (m (c, main_arg1)) shapeCasts_S1x1024_S1024) := by
    unfold V
    after_results
    rfl
  rw [e]
  pointwise []

theorem V_tok : V m c main_v7 = wTok (wts m c) := by
  unfold V
  after_results
  rfl

theorem V_feat : V m c main_v21 = wFeat (wts m c) := by
  unfold V
  after_results
  rfl

/-! ## A point's blocks -/

theorem tr0 : ∀ i : Fin 64, cc0_transform_0 (grid0.coords i) 0 = i.val := by decide +kernel

variable (t : Fin (cfg0).N)

/-- Row `i` of tile `t`. -/
abbrev row (i : Fin 512) : Fin 32768 := ⟨512 * t.val + i.val, by have : t.val < 64 := t.isLt; omega⟩

theorem ld0 (i : Fin 512) (k : Fin 1024) : (View.ld (iblk m c 0 t) r0_0 : FVec Ideal S512x1024 .f32) (ix2 i k) = toks m c (ix2 (row t i) k) := by
  rw [← V_toks m c]
  refine congrArg (V m c main_v22) ?_
  funext a
  apply Fin.ext
  fin_cases a
  · show cc0_transform_0 (grid0.coords t) 0 * 512 + 1 * (0 + 1 * i.val) = 512 * t.val + i.val
    rw [tr0 t]; omega
  · show 0 * 1024 + 1 * (0 + 1 * k.val) = k.val; omega

theorem ld1 (k : Fin 1024) : (View.ld (iblk m c 1 t) r0_1 : FVec Ideal S1x1024 .f32) (ix2 0 k) = (m (c, main_arg1) : FVec Ideal S1x1024 .f32) (ix2 0 k) := by
  rw [← V_scale m c]
  refine congrArg (V m c main_v24) ?_
  funext a
  apply Fin.ext
  fin_cases a
  · rfl
  · show 0 * 1024 + 1 * (0 + 1 * k.val) = k.val; omega

theorem ld2 (k : Fin 1024) (j : Fin 512) : (View.ld (iblk m c 2 t) r0_2 : FVec Ideal S1024x512 .bf16) (ix2 k j) = wcol (fun k n => wts m c (ix2 k n)) k (colTok j.val) := by
  rw [← wTok_apply (wts m c) k ⟨j.val, by omega⟩, ← V_tok m c]
  refine congrArg (V m c main_v7) ?_
  funext a
  apply Fin.ext
  fin_cases a
  · show 0 * 1024 + 1 * (0 + 1 * k.val) = k.val; omega
  · show 0 * 1024 + 1 * (0 + 1 * j.val) = j.val; omega

theorem ld4 (k : Fin 1024) (j : Fin 512) : (View.ld (iblk m c 2 t) r0_4 : FVec Ideal S1024x512 .bf16) (ix2 k j) = wcol (fun k n => wts m c (ix2 k n)) k (colTok (512 + j.val)) := by
  rw [← wTok_apply (wts m c) k ⟨512 + j.val, by omega⟩, ← V_tok m c]
  refine congrArg (V m c main_v7) ?_
  funext a
  apply Fin.ext
  fin_cases a
  · show 0 * 1024 + 1 * (0 + 1 * k.val) = k.val; omega
  · show 0 * 1024 + 1 * (512 + 1 * j.val) = 512 + j.val; omega

theorem ld9 (n : Fin 1824) (k : Fin 1024) : (View.ld (iblk m c 3 t) r0_9 : FVec Ideal S1824x1024 .bf16) (ix2 n k) = wcol (fun k n => wts m c (ix2 k n)) k (colFeat n.val) := by
  rw [← wFeat_apply (wts m c) n k, ← V_feat m c]
  refine congrArg (V m c main_v21) ?_
  funext a
  apply Fin.ext
  fin_cases a
  · show 0 * 1824 + 1 * (0 + 1 * n.val) = n.val; omega
  · show 0 * 1024 + 1 * (0 + 1 * k.val) = k.val; omega

/-! ## The products of a tile -/

theorem tok_lo (z : S512x512.Idx) : k0_pay4 (View.ld (iblk m c 0 t) r0_0) (View.ld (iblk m c 1 t) r0_1) (View.ld (iblk m c 2 t) r0_2) z = P m c (row t (z 0)) (colTok (z 1).val) := by
  obtain ⟨i, j, rfl⟩ : ∃ (i j : Fin 512), z = ix2 i j := ⟨z 0, z 1, by funext a; fin_cases a <;> rfl⟩
  refine (pay4_apply _ _ _ i j).trans ?_
  exact Finset.sum_congr rfl fun k _ => congr (congrArg HMul.hMul (congrFun (congr (congrArg nrm (funext fun k => ld0 m c t i k)) (funext fun k => ld1 m c t k)) k)) (ld2 m c t k j)

theorem tok_hi (z : S512x512.Idx) : k0_pay9 (View.ld (iblk m c 0 t) r0_0) (View.ld (iblk m c 1 t) r0_1) (View.ld (iblk m c 2 t) r0_4) z = P m c (row t (z 0)) (colTok (512 + (z 1).val)) := by
  obtain ⟨i, j, rfl⟩ : ∃ (i j : Fin 512), z = ix2 i j := ⟨z 0, z 1, by funext a; fin_cases a <;> rfl⟩
  refine (pay9_apply _ _ _ i j).trans ?_
  exact Finset.sum_congr rfl fun k _ => congr (congrArg HMul.hMul (congrFun (congr (congrArg nrm (funext fun k => ld0 m c t i k)) (funext fun k => ld1 m c t k)) k)) (ld4 m c t k j)

theorem feat (z : S1824x512.Idx) : k0_pay15 (F := Ideal) (k0_pay3 (View.ld (iblk m c 0 t) r0_0) (View.ld (iblk m c 1 t) r0_1)) (View.ld (iblk m c 3 t) r0_9) z = P m c (row t (z 1)) (colFeat (z 0).val) := by
  obtain ⟨n, i, rfl⟩ : ∃ (n : Fin 1824) (i : Fin 512), z = ix2 n i := ⟨z 0, z 1, by funext a; fin_cases a <;> rfl⟩
  refine (pay15_apply _ _ _ n i).trans ?_
  exact Finset.sum_congr rfl fun k _ => congr (congrArg HMul.hMul (congrFun (congr (congrArg nrm (funext fun k => ld0 m c t i k)) (funext fun k => ld1 m c t k)) k)) (ld9 m c t n k)

end Cert.Kernel2Ideal.Hand

end
-- ==== Proof.ProjKer.lean ====
/-
  The input projection's call over the extended reals: each result array, element by element.
-/
module

public import proofs.«01_k».proof.Proof.Gen.Kernel2Ideal.Value
public import proofs.«01_k».proof.Proof.ProjTile
public import Idealize.ShloMosaic.Lib.Pointwise
public import Idealize.ShloMosaic.Lib.Pipeline.Value

@[expose] public section

set_option maxRecDepth 16384

noncomputable section

namespace Cert.Kernel2Ideal.Hand

open Idealize.ShloMosaic Idealize.ShloMosaic.Pointwise Idealize.ShloMosaic.Tactic Idealize.ShloMosaic.TcCoe Cert.Kernel2Ideal Cert.Kernel2Ideal.Gen Cert.Moe Cert.Proj
open Idealize.SL.Sem
set_option maxHeartbeats 4000000

variable (m : (ℓ : Loc nD τ sig) → Buf (Elt Ideal) ℓ) (c : Dev nD) (t : Fin (cfg0).N)

/-! ## Result 0 -/

/-- Result 0's contents. -/
def res0 : S4x128x32768.Idx → EReal := fun y => P m c ⟨(y 2).val, (y 2).isLt⟩ (colFeat ((y 0).val * 128 + (y 1).val)) * Ideal.ofBits .f32 0x3E38AA3B#32

theorem tr4 : ∀ i : Fin 64, cc0_transform_4 (grid0.coords i) 2 = i.val := by decide +kernel

theorem emb4 (y : S4x128x512.Idx) (a : Fin 3) : (((cfg0).win 4).blk t).view.emb y a = ((if a.val = 2 then 512 * t.val + (y a).val else (y a).val : ℕ)) := by
  fin_cases a
  · show 0 * 4 + 1 * (y 0).val = (y 0).val
    omega
  · show 0 * 128 + 1 * (y 1).val = (y 1).val
    omega
  · show cc0_transform_4 (grid0.coords t) 2 * 512 + 1 * (y 2).val = 512 * t.val + (y 2).val
    rw [tr4 t]; omega

theorem flushed4_eq : (dats m 0 c).flushed 4 t = (((cfg0).win 4).blk t).view.read (Elt Ideal) (res0 m c) := by
  rw [Value.flushed4]
  funext y
  refine Eq.trans (b := Value.E4 (View.ld (iblk m c 0 t) r0_0) (View.ld (iblk m c 1 t) r0_1) (View.ld (iblk m c 3 t) r0_9) y) (Value.canon4_eq _ _ _ y) ?_
  have e0 : ((((cfg0).win 4).blk t).view.emb y 0).val = (y 0).val := emb4 t y 0
  have e1 : ((((cfg0).win 4).blk t).view.emb y 1).val = (y 1).val := emb4 t y 1
  have e2 : ((((cfg0).win 4).blk t).view.emb y 2).val = 512 * t.val + (y 2).val := emb4 t y 2
  show _ = res0 m c ((((cfg0).win 4).blk t).view.emb y)
  generalize (((cfg0).win 4).blk t).view.emb y = Y at *
  have h : P m c (row t ⟨(y 2).val, (y 2).isLt⟩) (colFeat ((y 0).val * 128 + (y 1).val)) = P m c ⟨(Y 2).val, (Y 2).isLt⟩ (colFeat ((Y 0).val * 128 + (Y 1).val)) := prj_congr _ _ _ (e2).symm (congrArg colFeat (by rw [e0, e1]))
  exact congrArg (· * Ideal.ofBits .f32 0x3E38AA3B#32) (((feat m c t (Value.ix4_0 y)).trans h))

theorem flush4 : ∀ i : Fin grid0.N, Pipeline.Window.flushOf grid0 true cc0_transform_4 i = true := by decide +kernel

theorem cover4 (y : S4x128x32768.Idx) : ∃ t : Fin (cfg0).N, ((cfg0).win 4).flush t = true
    ∧ y ∈ (((cfg0).win 4).blk t).view.set := by
  have h : (y 2).val < 32768 := (y 2).isLt
  have hn : (y 2).val / 512 < 64 := by omega
  refine ⟨⟨(y 2).val / 512, hn⟩, flush4 ⟨_, hn⟩, Finset.mem_map.2 ⟨(ix3 (y 0) (y 1) ⟨(y 2).val % 512, Nat.mod_lt _ (by decide)⟩ : S4x128x512.Idx), Finset.mem_univ _, ?_⟩⟩
  funext a
  apply Fin.ext
  refine (emb4 (⟨(y 2).val / 512, hn⟩ : Fin 64) _ a).trans ?_
  fin_cases a
  · rfl
  · rfl
  · show 512 * ((y 2).val / 512) + (y 2).val % 512 = (y 2).val
    omega

theorem final4 : (dats m 0 c).arrAt 4 (cfg0).N = res0 m c :=
  (dats m 0 c).arrAt_eq_of_cover 4 (res0 m c) (fun t _ => flushed4_eq m c t) cover4

/-! ## Result 1 -/

/-- Result 1's contents. -/
def res1 : S32768x128.Idx → EReal := fun y => P m c ⟨(y 0).val, (y 0).isLt⟩ (colTok (y 1).val)

theorem tr5 : ∀ i : Fin 64, cc0_transform_5 (grid0.coords i) 0 = i.val := by decide +kernel

theorem emb5 (y : S512x128.Idx) (a : Fin 2) : (((cfg0).win 5).blk t).view.emb y a = ((if a.val = 0 then 512 * t.val + (y a).val else (y a).val : ℕ)) := by
  fin_cases a
  · show cc0_transform_5 (grid0.coords t) 0 * 512 + 1 * (y 0).val = 512 * t.val + (y 0).val
    rw [tr5 t]; omega
  · show 0 * 128 + 1 * (y 1).val = (y 1).val
    omega

theorem flushed5_eq : (dats m 0 c).flushed 5 t = (((cfg0).win 5).blk t).view.read (Elt Ideal) (res1 m c) := by
  rw [Value.flushed5]
  funext y
  refine Eq.trans (b := Value.E5 (View.ld (iblk m c 0 t) r0_0) (View.ld (iblk m c 1 t) r0_1) (View.ld (iblk m c 2 t) r0_2) y) (Value.canon5_eq _ _ _ y) ?_
  have e0 : ((((cfg0).win 5).blk t).view.emb y 0).val = 512 * t.val + (y 0).val := emb5 t y 0
  have e1 : ((((cfg0).win 5).blk t).view.emb y 1).val = (y 1).val := emb5 t y 1
  show _ = res1 m c ((((cfg0).win 5).blk t).view.emb y)
  generalize (((cfg0).win 5).blk t).view.emb y = Y at *
  have h : P m c (row t ⟨(y 0).val, (y 0).isLt⟩) (colTok (y 1).val) = P m c ⟨(Y 0).val, (Y 0).isLt⟩ (colTok (Y 1).val) := prj_congr _ _ _ (e0).symm (congrArg colTok (by rw [e1]))
  exact (tok_lo m c t (Value.ix5_0 y)).trans h

theorem flush5 : ∀ i : Fin grid0.N, Pipeline.Window.flushOf grid0 true cc0_transform_5 i = true := by decide +kernel

theorem cover5 (y : S32768x128.Idx) : ∃ t : Fin (cfg0).N, ((cfg0).win 5).flush t = true
    ∧ y ∈ (((cfg0).win 5).blk t).view.set := by
  have h : (y 0).val < 32768 := (y 0).isLt
  have hn : (y 0).val / 512 < 64 := by omega
  refine ⟨⟨(y 0).val / 512, hn⟩, flush5 ⟨_, hn⟩, Finset.mem_map.2 ⟨(ix2 ⟨(y 0).val % 512, Nat.mod_lt _ (by decide)⟩ (y 1) : S512x128.Idx), Finset.mem_univ _, ?_⟩⟩
  funext a
  apply Fin.ext
  refine (emb5 (⟨(y 0).val / 512, hn⟩ : Fin 64) _ a).trans ?_
  fin_cases a
  · show 512 * ((y 0).val / 512) + (y 0).val % 512 = (y 0).val
    omega
  · rfl

theorem final5 : (dats m 0 c).arrAt 5 (cfg0).N = res1 m c :=
  (dats m 0 c).arrAt_eq_of_cover 5 (res1 m c) (fun t _ => flushed5_eq m c t) cover5

/-! ## Result 2 -/

/-- Result 2's contents. -/
def res2 : S32768x128.Idx → EReal := fun y => P m c ⟨(y 0).val, (y 0).isLt⟩ (colTok ((y 1).val + 128))

theorem tr6 : ∀ i : Fin 64, cc0_transform_6 (grid0.coords i) 0 = i.val := by decide +kernel

theorem emb6 (y : S512x128.Idx) (a : Fin 2) : (((cfg0).win 6).blk t).view.emb y a = ((if a.val = 0 then 512 * t.val + (y a).val else (y a).val : ℕ)) := by
  fin_cases a
  · show cc0_transform_6 (grid0.coords t) 0 * 512 + 1 * (y 0).val = 512 * t.val + (y 0).val
    rw [tr6 t]; omega
  · show 0 * 128 + 1 * (y 1).val = (y 1).val
    omega

theorem flushed6_eq : (dats m 0 c).flushed 6 t = (((cfg0).win 6).blk t).view.read (Elt Ideal) (res2 m c) := by
  rw [Value.flushed6]
  funext y
  refine Eq.trans (b := Value.E6 (View.ld (iblk m c 0 t) r0_0) (View.ld (iblk m c 1 t) r0_1) (View.ld (iblk m c 2 t) r0_2) y) (Value.canon6_eq _ _ _ y) ?_
  have e0 : ((((cfg0).win 6).blk t).view.emb y 0).val = 512 * t.val + (y 0).val := emb6 t y 0
  have e1 : ((((cfg0).win 6).blk t).view.emb y 1).val = (y 1).val := emb6 t y 1
  show _ = res2 m c ((((cfg0).win 6).blk t).view.emb y)
  generalize (((cfg0).win 6).blk t).view.emb y = Y at *
  have h : P m c (row t ⟨(y 0).val, (y 0).isLt⟩) (colTok ((y 1).val + 128)) = P m c ⟨(Y 0).val, (Y 0).isLt⟩ (colTok ((Y 1).val + 128)) := prj_congr _ _ _ (e0).symm (congrArg colTok (by rw [e1]))
  exact (tok_lo m c t (Value.ix6_0 y)).trans h

theorem flush6 : ∀ i : Fin grid0.N, Pipeline.Window.flushOf grid0 true cc0_transform_6 i = true := by decide +kernel

theorem cover6 (y : S32768x128.Idx) : ∃ t : Fin (cfg0).N, ((cfg0).win 6).flush t = true
    ∧ y ∈ (((cfg0).win 6).blk t).view.set := by
  have h : (y 0).val < 32768 := (y 0).isLt
  have hn : (y 0).val / 512 < 64 := by omega
  refine ⟨⟨(y 0).val / 512, hn⟩, flush6 ⟨_, hn⟩, Finset.mem_map.2 ⟨(ix2 ⟨(y 0).val % 512, Nat.mod_lt _ (by decide)⟩ (y 1) : S512x128.Idx), Finset.mem_univ _, ?_⟩⟩
  funext a
  apply Fin.ext
  refine (emb6 (⟨(y 0).val / 512, hn⟩ : Fin 64) _ a).trans ?_
  fin_cases a
  · show 512 * ((y 0).val / 512) + (y 0).val % 512 = (y 0).val
    omega
  · rfl

theorem final6 : (dats m 0 c).arrAt 6 (cfg0).N = res2 m c :=
  (dats m 0 c).arrAt_eq_of_cover 6 (res2 m c) (fun t _ => flushed6_eq m c t) cover6

/-! ## Result 3 -/

/-- Result 3's contents. -/
def res3 : S32768x128.Idx → EReal := fun y => P m c ⟨(y 0).val, (y 0).isLt⟩ (colTok ((y 1).val + 256))

theorem tr7 : ∀ i : Fin 64, cc0_transform_7 (grid0.coords i) 0 = i.val := by decide +kernel

theorem emb7 (y : S512x128.Idx) (a : Fin 2) : (((cfg0).win 7).blk t).view.emb y a = ((if a.val = 0 then 512 * t.val + (y a).val else (y a).val : ℕ)) := by
  fin_cases a
  · show cc0_transform_7 (grid0.coords t) 0 * 512 + 1 * (y 0).val = 512 * t.val + (y 0).val
    rw [tr7 t]; omega
  · show 0 * 128 + 1 * (y 1).val = (y 1).val
    omega

theorem flushed7_eq : (dats m 0 c).flushed 7 t = (((cfg0).win 7).blk t).view.read (Elt Ideal) (res3 m c) := by
  rw [Value.flushed7]
  funext y
  refine Eq.trans (b := Value.E7 (View.ld (iblk m c 0 t) r0_0) (View.ld (iblk m c 1 t) r0_1) (View.ld (iblk m c 2 t) r0_2) y) (Value.canon7_eq _ _ _ y) ?_
  have e0 : ((((cfg0).win 7).blk t).view.emb y 0).val = 512 * t.val + (y 0).val := emb7 t y 0
  have e1 : ((((cfg0).win 7).blk t).view.emb y 1).val = (y 1).val := emb7 t y 1
  show _ = res3 m c ((((cfg0).win 7).blk t).view.emb y)
  generalize (((cfg0).win 7).blk t).view.emb y = Y at *
  have h : P m c (row t ⟨(y 0).val, (y 0).isLt⟩) (colTok ((y 1).val + 256)) = P m c ⟨(Y 0).val, (Y 0).isLt⟩ (colTok ((Y 1).val + 256)) := prj_congr _ _ _ (e0).symm (congrArg colTok (by rw [e1]))
  exact (tok_lo m c t (Value.ix7_0 y)).trans h

theorem flush7 : ∀ i : Fin grid0.N, Pipeline.Window.flushOf grid0 true cc0_transform_7 i = true := by decide +kernel

theorem cover7 (y : S32768x128.Idx) : ∃ t : Fin (cfg0).N, ((cfg0).win 7).flush t = true
    ∧ y ∈ (((cfg0).win 7).blk t).view.set := by
  have h : (y 0).val < 32768 := (y 0).isLt
  have hn : (y 0).val / 512 < 64 := by omega
  refine ⟨⟨(y 0).val / 512, hn⟩, flush7 ⟨_, hn⟩, Finset.mem_map.2 ⟨(ix2 ⟨(y 0).val % 512, Nat.mod_lt _ (by decide)⟩ (y 1) : S512x128.Idx), Finset.mem_univ _, ?_⟩⟩
  funext a
  apply Fin.ext
  refine (emb7 (⟨(y 0).val / 512, hn⟩ : Fin 64) _ a).trans ?_
  fin_cases a
  · show 512 * ((y 0).val / 512) + (y 0).val % 512 = (y 0).val
    omega
  · rfl

theorem final7 : (dats m 0 c).arrAt 7 (cfg0).N = res3 m c :=
  (dats m 0 c).arrAt_eq_of_cover 7 (res3 m c) (fun t _ => flushed7_eq m c t) cover7

/-! ## Result 4 -/

/-- Result 4's contents. -/
def res4 : S32768x128.Idx → EReal := fun y => P m c ⟨(y 0).val, (y 0).isLt⟩ (colTok ((y 1).val + 384))

theorem tr8 : ∀ i : Fin 64, cc0_transform_8 (grid0.coords i) 0 = i.val := by decide +kernel

theorem emb8 (y : S512x128.Idx) (a : Fin 2) : (((cfg0).win 8).blk t).view.emb y a = ((if a.val = 0 then 512 * t.val + (y a).val else (y a).val : ℕ)) := by
  fin_cases a
  · show cc0_transform_8 (grid0.coords t) 0 * 512 + 1 * (y 0).val = 512 * t.val + (y 0).val
    rw [tr8 t]; omega
  · show 0 * 128 + 1 * (y 1).val = (y 1).val
    omega

theorem flushed8_eq : (dats m 0 c).flushed 8 t = (((cfg0).win 8).blk t).view.read (Elt Ideal) (res4 m c) := by
  rw [Value.flushed8]
  funext y
  refine Eq.trans (b := Value.E8 (View.ld (iblk m c 0 t) r0_0) (View.ld (iblk m c 1 t) r0_1) (View.ld (iblk m c 2 t) r0_2) y) (Value.canon8_eq _ _ _ y) ?_
  have e0 : ((((cfg0).win 8).blk t).view.emb y 0).val = 512 * t.val + (y 0).val := emb8 t y 0
  have e1 : ((((cfg0).win 8).blk t).view.emb y 1).val = (y 1).val := emb8 t y 1
  show _ = res4 m c ((((cfg0).win 8).blk t).view.emb y)
  generalize (((cfg0).win 8).blk t).view.emb y = Y at *
  have h : P m c (row t ⟨(y 0).val, (y 0).isLt⟩) (colTok ((y 1).val + 384)) = P m c ⟨(Y 0).val, (Y 0).isLt⟩ (colTok ((Y 1).val + 384)) := prj_congr _ _ _ (e0).symm (congrArg colTok (by rw [e1]))
  exact (tok_lo m c t (Value.ix8_0 y)).trans h

theorem flush8 : ∀ i : Fin grid0.N, Pipeline.Window.flushOf grid0 true cc0_transform_8 i = true := by decide +kernel

theorem cover8 (y : S32768x128.Idx) : ∃ t : Fin (cfg0).N, ((cfg0).win 8).flush t = true
    ∧ y ∈ (((cfg0).win 8).blk t).view.set := by
  have h : (y 0).val < 32768 := (y 0).isLt
  have hn : (y 0).val / 512 < 64 := by omega
  refine ⟨⟨(y 0).val / 512, hn⟩, flush8 ⟨_, hn⟩, Finset.mem_map.2 ⟨(ix2 ⟨(y 0).val % 512, Nat.mod_lt _ (by decide)⟩ (y 1) : S512x128.Idx), Finset.mem_univ _, ?_⟩⟩
  funext a
  apply Fin.ext
  refine (emb8 (⟨(y 0).val / 512, hn⟩ : Fin 64) _ a).trans ?_
  fin_cases a
  · show 512 * ((y 0).val / 512) + (y 0).val % 512 = (y 0).val
    omega
  · rfl

theorem final8 : (dats m 0 c).arrAt 8 (cfg0).N = res4 m c :=
  (dats m 0 c).arrAt_eq_of_cover 8 (res4 m c) (fun t _ => flushed8_eq m c t) cover8

/-! ## Result 5 -/

/-- Result 5's contents. -/
def res5 : S4x128x32768.Idx → EReal := fun y => P m c ⟨(y 2).val, (y 2).isLt⟩ (colFeat ((y 0).val * 128 + (y 1).val + 512)) * Ideal.ofBits .f32 0x3E8293EE#32

theorem tr9 : ∀ i : Fin 64, cc0_transform_9 (grid0.coords i) 2 = i.val := by decide +kernel

theorem emb9 (y : S4x128x512.Idx) (a : Fin 3) : (((cfg0).win 9).blk t).view.emb y a = ((if a.val = 2 then 512 * t.val + (y a).val else (y a).val : ℕ)) := by
  fin_cases a
  · show 0 * 4 + 1 * (y 0).val = (y 0).val
    omega
  · show 0 * 128 + 1 * (y 1).val = (y 1).val
    omega
  · show cc0_transform_9 (grid0.coords t) 2 * 512 + 1 * (y 2).val = 512 * t.val + (y 2).val
    rw [tr9 t]; omega

theorem flushed9_eq : (dats m 0 c).flushed 9 t = (((cfg0).win 9).blk t).view.read (Elt Ideal) (res5 m c) := by
  rw [Value.flushed9]
  funext y
  refine Eq.trans (b := Value.E9 (View.ld (iblk m c 0 t) r0_0) (View.ld (iblk m c 1 t) r0_1) (View.ld (iblk m c 3 t) r0_9) y) (Value.canon9_eq _ _ _ y) ?_
  have e0 : ((((cfg0).win 9).blk t).view.emb y 0).val = (y 0).val := emb9 t y 0
  have e1 : ((((cfg0).win 9).blk t).view.emb y 1).val = (y 1).val := emb9 t y 1
  have e2 : ((((cfg0).win 9).blk t).view.emb y 2).val = 512 * t.val + (y 2).val := emb9 t y 2
  show _ = res5 m c ((((cfg0).win 9).blk t).view.emb y)
  generalize (((cfg0).win 9).blk t).view.emb y = Y at *
  have h : P m c (row t ⟨(y 2).val, (y 2).isLt⟩) (colFeat ((y 0).val * 128 + (y 1).val + 512)) = P m c ⟨(Y 2).val, (Y 2).isLt⟩ (colFeat ((Y 0).val * 128 + (Y 1).val + 512)) := prj_congr _ _ _ (e2).symm (congrArg colFeat (by rw [e0, e1]))
  exact congrArg (· * Ideal.ofBits .f32 0x3E8293EE#32) (((feat m c t (Value.ix9_0 y)).trans h))

theorem flush9 : ∀ i : Fin grid0.N, Pipeline.Window.flushOf grid0 true cc0_transform_9 i = true := by decide +kernel

theorem cover9 (y : S4x128x32768.Idx) : ∃ t : Fin (cfg0).N, ((cfg0).win 9).flush t = true
    ∧ y ∈ (((cfg0).win 9).blk t).view.set := by
  have h : (y 2).val < 32768 := (y 2).isLt
  have hn : (y 2).val / 512 < 64 := by omega
  refine ⟨⟨(y 2).val / 512, hn⟩, flush9 ⟨_, hn⟩, Finset.mem_map.2 ⟨(ix3 (y 0) (y 1) ⟨(y 2).val % 512, Nat.mod_lt _ (by decide)⟩ : S4x128x512.Idx), Finset.mem_univ _, ?_⟩⟩
  funext a
  apply Fin.ext
  refine (emb9 (⟨(y 2).val / 512, hn⟩ : Fin 64) _ a).trans ?_
  fin_cases a
  · rfl
  · rfl
  · show 512 * ((y 2).val / 512) + (y 2).val % 512 = (y 2).val
    omega

theorem final9 : (dats m 0 c).arrAt 9 (cfg0).N = res5 m c :=
  (dats m 0 c).arrAt_eq_of_cover 9 (res5 m c) (fun t _ => flushed9_eq m c t) cover9

/-! ## Result 6 -/

/-- Result 6's contents. -/
def res6 : S4x32768x128.Idx → EReal := fun y => P m c ⟨(y 1).val, (y 1).isLt⟩ (colTok (512 + ((y 0).val * 128 + (y 2).val)))

theorem tr10 : ∀ i : Fin 64, cc0_transform_10 (grid0.coords i) 1 = i.val := by decide +kernel

theorem emb10 (y : S4x512x128.Idx) (a : Fin 3) : (((cfg0).win 10).blk t).view.emb y a = ((if a.val = 1 then 512 * t.val + (y a).val else (y a).val : ℕ)) := by
  fin_cases a
  · show 0 * 4 + 1 * (y 0).val = (y 0).val
    omega
  · show cc0_transform_10 (grid0.coords t) 1 * 512 + 1 * (y 1).val = 512 * t.val + (y 1).val
    rw [tr10 t]; omega
  · show 0 * 128 + 1 * (y 2).val = (y 2).val
    omega

theorem flushed10_eq : (dats m 0 c).flushed 10 t = (((cfg0).win 10).blk t).view.read (Elt Ideal) (res6 m c) := by
  rw [Value.flushed10]
  funext y
  refine Eq.trans (b := Value.E10 (View.ld (iblk m c 0 t) r0_0) (View.ld (iblk m c 1 t) r0_1) (View.ld (iblk m c 2 t) r0_4) y) (Value.canon10_eq _ _ _ y) ?_
  have e0 : ((((cfg0).win 10).blk t).view.emb y 0).val = (y 0).val := emb10 t y 0
  have e1 : ((((cfg0).win 10).blk t).view.emb y 1).val = 512 * t.val + (y 1).val := emb10 t y 1
  have e2 : ((((cfg0).win 10).blk t).view.emb y 2).val = (y 2).val := emb10 t y 2
  show _ = res6 m c ((((cfg0).win 10).blk t).view.emb y)
  generalize (((cfg0).win 10).blk t).view.emb y = Y at *
  have h : P m c (row t ⟨(y 1).val, (y 1).isLt⟩) (colTok (512 + ((y 0).val * 128 + (y 2).val))) = P m c ⟨(Y 1).val, (Y 1).isLt⟩ (colTok (512 + ((Y 0).val * 128 + (Y 2).val))) := prj_congr _ _ _ (e1).symm (congrArg colTok (by rw [e0, e2]))
  exact (tok_hi m c t (Value.ix10_0 y)).trans h

theorem flush10 : ∀ i : Fin grid0.N, Pipeline.Window.flushOf grid0 true cc0_transform_10 i = true := by decide +kernel

theorem cover10 (y : S4x32768x128.Idx) : ∃ t : Fin (cfg0).N, ((cfg0).win 10).flush t = true
    ∧ y ∈ (((cfg0).win 10).blk t).view.set := by
  have h : (y 1).val < 32768 := (y 1).isLt
  have hn : (y 1).val / 512 < 64 := by omega
  refine ⟨⟨(y 1).val / 512, hn⟩, flush10 ⟨_, hn⟩, Finset.mem_map.2 ⟨(ix3 (y 0) ⟨(y 1).val % 512, Nat.mod_lt _ (by decide)⟩ (y 2) : S4x512x128.Idx), Finset.mem_univ _, ?_⟩⟩
  funext a
  apply Fin.ext
  refine (emb10 (⟨(y 1).val / 512, hn⟩ : Fin 64) _ a).trans ?_
  fin_cases a
  · rfl
  · show 512 * ((y 1).val / 512) + (y 1).val % 512 = (y 1).val
    omega
  · rfl

theorem final10 : (dats m 0 c).arrAt 10 (cfg0).N = res6 m c :=
  (dats m 0 c).arrAt_eq_of_cover 10 (res6 m c) (fun t _ => flushed10_eq m c t) cover10

/-! ## Result 7 -/

/-- Result 7's contents. -/
def res7 : S128x32768.Idx → EReal := fun y => P m c ⟨(y 1).val, (y 1).isLt⟩ (colFeat ((y 0).val + 1024))

theorem tr11 : ∀ i : Fin 64, cc0_transform_11 (grid0.coords i) 1 = i.val := by decide +kernel

theorem emb11 (y : S128x512.Idx) (a : Fin 2) : (((cfg0).win 11).blk t).view.emb y a = ((if a.val = 1 then 512 * t.val + (y a).val else (y a).val : ℕ)) := by
  fin_cases a
  · show 0 * 128 + 1 * (y 0).val = (y 0).val
    omega
  · show cc0_transform_11 (grid0.coords t) 1 * 512 + 1 * (y 1).val = 512 * t.val + (y 1).val
    rw [tr11 t]; omega

theorem flushed11_eq : (dats m 0 c).flushed 11 t = (((cfg0).win 11).blk t).view.read (Elt Ideal) (res7 m c) := by
  rw [Value.flushed11]
  funext y
  refine Eq.trans (b := Value.E11 (View.ld (iblk m c 0 t) r0_0) (View.ld (iblk m c 1 t) r0_1) (View.ld (iblk m c 3 t) r0_9) y) (Value.canon11_eq _ _ _ y) ?_
  have e0 : ((((cfg0).win 11).blk t).view.emb y 0).val = (y 0).val := emb11 t y 0
  have e1 : ((((cfg0).win 11).blk t).view.emb y 1).val = 512 * t.val + (y 1).val := emb11 t y 1
  show _ = res7 m c ((((cfg0).win 11).blk t).view.emb y)
  generalize (((cfg0).win 11).blk t).view.emb y = Y at *
  have h : P m c (row t ⟨(y 1).val, (y 1).isLt⟩) (colFeat ((y 0).val + 1024)) = P m c ⟨(Y 1).val, (Y 1).isLt⟩ (colFeat ((Y 0).val + 1024)) := prj_congr _ _ _ (e1).symm (congrArg colFeat (by rw [e0]))
  exact (feat m c t (Value.ix11_0 y)).trans h

theorem flush11 : ∀ i : Fin grid0.N, Pipeline.Window.flushOf grid0 true cc0_transform_11 i = true := by decide +kernel

theorem cover11 (y : S128x32768.Idx) : ∃ t : Fin (cfg0).N, ((cfg0).win 11).flush t = true
    ∧ y ∈ (((cfg0).win 11).blk t).view.set := by
  have h : (y 1).val < 32768 := (y 1).isLt
  have hn : (y 1).val / 512 < 64 := by omega
  refine ⟨⟨(y 1).val / 512, hn⟩, flush11 ⟨_, hn⟩, Finset.mem_map.2 ⟨(ix2 (y 0) ⟨(y 1).val % 512, Nat.mod_lt _ (by decide)⟩ : S128x512.Idx), Finset.mem_univ _, ?_⟩⟩
  funext a
  apply Fin.ext
  refine (emb11 (⟨(y 1).val / 512, hn⟩ : Fin 64) _ a).trans ?_
  fin_cases a
  · rfl
  · show 512 * ((y 1).val / 512) + (y 1).val % 512 = (y 1).val
    omega

theorem final11 : (dats m 0 c).arrAt 11 (cfg0).N = res7 m c :=
  (dats m 0 c).arrAt_eq_of_cover 11 (res7 m c) (fun t _ => flushed11_eq m c t) cover11

/-! ## Result 8 -/

/-- Result 8's contents. -/
def res8 : S128x32768.Idx → EReal := fun y => P m c ⟨(y 1).val, (y 1).isLt⟩ (colFeat ((y 0).val + 1152))

theorem tr12 : ∀ i : Fin 64, cc0_transform_12 (grid0.coords i) 1 = i.val := by decide +kernel

theorem emb12 (y : S128x512.Idx) (a : Fin 2) : (((cfg0).win 12).blk t).view.emb y a = ((if a.val = 1 then 512 * t.val + (y a).val else (y a).val : ℕ)) := by
  fin_cases a
  · show 0 * 128 + 1 * (y 0).val = (y 0).val
    omega
  · show cc0_transform_12 (grid0.coords t) 1 * 512 + 1 * (y 1).val = 512 * t.val + (y 1).val
    rw [tr12 t]; omega

theorem flushed12_eq : (dats m 0 c).flushed 12 t = (((cfg0).win 12).blk t).view.read (Elt Ideal) (res8 m c) := by
  rw [Value.flushed12]
  funext y
  refine Eq.trans (b := Value.E12 (View.ld (iblk m c 0 t) r0_0) (View.ld (iblk m c 1 t) r0_1) (View.ld (iblk m c 3 t) r0_9) y) (Value.canon12_eq _ _ _ y) ?_
  have e0 : ((((cfg0).win 12).blk t).view.emb y 0).val = (y 0).val := emb12 t y 0
  have e1 : ((((cfg0).win 12).blk t).view.emb y 1).val = 512 * t.val + (y 1).val := emb12 t y 1
  show _ = res8 m c ((((cfg0).win 12).blk t).view.emb y)
  generalize (((cfg0).win 12).blk t).view.emb y = Y at *
  have h : P m c (row t ⟨(y 1).val, (y 1).isLt⟩) (colFeat ((y 0).val + 1152)) = P m c ⟨(Y 1).val, (Y 1).isLt⟩ (colFeat ((Y 0).val + 1152)) := prj_congr _ _ _ (e1).symm (congrArg colFeat (by rw [e0]))
  exact (feat m c t (Value.ix12_0 y)).trans h

theorem flush12 : ∀ i : Fin grid0.N, Pipeline.Window.flushOf grid0 true cc0_transform_12 i = true := by decide +kernel

theorem cover12 (y : S128x32768.Idx) : ∃ t : Fin (cfg0).N, ((cfg0).win 12).flush t = true
    ∧ y ∈ (((cfg0).win 12).blk t).view.set := by
  have h : (y 1).val < 32768 := (y 1).isLt
  have hn : (y 1).val / 512 < 64 := by omega
  refine ⟨⟨(y 1).val / 512, hn⟩, flush12 ⟨_, hn⟩, Finset.mem_map.2 ⟨(ix2 (y 0) ⟨(y 1).val % 512, Nat.mod_lt _ (by decide)⟩ : S128x512.Idx), Finset.mem_univ _, ?_⟩⟩
  funext a
  apply Fin.ext
  refine (emb12 (⟨(y 1).val / 512, hn⟩ : Fin 64) _ a).trans ?_
  fin_cases a
  · rfl
  · show 512 * ((y 1).val / 512) + (y 1).val % 512 = (y 1).val
    omega

theorem final12 : (dats m 0 c).arrAt 12 (cfg0).N = res8 m c :=
  (dats m 0 c).arrAt_eq_of_cover 12 (res8 m c) (fun t _ => flushed12_eq m c t) cover12

/-! ## Result 9 -/

/-- Result 9's contents. -/
def res9 : S4x128x32768.Idx → EReal := fun y => P m c ⟨(y 2).val, (y 2).isLt⟩ (colFeat ((y 0).val * 128 + (y 1).val + 1280))

theorem tr13 : ∀ i : Fin 64, cc0_transform_13 (grid0.coords i) 2 = i.val := by decide +kernel

theorem emb13 (y : S4x128x512.Idx) (a : Fin 3) : (((cfg0).win 13).blk t).view.emb y a = ((if a.val = 2 then 512 * t.val + (y a).val else (y a).val : ℕ)) := by
  fin_cases a
  · show 0 * 4 + 1 * (y 0).val = (y 0).val
    omega
  · show 0 * 128 + 1 * (y 1).val = (y 1).val
    omega
  · show cc0_transform_13 (grid0.coords t) 2 * 512 + 1 * (y 2).val = 512 * t.val + (y 2).val
    rw [tr13 t]; omega

theorem flushed13_eq : (dats m 0 c).flushed 13 t = (((cfg0).win 13).blk t).view.read (Elt Ideal) (res9 m c) := by
  rw [Value.flushed13]
  funext y
  refine Eq.trans (b := Value.E13 (View.ld (iblk m c 0 t) r0_0) (View.ld (iblk m c 1 t) r0_1) (View.ld (iblk m c 3 t) r0_9) y) (Value.canon13_eq _ _ _ y) ?_
  have e0 : ((((cfg0).win 13).blk t).view.emb y 0).val = (y 0).val := emb13 t y 0
  have e1 : ((((cfg0).win 13).blk t).view.emb y 1).val = (y 1).val := emb13 t y 1
  have e2 : ((((cfg0).win 13).blk t).view.emb y 2).val = 512 * t.val + (y 2).val := emb13 t y 2
  show _ = res9 m c ((((cfg0).win 13).blk t).view.emb y)
  generalize (((cfg0).win 13).blk t).view.emb y = Y at *
  have h : P m c (row t ⟨(y 2).val, (y 2).isLt⟩) (colFeat ((y 0).val * 128 + (y 1).val + 1280)) = P m c ⟨(Y 2).val, (Y 2).isLt⟩ (colFeat ((Y 0).val * 128 + (Y 1).val + 1280)) := prj_congr _ _ _ (e2).symm (congrArg colFeat (by rw [e0, e1]))
  exact (feat m c t (Value.ix13_0 y)).trans h

theorem flush13 : ∀ i : Fin grid0.N, Pipeline.Window.flushOf grid0 true cc0_transform_13 i = true := by decide +kernel

theorem cover13 (y : S4x128x32768.Idx) : ∃ t : Fin (cfg0).N, ((cfg0).win 13).flush t = true
    ∧ y ∈ (((cfg0).win 13).blk t).view.set := by
  have h : (y 2).val < 32768 := (y 2).isLt
  have hn : (y 2).val / 512 < 64 := by omega
  refine ⟨⟨(y 2).val / 512, hn⟩, flush13 ⟨_, hn⟩, Finset.mem_map.2 ⟨(ix3 (y 0) (y 1) ⟨(y 2).val % 512, Nat.mod_lt _ (by decide)⟩ : S4x128x512.Idx), Finset.mem_univ _, ?_⟩⟩
  funext a
  apply Fin.ext
  refine (emb13 (⟨(y 2).val / 512, hn⟩ : Fin 64) _ a).trans ?_
  fin_cases a
  · rfl
  · rfl
  · show 512 * ((y 2).val / 512) + (y 2).val % 512 = (y 2).val
    omega

theorem final13 : (dats m 0 c).arrAt 13 (cfg0).N = res9 m c :=
  (dats m 0 c).arrAt_eq_of_cover 13 (res9 m c) (fun t _ => flushed13_eq m c t) cover13

/-! ## Result 10 -/

/-- Result 10's contents. -/
def res10 : S32x32768.Idx → EReal := fun y => P m c ⟨(y 1).val, (y 1).isLt⟩ (colFeat ((y 0).val + 1792))

theorem tr14 : ∀ i : Fin 64, cc0_transform_14 (grid0.coords i) 1 = i.val := by decide +kernel

theorem emb14 (y : S32x512.Idx) (a : Fin 2) : (((cfg0).win 14).blk t).view.emb y a = ((if a.val = 1 then 512 * t.val + (y a).val else (y a).val : ℕ)) := by
  fin_cases a
  · show 0 * 32 + 1 * (y 0).val = (y 0).val
    omega
  · show cc0_transform_14 (grid0.coords t) 1 * 512 + 1 * (y 1).val = 512 * t.val + (y 1).val
    rw [tr14 t]; omega

theorem flushed14_eq : (dats m 0 c).flushed 14 t = (((cfg0).win 14).blk t).view.read (Elt Ideal) (res10 m c) := by
  rw [Value.flushed14]
  funext y
  refine Eq.trans (b := Value.E14 (View.ld (iblk m c 0 t) r0_0) (View.ld (iblk m c 1 t) r0_1) (View.ld (iblk m c 3 t) r0_9) y) (Value.canon14_eq _ _ _ y) ?_
  have e0 : ((((cfg0).win 14).blk t).view.emb y 0).val = (y 0).val := emb14 t y 0
  have e1 : ((((cfg0).win 14).blk t).view.emb y 1).val = 512 * t.val + (y 1).val := emb14 t y 1
  show _ = res10 m c ((((cfg0).win 14).blk t).view.emb y)
  generalize (((cfg0).win 14).blk t).view.emb y = Y at *
  have h : P m c (row t ⟨(y 1).val, (y 1).isLt⟩) (colFeat ((y 0).val + 1792)) = P m c ⟨(Y 1).val, (Y 1).isLt⟩ (colFeat ((Y 0).val + 1792)) := prj_congr _ _ _ (e1).symm (congrArg colFeat (by rw [e0]))
  exact (feat m c t (Value.ix14_0 y)).trans h

theorem flush14 : ∀ i : Fin grid0.N, Pipeline.Window.flushOf grid0 true cc0_transform_14 i = true := by decide +kernel

theorem cover14 (y : S32x32768.Idx) : ∃ t : Fin (cfg0).N, ((cfg0).win 14).flush t = true
    ∧ y ∈ (((cfg0).win 14).blk t).view.set := by
  have h : (y 1).val < 32768 := (y 1).isLt
  have hn : (y 1).val / 512 < 64 := by omega
  refine ⟨⟨(y 1).val / 512, hn⟩, flush14 ⟨_, hn⟩, Finset.mem_map.2 ⟨(ix2 (y 0) ⟨(y 1).val % 512, Nat.mod_lt _ (by decide)⟩ : S32x512.Idx), Finset.mem_univ _, ?_⟩⟩
  funext a
  apply Fin.ext
  refine (emb14 (⟨(y 1).val / 512, hn⟩ : Fin 64) _ a).trans ?_
  fin_cases a
  · rfl
  · show 512 * ((y 1).val / 512) + (y 1).val % 512 = (y 1).val
    omega

theorem final14 : (dats m 0 c).arrAt 14 (cfg0).N = res10 m c :=
  (dats m 0 c).arrAt_eq_of_cover 14 (res10 m c) (fun t _ => flushed14_eq m c t) cover14

/-- Each result is its part of the projection and the arguments are as they were. -/
theorem value_main (ρ : Dev nD → PrngReg) : θ_run defs (onTc (τ := τ) (main (F := Ideal))) ⟨m, fun _ => 0, ρ⟩ (fun r => ∀ c : Dev nD,
      r.2.mem ((c.tc : Thread nD τ).loc main_v25_0) = res0 m c
      ∧ r.2.mem ((c.tc : Thread nD τ).loc main_v25_1) = res1 m c
      ∧ r.2.mem ((c.tc : Thread nD τ).loc main_v25_2) = res2 m c
      ∧ r.2.mem ((c.tc : Thread nD τ).loc main_v25_3) = res3 m c
      ∧ r.2.mem ((c.tc : Thread nD τ).loc main_v25_4) = res4 m c
      ∧ r.2.mem ((c.tc : Thread nD τ).loc main_v25_5) = res5 m c
      ∧ r.2.mem ((c.tc : Thread nD τ).loc main_v25_6) = res6 m c
      ∧ r.2.mem ((c.tc : Thread nD τ).loc main_v25_7) = res7 m c
      ∧ r.2.mem ((c.tc : Thread nD τ).loc main_v25_8) = res8 m c
      ∧ r.2.mem ((c.tc : Thread nD τ).loc main_v25_9) = res9 m c
      ∧ r.2.mem ((c.tc : Thread nD τ).loc main_v25_10) = res10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨h0, h1, h2, h3, h4, h5, h6, h7, h8, h9, h10, ha⟩ := h c
    exact ⟨h0.trans (final4 m c), h1.trans (final5 m c), h2.trans (final6 m c), h3.trans (final7 m c), h4.trans (final8 m c), h5.trans (final9 m c), h6.trans (final10 m c), h7.trans (final11 m c), h8.trans (final12 m c), h9.trans (final13 m c), h10.trans (final14 m c), ha⟩) (Value.run_blocks m ρ)

end Cert.Kernel2Ideal.Hand

end
-- ==== Proof.ProjRef.lean ====
/-
  The input projection's reference, each result at an element, over the extended reals.
-/
module

public import proofs.«01_k».proof.Proof.Gen.Reference2Ideal
public import proofs.«01_k».proof.Proof.Gen.Reference2Ideal.Run
public import proofs.«01_k».proof.Proof.Proj
public import Idealize.ShloMosaic.Lib.Pointwise

@[expose] public section

set_option maxRecDepth 16384

noncomputable section

namespace Cert.Reference2Ideal.Hand

open Idealize.ShloMosaic Idealize.ShloMosaic.Pointwise Cert.Reference2Ideal Cert.Reference2Ideal.Gen Cert.Moe Cert.Proj
set_option maxHeartbeats 4000000

variable (X : FVec Ideal S32768x1024 .f32) (g : FVec Ideal S1x1024 .f32) (W : FVec Ideal S1024x2840 .f32)

/-- The normalised tokens. -/
def normed : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ g shapeCasts_S1x1024_S1024)))

/-- The projection. -/
def proj : FVec Ideal S32768x2840 .f32 :=
  Host.dotGeneral dot_S32768x1024_S1024x2840_S32768x2840_1_0_0_1_n_n none (normed X g) W

/-- The projection at an element, of the arrays. -/
abbrev P (t : Fin 32768) (n : ℕ) : EReal := prj (fun t k => X (ix2 t k)) (fun k => g (ix2 0 k)) (fun k n => W (ix2 k n)) t n

theorem normed_apply (t : Fin 32768) (k : Fin 1024) : normed X g (ix2 t k) = nrm (fun k => X (ix2 t k)) (fun k => g (ix2 0 k)) k := by
  unfold nrm
  pointwise [normed]

theorem proj_apply (t : Fin 32768) (n : Fin 2840) : proj X g W (ix2 t n) = P X g W t n.val := by
  refine Eq.trans ?_ (prj_in _ _ _ t n)
  refine Eq.trans (b := ∑ k, normed X g (ix2 t k) * W (ix2 k n)) (by pointwise [proj]) ?_
  exact Finset.sum_congr rfl fun k _ => by rw [normed_apply]

variable (p : FVec Ideal S32768x2840 .f32)

theorem ref0_apply (a : Fin 4) (b : Fin 128) (t : Fin 32768) :
    (truncf .bf16 (mulf (shapeCast S4x128x32768 (transpose S4x2x64x32768 [2, 1, 3, 0] (shapeCast S32768x2x4x64 (extractStridedSlice S32768x512 ![0, 0] p slices_S32768x2840_S32768x512_0_0) shapeCasts_S32768x512_S32768x2x4x64) transposes_S32768x2x4x64_S4x2x64x32768_2_1_3_0) shapeCasts_S4x2x64x32768_S4x128x32768) (broadcastInDim S4x128x32768 ![] bcast_S_S4x128x32768 (constant S_ .f32 0x3E38AA3B#32))) bitsLt_bf16_f32 : FVec Ideal S4x128x32768 .bf16) (ix3 a b t)
      = p (ix2 t ⟨b.val / 64 * 256 + a.val * 64 + b.val % 64, by omega⟩) * Ideal.ofBits .f32 0x3E38AA3B#32 := by
  pointwise []

theorem ref1_apply (b : Fin 128) (t : Fin 32768) :
    (extractStridedSlice S32768x128 ![0, 512] p slices_S32768x2840_S32768x128_0_512 : FVec Ideal S32768x128 .f32) (ix2 t b)
      = p (ix2 t ⟨512 + b.val, by omega⟩) := by
  pointwise []

theorem ref2_apply (b : Fin 128) (t : Fin 32768) :
    (extractStridedSlice S32768x128 ![0, 640] p slices_S32768x2840_S32768x128_0_640 : FVec Ideal S32768x128 .f32) (ix2 t b)
      = p (ix2 t ⟨640 + b.val, by omega⟩) := by
  pointwise []

theorem ref3_apply (b : Fin 128) (t : Fin 32768) :
    (truncf .bf16 (extractStridedSlice S32768x128 ![0, 768] p slices_S32768x2840_S32768x128_0_768) bitsLt_bf16_f32 : FVec Ideal S32768x128 .bf16) (ix2 t b)
      = p (ix2 t ⟨768 + b.val, by omega⟩) := by
  pointwise []

theorem ref4_apply (b : Fin 128) (t : Fin 32768) :
    (truncf .bf16 (extractStridedSlice S32768x128 ![0, 1024] p slices_S32768x2840_S32768x128_0_1024) bitsLt_bf16_f32 : FVec Ideal S32768x128 .bf16) (ix2 t b)
      = p (ix2 t ⟨1024 + b.val, by omega⟩) := by
  pointwise []

theorem ref5_apply (a : Fin 4) (b : Fin 128) (t : Fin 32768) :
    (truncf .bf16 (mulf (shapeCast S4x128x32768 (transpose S512x32768 [1, 0] (extractStridedSlice S32768x512 ![0, 1304] p slices_S32768x2840_S32768x512_0_1304) transposes_S32768x512_S512x32768_1_0) shapeCasts_S512x32768_S4x128x32768) (broadcastInDim S4x128x32768 ![] bcast_S_S4x128x32768 (constant S_ .f32 0x3E8293EE#32))) bitsLt_bf16_f32 : FVec Ideal S4x128x32768 .bf16) (ix3 a b t)
      = p (ix2 t ⟨1304 + (a.val * 128 + b.val), by omega⟩) * Ideal.ofBits .f32 0x3E8293EE#32 := by
  pointwise []

theorem ref6_apply (a : Fin 4) (b : Fin 128) (t : Fin 32768) :
    (truncf .bf16 (transpose S4x32768x128 [1, 0, 2] (shapeCast S32768x4x128 (extractStridedSlice S32768x512 ![0, 1816] p slices_S32768x2840_S32768x512_0_1816) shapeCasts_S32768x512_S32768x4x128) transposes_S32768x4x128_S4x32768x128_1_0_2) bitsLt_bf16_f32 : FVec Ideal S4x32768x128 .bf16) (ix3 a t b)
      = p (ix2 t ⟨1816 + (a.val * 128 + b.val), by omega⟩) := by
  pointwise []

theorem ref7_apply (b : Fin 128) (t : Fin 32768) :
    (truncf .bf16 (transpose S128x32768 [1, 0] (extractStridedSlice S32768x128 ![0, 896] p slices_S32768x2840_S32768x128_0_896) transposes_S32768x128_S128x32768_1_0) bitsLt_bf16_f32 : FVec Ideal S128x32768 .bf16) (ix2 b t)
      = p (ix2 t ⟨896 + b.val, by omega⟩) := by
  pointwise []

theorem ref8_apply (b : Fin 128) (t : Fin 32768) :
    (truncf .bf16 (transpose S128x32768 [1, 0] (extractStridedSlice S32768x128 ![0, 1152] p slices_S32768x2840_S32768x128_0_1152) transposes_S32768x128_S128x32768_1_0) bitsLt_bf16_f32 : FVec Ideal S128x32768 .bf16) (ix2 b t)
      = p (ix2 t ⟨1152 + b.val, by omega⟩) := by
  pointwise []

theorem ref9_apply (a : Fin 4) (b : Fin 128) (t : Fin 32768) :
    (truncf .bf16 (shapeCast S4x128x32768 (transpose S512x32768 [1, 0] (extractStridedSlice S32768x512 ![0, 2328] p slices_S32768x2840_S32768x512_0_2328) transposes_S32768x512_S512x32768_1_0) shapeCasts_S512x32768_S4x128x32768) bitsLt_bf16_f32 : FVec Ideal S4x128x32768 .bf16) (ix3 a b t)
      = p (ix2 t ⟨2328 + (a.val * 128 + b.val), by omega⟩) := by
  pointwise []

theorem ref10_apply (b : Fin 32) (t : Fin 32768) :
    (concatenate S32x32768 0 [⟨S24x32768, (transpose S24x32768 [1, 0] (extractStridedSlice S32768x24 ![0, 1280] p slices_S32768x2840_S32768x24_0_1280) transposes_S32768x24_S24x32768_1_0)⟩, ⟨S8x32768, (broadcastInDim S8x32768 ![] bcast_S_S8x32768 (constant S_ .f32 0x00000000#32))⟩] concatenates_S24x32768_S8x32768_S32x32768_d0 : FVec Ideal S32x32768 .f32) (ix2 b t)
      = if h : b.val < 24 then p (ix2 t ⟨1280 + b.val, by omega⟩) else Ideal.ofBits .f32 0x00000000#32 := by
  pointwise []

end Cert.Reference2Ideal.Hand
end
-- ==== Proof.ProjEq.lean ====
/-
  The input projection's certificate: the two programs' frames, the reference's, and the equality of the results
  over the extended reals.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.ProjKer
public import proofs.«01_k».proof.Proof.ProjRef
public import Idealize.ShloMosaic.Adequacy
public import Idealize.ShloMosaic.Init

@[expose] public section

set_option maxRecDepth 16384

noncomputable section

namespace Cert.Proof.Proj

open Idealize.ShloMosaic Idealize.SL.Sem Cert.Proj
set_option maxHeartbeats 4000000

theorem frame_kernel : Cert.quiescent_Kernel2 := fun m ρ _ => Kernel2.Gen.frame (F := Bits) m ρ

theorem frame_ideal : Cert.quiescent_Kernel2Ideal := fun m ρ _ => Kernel2Ideal.Gen.frame m ρ

theorem frame_reference : Cert.quiescent_Reference2Ideal := fun m ρ _ =>
  (θ_run _ _ _).mono (fun r h => ⟨fun c => (h c).2.2.2.2.2.2.2.2.2.2.2, sem_eq_zero_of_no_sems (by decide) r.2⟩) (Reference2Ideal.Value.run m ρ)

section

open Reference2Ideal Reference2Ideal.Gen Reference2Ideal.Hand

variable (X : FVec Ideal S32768x1024 .f32) (g : FVec Ideal S1x1024 .f32) (W : FVec Ideal S1024x2840 .f32)

/-- An element of the projection, wherever its column is named from. -/
theorem proj_at (t : Fin 32768) (n : ℕ) (h : n < 2840) (n' : ℕ) (e : n = n') : proj X g W (ix2 t ⟨n, h⟩) = Reference2Ideal.Hand.P X g W t n' :=
  (proj_apply X g W t ⟨n, h⟩).trans (prj_congr _ _ _ rfl e)

end

/-- Over the extended reals the kernel's results are the reference's. -/
theorem algebraic : Cert.algebraic_Kernel2Ideal_Reference2Ideal := fun m ρ m' ρ' _ hargs => by
  refine ⟨fun c => Kernel2Ideal.Hand.res0 m c, fun c => Kernel2Ideal.Hand.res1 m c, fun c => Kernel2Ideal.Hand.res2 m c, fun c => Kernel2Ideal.Hand.res3 m c, fun c => Kernel2Ideal.Hand.res4 m c, fun c => Kernel2Ideal.Hand.res5 m c, fun c => Kernel2Ideal.Hand.res6 m c, fun c => Kernel2Ideal.Hand.res7 m c, fun c => Kernel2Ideal.Hand.res8 m c, fun c => Kernel2Ideal.Hand.res9 m c, fun c => Kernel2Ideal.Hand.res10 m c, Kernel2Ideal.Hand.value_main m ρ, ?_⟩
  refine (θ_run _ _ _).mono (fun r hv c => ?_) (Reference2Ideal.Value.run m' ρ')
  obtain ⟨h0, h1, h2⟩ := hargs c
  obtain ⟨r0, r1, r2, r3, r4, r5, r6, r7, r8, r9, r10, ha⟩ := hv c
  rw [h0, h1, h2] at r0 r1 r2 r3 r4 r5 r6 r7 r8 r9 r10
  refine ⟨r0.trans ?_, r1.trans ?_, r2.trans ?_, r3.trans ?_, r4.trans ?_, r5.trans ?_, r6.trans ?_, r7.trans ?_, r8.trans ?_, r9.trans ?_, r10.trans ?_, ha⟩
  · funext y
    obtain ⟨a, b, t, rfl⟩ : ∃ (a : Fin 4) (b : Fin 128) (t : Fin 32768), y = ix3 a b t := ⟨y 0, y 1, y 2, by funext q; fin_cases q <;> rfl⟩
    refine (Reference2Ideal.Hand.ref0_apply _ a b t).trans ?_
    refine congrArg (· * Ideal.ofBits .f32 0x3E38AA3B#32) (proj_at _ _ _ t _ _ (colFeat (a.val * 128 + b.val)) ?_)
    unfold colFeat colQ; split_ifs <;> omega
  · funext y
    obtain ⟨b, t, rfl⟩ : ∃ (b : Fin 128) (t : Fin 32768), y = ix2 t b := ⟨y 1, y 0, by funext q; fin_cases q <;> rfl⟩
    refine (Reference2Ideal.Hand.ref1_apply _ b t).trans ?_
    refine proj_at _ _ _ t _ _ (colTok b.val) ?_
    unfold colTok; split_ifs <;> omega
  · funext y
    obtain ⟨b, t, rfl⟩ : ∃ (b : Fin 128) (t : Fin 32768), y = ix2 t b := ⟨y 1, y 0, by funext q; fin_cases q <;> rfl⟩
    refine (Reference2Ideal.Hand.ref2_apply _ b t).trans ?_
    refine proj_at _ _ _ t _ _ (colTok (b.val + 128)) ?_
    unfold colTok; split_ifs <;> omega
  · funext y
    obtain ⟨b, t, rfl⟩ : ∃ (b : Fin 128) (t : Fin 32768), y = ix2 t b := ⟨y 1, y 0, by funext q; fin_cases q <;> rfl⟩
    refine (Reference2Ideal.Hand.ref3_apply _ b t).trans ?_
    refine proj_at _ _ _ t _ _ (colTok (b.val + 256)) ?_
    unfold colTok; split_ifs <;> omega
  · funext y
    obtain ⟨b, t, rfl⟩ : ∃ (b : Fin 128) (t : Fin 32768), y = ix2 t b := ⟨y 1, y 0, by funext q; fin_cases q <;> rfl⟩
    refine (Reference2Ideal.Hand.ref4_apply _ b t).trans ?_
    refine proj_at _ _ _ t _ _ (colTok (b.val + 384)) ?_
    unfold colTok; split_ifs <;> omega
  · funext y
    obtain ⟨a, b, t, rfl⟩ : ∃ (a : Fin 4) (b : Fin 128) (t : Fin 32768), y = ix3 a b t := ⟨y 0, y 1, y 2, by funext q; fin_cases q <;> rfl⟩
    refine (Reference2Ideal.Hand.ref5_apply _ a b t).trans ?_
    refine congrArg (· * Ideal.ofBits .f32 0x3E8293EE#32) (proj_at _ _ _ t _ _ (colFeat (a.val * 128 + b.val + 512)) ?_)
    unfold colFeat colQ; split_ifs <;> omega
  · funext y
    obtain ⟨a, b, t, rfl⟩ : ∃ (a : Fin 4) (b : Fin 128) (t : Fin 32768), y = ix3 a t b := ⟨y 0, y 2, y 1, by funext q; fin_cases q <;> rfl⟩
    refine (Reference2Ideal.Hand.ref6_apply _ a b t).trans ?_
    refine proj_at _ _ _ t _ _ (colTok (512 + (a.val * 128 + b.val))) ?_
    unfold colTok; split_ifs <;> omega
  · funext y
    obtain ⟨b, t, rfl⟩ : ∃ (b : Fin 128) (t : Fin 32768), y = ix2 b t := ⟨y 0, y 1, by funext q; fin_cases q <;> rfl⟩
    refine (Reference2Ideal.Hand.ref7_apply _ b t).trans ?_
    refine proj_at _ _ _ t _ _ (colFeat (b.val + 1024)) ?_
    unfold colFeat colQ; split_ifs <;> omega
  · funext y
    obtain ⟨b, t, rfl⟩ : ∃ (b : Fin 128) (t : Fin 32768), y = ix2 b t := ⟨y 0, y 1, by funext q; fin_cases q <;> rfl⟩
    refine (Reference2Ideal.Hand.ref8_apply _ b t).trans ?_
    refine proj_at _ _ _ t _ _ (colFeat (b.val + 1152)) ?_
    unfold colFeat colQ; split_ifs <;> omega
  · funext y
    obtain ⟨a, b, t, rfl⟩ : ∃ (a : Fin 4) (b : Fin 128) (t : Fin 32768), y = ix3 a b t := ⟨y 0, y 1, y 2, by funext q; fin_cases q <;> rfl⟩
    refine (Reference2Ideal.Hand.ref9_apply _ a b t).trans ?_
    refine proj_at _ _ _ t _ _ (colFeat (a.val * 128 + b.val + 1280)) ?_
    unfold colFeat colQ; split_ifs <;> omega
  · funext y
    obtain ⟨b, t, rfl⟩ : ∃ (b : Fin 32) (t : Fin 32768), y = ix2 b t := ⟨y 0, y 1, by funext q; fin_cases q <;> rfl⟩
    refine (Reference2Ideal.Hand.ref10_apply _ b t).trans ?_
    by_cases hb : b.val < 24
    · rw [dif_pos hb]
      refine proj_at _ _ _ t _ _ (colFeat (b.val + 1792)) ?_
      unfold colFeat colQ; split_ifs <;> omega
    · rw [dif_neg hb, Ideal.ofBits_zero_f32]
      show (0 : EReal) = Kernel2Ideal.Hand.P m c t (colFeat (b.val + 1792))
      refine (prj_out _ _ _ t (colFeat (b.val + 1792)) ?_).symm
      unfold colFeat colQ; split_ifs <;> omega

end Cert.Proof.Proj

end
-- ==== Proof.Rows.lean ====
/-
  The rows a tile gathers, as resources: one row of a slot of the landing buffer, the token row it is copied from,
  and the batch of 512 copies that are in flight on the slot's counter. `issue_row` starts the next copy of a batch,
  `drain_row` waits for one.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

/-- The proof's user algebra: the pipeline library's beside the transfers' counters. -/
local notation "𝕄" => MT nD τ sig Unit (Elt F) ℕ (Pipeline.UD sig nD τ) ℕ

/-- The landing buffer, two slots of 512 rows. -/
abbrev xbuf : Memref sig .tc .vmem S2x512x1152 .f32 := Memref.whole cc0_scratch0
/-- The tokens, left in HBM. -/
abbrev xtok : Memref sig .tc .hbm S32768x1152 .f32 := Memref.whole main_arg2
/-- The two slots' counters. -/
abbrev slotSems : DmaSems sig S2 := cc0_scratch1

abbrev XbBuf (c : Dev nD) : Type := Buf (Elt F) (xbuf.view.loc (c : Thread nD τ))
abbrev XtBuf (c : Dev nD) : Type := Buf (Elt F) (xtok.view.loc (c : Thread nD τ))

/-- The view of the landing buffer at one row. -/
abbrev rowDst (off : Fin 3 → ℕ) (inb : ∀ a, off a + S1x1x1152.size a ≤ S2x512x1152.size a) : Memref sig .tc .vmem S1x1152 .f32 :=
  (xbuf.slice (Rect.unit (s := S2x512x1152) off S1x1x1152.size inb) (fun _ => rfl)).squeeze S1x1152 squeezes_S1x1x1152_S1x1152
/-- The view of the tokens at one row. -/
abbrev rowSrc (off : Fin 2 → ℕ) (inb : ∀ a, off a + S1x1152.size a ≤ S32768x1152.size a) : Memref sig .tc .hbm S1x1152 .f32 :=
  xtok.slice (Rect.unit (s := S32768x1152) off S1x1152.size inb) (fun _ => rfl)
/-- The counter at an offset. -/
abbrev rowSem (off : Fin 1 → ℕ) (inb : ∀ a, off a + S1.size a ≤ S2.size a) : DmaSem sig :=
  ((slotSems.slice (Rect.unit (s := S2) off S1.size inb)).squeeze S_ squeezes_S1_S_).sem

theorem dst_inb (s : Fin 2) (r : Fin 512) : ∀ a, (![s.val, r.val, 0] : Fin 3 → ℕ) a + S1x1x1152.size a ≤ S2x512x1152.size a := by
  have := s.isLt; have := r.isLt
  intro a; fin_cases a <;> simp [Shape.size] <;> omega
theorem src_inb (w : Fin 32768) : ∀ a, (![w.val, 0] : Fin 2 → ℕ) a + S1x1152.size a ≤ S32768x1152.size a := by
  have := w.isLt
  intro a; fin_cases a <;> simp [Shape.size] <;> omega
theorem sem_inb (s : Fin 2) : ∀ a, (![s.val] : Fin 1 → ℕ) a + S1.size a ≤ S2.size a := by
  have := s.isLt
  intro a; fin_cases a; simp [Shape.size]; omega

/-- A slot's counter. -/
def cell (s : Fin 2) : DmaSem sig := rowSem ![s.val] (sem_inb s)
theorem cell_zero : cell 0 = 13 := by decide
theorem cell_one : cell 1 = 14 := by decide

/-- The elements of row `r` of slot `s`. -/
def rowSet (s : Fin 2) (r : Fin 512) : Finset S2x512x1152.Idx := (Rect.unit (s := S2x512x1152) ![s.val, r.val, 0] S1x1x1152.size (dst_inb s r)).set
/-- The elements of token row `w`. -/
def tokSet (w : Fin 32768) : Finset S32768x1152.Idx := (Rect.unit (s := S32768x1152) ![w.val, 0] S1x1152.size (src_inb w)).set

theorem mem_rowSet (s : Fin 2) (r : Fin 512) (y : S2x512x1152.Idx) : y ∈ rowSet s r ↔ (y 0).val = s.val ∧ (y 1).val = r.val := by
  unfold rowSet
  rw [Rect.mem_set_unit]
  have h2 := (y 2).isLt
  constructor
  · intro h
    have h0 := h 0; have h1 := h 1
    simp [Shape.size] at h0 h1
    omega
  · rintro ⟨h0, h1⟩ a
    fin_cases a <;> simp [Shape.size] at h2 ⊢ <;> omega

theorem mem_tokSet (w : Fin 32768) (y : S32768x1152.Idx) : y ∈ tokSet w ↔ (y 0).val = w.val := by
  unfold tokSet
  rw [Rect.mem_set_unit]
  have h2 := (y 1).isLt
  constructor
  · intro h
    have h0 := h 0
    simp [Shape.size] at h0
    omega
  · rintro h0 a
    fin_cases a <;> simp [Shape.size] at h2 ⊢ <;> omega

/-- What the landing buffer holds once the rows `w` of the tokens `x` have landed (in whichever slot). -/
def landed (x : S32768x1152.Idx → Elt F .f32) (w : Fin 512 → Fin 32768) : S2x512x1152.Idx → Elt F .f32 :=
  fun y => x (ix2 (w (y 1)) (y 2))

/-- The amount one row's copy credits. -/
def rowN : ℕ := (rowDst ![0, 0, 0] (dst_inb 0 0)).view.dmaCredit
theorem rowN_pos : 0 < rowN := by decide

variable (c : Dev nD) (s : Fin 2) (w : Fin 512 → Fin 32768) (f : XbBuf (F := F) c) (x : XtBuf (F := F) c)

/-- What copy `r` of a batch delivers: its row of the slot at the token's contents, and its share of the token. -/
def dlv (r : Fin 512) : sProp 𝕄 :=
  iprop((xbuf.view.loc (c : Thread nD τ) ↦[rowSet s r]{fullShare} (landed x w : XbBuf (F := F) c))
    ∗ (xtok.view.loc (c : Thread nD τ) ↦[tokSet (w r)]{shareTok fullShare 512 r} x))
/-- What copy `r` needs. -/
def rowIn (r : Fin 512) : sProp 𝕄 :=
  iprop((xbuf.view.loc (c : Thread nD τ) ↦[rowSet s r]{fullShare} f)
    ∗ (xtok.view.loc (c : Thread nD τ) ↦{shareTok fullShare 512 r} x))
/-- The part of its share of the tokens copy `r` does not take. -/
def rowOut (r : Fin 512) : sProp 𝕄 :=
  xtok.view.loc (c : Thread nD τ) ↦[Finset.univ \ tokSet (w r)]{shareTok fullShare 512 r} x

/-- The batch: `j` copies started, `u` credits consumed. -/
def flight (j u : ℕ) : sProp 𝕄 :=
  Batch (countersEmb (U := Pipeline.UD sig nD τ)) (c : Thread nD τ) (.dma (cell s)) () rowN (dlv c s w x) j u

/-- Between two starts: the batch so far, what the rows to come need, what those started left. -/
def issuing (j : ℕ) : sProp 𝕄 :=
  iprop(flight c s w x j 0 ∗ bigSep (Ring.rangeSet 512 j 512) (rowIn c s f x) ∗ bigSep (Ring.rangeSet 512 0 j) (rowOut c w x))

instance (r : Fin 512) : Storable (upEmb : UEmb _ 𝕄) (dlv c s w x r) := by unfold dlv; infer_instance

theorem dst_emb (s : Fin 2) (r : Fin 512) (a : Fin 1) (b : Fin 1152) :
    (rowDst ![s.val, r.val, 0] (dst_inb s r)).view.emb (ix2 a b : S1x1152.Idx) = (ix3 s r b : S2x512x1152.Idx) := by
  show (Rect.unit (s := S2x512x1152) ![s.val, r.val, 0] S1x1x1152.size (dst_inb s r)).emb
    (Shape.reshapeEquiv squeezes_S1x1x1152_S1x1152.numel_eq (ix2 a b : S1x1152.Idx)) = _
  erw [ValueIdx.reshapeEquiv_ix2_1ab]
  funext ax
  have ha : a = 0 := Subsingleton.elim _ _
  subst ha
  apply Fin.ext
  fin_cases ax
  · show s.val + 1 * 0 = s.val; omega
  · show r.val + 1 * 0 = r.val; omega
  · show 0 + 1 * b.val = b.val; omega
theorem src_emb (w : Fin 32768) (a : Fin 1) (b : Fin 1152) :
    (rowSrc ![w.val, 0] (src_inb w)).view.emb (ix2 a b : S1x1152.Idx) = (ix2 w b : S32768x1152.Idx) := by
  funext ax
  have ha : a = 0 := Subsingleton.elim _ _
  subst ha
  apply Fin.ext
  fin_cases ax
  · show w.val + 1 * 0 = w.val; omega
  · show 0 + 1 * b.val = b.val; omega

theorem dst_set (s : Fin 2) (r : Fin 512) : (rowDst ![s.val, r.val, 0] (dst_inb s r)).view.set = rowSet s r :=
  (View.set_reshape _ _).trans (View.set_slice_whole _ _)
theorem src_set (w : Fin 32768) : (rowSrc ![w.val, 0] (src_inb w)).view.set = tokSet w :=
  View.set_slice_whole _ _

/-- A landed copy leaves the row of the slot at the token's contents. -/
theorem landed_row (s : Fin 2) (r : Fin 512) (w : Fin 512 → Fin 32768) (f : XbBuf (F := F) c) (x : XtBuf (F := F) c) :
    ∀ y ∈ rowSet s r, (rowDst ![s.val, r.val, 0] (dst_inb s r)).view.write (Elt F) f
        ((ReadAs.same (Val := Elt F)).apply ((rowSrc ![(w r).val, 0] (src_inb (w r))).view.read (Elt F) x)) Finset.univ y
      = (landed x w : XbBuf (F := F) c) y := by
  intro y hy
  have hy' := (mem_rowSet s r y).1 hy
  obtain ⟨b, rfl⟩ : ∃ b : Fin 1152, y = ix3 s r b := ⟨y 2, by
    funext ax
    apply Fin.ext
    fin_cases ax
    · exact hy'.1
    · exact hy'.2
    · rfl⟩
  rw [← dst_emb s r 0 b, View.write_emb_of_mem _ _ (Finset.mem_univ _), dst_emb]
  show (rowSrc ![(w r).val, 0] (src_inb (w r))).view.read (Elt F) x (ix2 (0 : Fin 1) b : S1x1152.Idx) = _
  rw [View.read_apply, src_emb]
  rfl

/-- The elements of a slot. -/
def slotSet (s : Fin 2) : Finset S2x512x1152.Idx := Finset.univ.biUnion (rowSet s)
theorem mem_slotSet (s : Fin 2) (y : S2x512x1152.Idx) : y ∈ slotSet s ↔ (y 0).val = s.val := by
  unfold slotSet
  rw [Finset.mem_biUnion]
  constructor
  · rintro ⟨r, -, h⟩; exact ((mem_rowSet s r y).1 h).1
  · intro h; exact ⟨y 1, Finset.mem_univ _, (mem_rowSet s _ y).2 ⟨h, rfl⟩⟩
theorem row_disjoint (s : Fin 2) : ∀ r ∈ (Finset.univ : Finset (Fin 512)), ∀ r' ∈ (Finset.univ : Finset (Fin 512)), r ≠ r' → Disjoint (rowSet s r) (rowSet s r') := by
  intro r _ r' _ h
  rw [Finset.disjoint_left]
  intro y h1 h2
  exact h (Fin.ext (((mem_rowSet s r y).1 h1).2.symm.trans ((mem_rowSet s r' y).1 h2).2))
theorem slots_disjoint : Disjoint (slotSet 0) (slotSet 1) := by
  rw [Finset.disjoint_left]
  intro y h1 h2
  have a := (mem_slotSet 0 y).1 h1
  have b := (mem_slotSet 1 y).1 h2
  rw [a] at b; exact absurd b (by decide)
theorem slots_union : slotSet 0 ∪ slotSet 1 = Finset.univ := by
  ext y
  simp only [Finset.mem_union, mem_slotSet, Finset.mem_univ, iff_true]
  have h : (y 0).val < 2 := (y 0).isLt
  have e0 : ((0 : Fin 2)).val = 0 := rfl
  have e1 : ((1 : Fin 2)).val = 1 := rfl
  omega

/-- A slot at contents that matter on its own elements only. -/
def slotAt : sProp 𝕄 := xbuf.view.loc (c : Thread nD τ) ↦[slotSet s]{fullShare} f

theorem slotAt_congr {g : XbBuf (F := F) c} (h : ∀ y ∈ slotSet s, f y = g y) : slotAt c s f = slotAt c s g := by
  unfold slotAt; exact pointsTo_congr h

theorem slotAt_rows : slotAt c s f = bigSep Finset.univ (fun r => (xbuf.view.loc (c : Thread nD τ) ↦[rowSet s r]{fullShare} f : sProp 𝕄)) := by
  unfold slotAt slotSet
  exact pointsTo_biUnion _ _ (row_disjoint s)

theorem xbuf_slots : (xbuf.view.loc (c : Thread nD τ) ↦{fullShare} f : sProp 𝕄) = iprop(slotAt c 0 f ∗ slotAt c 1 f) := by
  unfold slotAt
  rw [← slots_union]
  have h := pointsTo_union (Ix := Unit) (Name := ℕ) (U := Pipeline.UD sig nD τ) (Lvl := ℕ) (ℓ := xbuf.view.loc (c : Thread nD τ)) (I := slotSet 0) (J := slotSet 1) (q := fullShare) (f := f) (by exact slots_disjoint)
  exact equiv_iff.mp ⟨h.1, h.2⟩

/-- Before the first start: the counter at zero, the slot and the tokens make a batch with nothing started; a share of
    the tokens stays over. -/
theorem start : iprop(semVal ((c : Thread nD τ), SemLoc.dma (cell s)) 0 ∗ slotAt c s f ∗ (xtok.view.loc (c : Thread nD τ) ↦{fullShare} x))
    ⊢ (|={Set.univ}=> iprop(issuing c s w f x 0 ∗ (xtok.view.loc (c : Thread nD τ) ↦{shareDrop fullShare 512} x)) : sProp 𝕄) := by
  rw [slotAt_rows]
  iintro ⟨Hs, Hb, Hx⟩
  imod (batch_alloc' (countersEmb (U := Pipeline.UD sig nD τ)) (c : Thread nD τ) () rowN (dlv c s w x) (E := Set.univ)) $$ Hs with HB
  imodintro
  ihave Hx' := (pointsTo_toks fullShare 512).1 $$ Hx
  icases Hx' with ⟨Hd, Ht⟩
  isplitr [Hd]
  · unfold issuing flight
    isplitl [HB]; · iexact HB
    isplitl [Hb Ht]
    · rw [Ring.rangeSet_univ]
      unfold rowIn
      rw [bigSep_sep']
      isplitl [Hb] <;> iassumption
    rw [Ring.bigSep_rangeSet_empty (Nat.le_refl _)]
    iempintro
  iexact Hd

theorem tok_join : iprop(bigSep Finset.univ (fun r => (xtok.view.loc (c : Thread nD τ) ↦[tokSet (w r)]{shareTok fullShare 512 r} x : sProp 𝕄))
      ∗ bigSep Finset.univ (fun r => (xtok.view.loc (c : Thread nD τ) ↦[Finset.univ \ tokSet (w r)]{shareTok fullShare 512 r} x : sProp 𝕄)))
    ⊢ bigSep Finset.univ (fun r => (xtok.view.loc (c : Thread nD τ) ↦{shareTok fullShare 512 r} x : sProp 𝕄)) := by
  rw [← bigSep_sep']
  exact bigSep_mono fun r _ => (pointsTo_split_subset (Finset.subset_univ (tokSet (w r)))).2

/-- After the last wait: the counter at zero, the slot at the gathered rows, the tokens whole again. -/
theorem finish : iprop(flight c s w x 512 (rowN * 512) ∗ bigSep (Ring.rangeSet 512 0 512) (rowOut c w x)
      ∗ (xtok.view.loc (c : Thread nD τ) ↦{shareDrop fullShare 512} x))
    ⊢ (|={Set.univ}=> iprop(semVal ((c : Thread nD τ), SemLoc.dma (cell s)) 0 ∗ slotAt c s (landed x w) ∗ (xtok.view.loc (c : Thread nD τ) ↦{fullShare} x)) : sProp 𝕄) := by
  rw [slotAt_rows, Ring.rangeSet_univ]
  iintro ⟨HB, Ho, Hd⟩
  unfold flight
  imod (batch_collect' (countersEmb (U := Pipeline.UD sig nD τ)) (c : Thread nD τ) rowN_pos) $$ HB with ⟨HD, Hs⟩
  imodintro
  unfold dlv rowOut
  ihave HD := (Entails.of_eq (bigSep_sep' _ _ _)) $$ HD
  icases HD with ⟨Hb, Ht⟩
  isplitl [Hs]; · iexact Hs
  isplitl [Hb]; · iexact Hb
  iapply (pointsTo_toks fullShare 512).2
  isplitl [Hd]; · iexact Hd
  iapply (tok_join c w x)
  isplitl [Ht] <;> iassumption

/-- One start: the next copy of the batch, at the offsets the kernel computes. -/
theorem issue_row (𝒱₀ : Variants) {α : Type} {Q : α → sProp 𝕄} {j : ℕ} (hj : j < 512)
    {offd : Fin 3 → ℕ} {inbd : ∀ a, offd a + S1x1x1152.size a ≤ S2x512x1152.size a}
    {offs : Fin 2 → ℕ} {inbs : ∀ a, offs a + S1x1152.size a ≤ S32768x1152.size a}
    {offm : Fin 1 → ℕ} {inbm : ∀ a, offm a + S1.size a ≤ S2.size a}
    (hd : offd = ![s.val, j, 0]) (hs : offs = ![(w ⟨j, hj⟩).val, 0]) (hm : offm = ![s.val])
    {hsrc : (rowSrc offs inbs).view.WordExact} {hdst : (rowDst offd inbd).view.WordExact}
    {hsem : (DmaTarget.here (rowDst offd inbd) : DmaTarget nD τ sig .tc .vmem S1x1152 .f32).Typed .hbm (.dma (rowSem offm inbm))}
    {k : PUnit → Prog (TpuEff nD τ sig (Elt F) Λ₀ .tc) α} :
    issuing c s w f x j
      ⊢ iprop((issuing c s w f x (j + 1) -∗ wp Idealize.ShloMosaic.frame (wpE defs₀ 𝒱₀ (c : Thread nD τ) none) Set.univ (k ⟨⟩) Q)
          -∗ wp Idealize.ShloMosaic.frame (wpE defs₀ 𝒱₀ (c : Thread nD τ) none) Set.univ
              (.op (.enqueueDma (rowSrc offs inbs) (.here (rowDst offd inbd)) (.dma (rowSem offm inbm)) hsrc hdst hsem) k) Q) := by
  subst hd; subst hs; subst hm
  unfold issuing
  rw [Ring.bigSep_rangeSet_head (hj) (hj), Ring.bigSep_rangeSet_last (Nat.succ_pos j) (Nat.succ_le_of_lt hj)]
  iintro ⟨HB, ⟨Hr, Hrs⟩, Ho⟩ Hk
  unfold rowIn
  icases Hr with ⟨Hd, Ht⟩
  ihave Ht' := (pointsTo_split_subset (Finset.subset_univ (tokSet (w ⟨j, hj⟩)))).1 $$ Ht
  icases Ht' with ⟨Ht, Htr⟩
  unfold flight
  iapply (wp_dmaBatch (countersEmb (U := Pipeline.UD sig nD τ)) 𝒱₀ (c : Thread nD τ) none (src := rowSrc ![(w ⟨j, hj⟩).val, 0] inbs) (dst := rowDst ![s.val, j, 0] inbd) (via := .same) (D := dlv c s w x) (fs := x) (fd := f) (q := shareTok fullShare 512 ⟨j, hj⟩) () rowN rfl
    (Sd := rowSet s ⟨j, hj⟩) (dst_set s ⟨j, hj⟩).le hj (Nat.zero_le _) ?_) $$ [Ht Hd HB]
  · unfold dlv
    rw [src_set, pointsTo_congr (landed_row c s ⟨j, hj⟩ w f x)]
  · isplitl [Ht]
    · rw [src_set]; iexact Ht
    isplitl [Hd]; · iexact Hd
    iexact HB
  iintro HB
  iapply Hk
  isplitl [HB]; · iexact HB
  isplitl [Hrs]; · iexact Hrs
  unfold rowOut
  isplitl [Htr]; · iexact Htr
  iexact Ho

/-- One wait. -/
theorem drain_row (𝒱₀ : Variants) {α : Type} {Q : α → sProp 𝕄} {k' : ℕ} (hk : k' < 512)
    {offd : Fin 3 → ℕ} {inbd : ∀ a, offd a + S1x1x1152.size a ≤ S2x512x1152.size a}
    {offs : Fin 2 → ℕ} {inbs : ∀ a, offs a + S1x1152.size a ≤ S32768x1152.size a}
    {offm : Fin 1 → ℕ} {inbm : ∀ a, offm a + S1.size a ≤ S2.size a} (hm : offm = ![s.val]) {W : Waits sig Unit}
    {hsrc : (rowSrc offs inbs).view.WordExact} {hdst : (rowDst offd inbd).view.WordExact}
    {k : PUnit → Prog (TpuEff nD τ sig (Elt F) Λ₀ .tc) α} :
    iprop(flight c s w x 512 (rowN * k') ∗ owes (c : Thread nD τ) 0 W)
      ⊢ iprop((iprop(flight c s w x 512 (rowN * (k' + 1)) ∗ ∃ W', owes (c : Thread nD τ) 0 W') -∗ wp Idealize.ShloMosaic.frame (wpE defs₀ 𝒱₀ (c : Thread nD τ) none) Set.univ (k ⟨⟩) Q)
          -∗ wp Idealize.ShloMosaic.frame (wpE defs₀ 𝒱₀ (c : Thread nD τ) none) Set.univ
              (.op (.waitDma2 (rowSem offm inbm) (rowSrc offs inbs) (rowDst offd inbd) hsrc hdst) k) Q) := by
  subst hm
  unfold flight
  iintro H Hk
  iapply (wp_waitBatchMul (countersEmb (U := Pipeline.UD sig nD τ)) 𝒱₀ (c : Thread nD τ) none () 1 (N := rowN) (by rw [Nat.one_mul]; rfl)
    (by rw [Nat.one_mul, ← Nat.mul_succ]; exact Nat.mul_le_mul_left _ hk)) $$ H
  iintro ⟨HB, HO⟩
  iapply Hk
  isplitl [HB]
  · rw [Nat.mul_succ, Nat.one_mul]; iexact HB
  iexists _; iexact HO

end Cert.KernelIdeal.Hand

end
-- ==== Proof.LoopsA.lean ====
/-
  The kernel's counted loops: the start of the first tile's rows, the waits for a tile's rows, and the starts of the next
  tile's rows, spread over the first seven experts. Each is one trip at a symbolic trip number.
-/
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

/-- A step's slot, and the other. -/
def sl (i : grid0.Coords) : Fin 2 := ⟨(i 0).val % 2, Nat.mod_lt _ (by decide)⟩
def sl' (i : grid0.Coords) : Fin 2 := ⟨1 - (i 0).val % 2, by omega⟩

/-- The words an index table's block holds name the rows `w` of the tokens. -/
def Names (c : Dev nD) (M : Memref sig .tc .smem S1x1x512 .i32) (g : Buf (Elt F) (M.view.loc (c : Thread nD τ))) (w : Fin 512 → Fin 32768) : Prop :=
  ∀ r : Fin 512, (M.view.read (Elt F) g (ix3 (0 : Fin 1) (0 : Fin 1) r : S1x1x512.Idx) : BitVec 32).toNat = (w r).val

theorem Names.word {c : Dev nD} {M : Memref sig .tc .smem S1x1x512 .i32} {g : Buf (Elt F) (M.view.loc (c : Thread nD τ))} {w : Fin 512 → Fin 32768}
    (h : Names c M g w) {off : Fin 3 → ℕ} {inb : ∀ a, off a + S1x1x1.size a ≤ S1x1x512.size a} {j : ℕ} (hj : j < 512) (ho : off = ![0, 0, j])
    (x : (Rect.unit (s := S1x1x512) off S1x1x1.size inb).shape.Idx) :
    ((M.view.readAt (Elt F) (Rect.unit (s := S1x1x512) off S1x1x1.size inb).toLoadRect g x : Elt F .i32) : BitVec 32).toNat = (w ⟨j, hj⟩).val := by
  subst ho
  rw [← h ⟨j, hj⟩]
  have he : (Rect.unit (s := S1x1x512) ![0, 0, j] S1x1x1.size inb).emb x = (ix3 (0 : Fin 1) (0 : Fin 1) (⟨j, hj⟩ : Fin 512) : S1x1x512.Idx) := by
    funext ax
    apply Fin.ext
    fin_cases ax
    · have := (x 0).isLt
      show 0 + 1 * (x 0).val = 0; simp [Shape.size] at this; omega
    · have := (x 1).isLt
      show 0 + 1 * (x 1).val = 0; simp [Shape.size] at this; omega
    · have := (x 2).isLt
      show j + 1 * (x 2).val = j; simp [Shape.size] at this; omega
  rw [← he]
  rfl

/-- A row word stays inside the tokens. -/
theorem row_inb {v : BitVec 32} {w : Fin 32768} (h : v.toNat = w.val) {off : Fin 2 → ℕ} (ho : off = ![v.toNat, 0]) :
    ∀ a, off a + S1x1152.size a ≤ S32768x1152.size a := by
  subst ho; rw [h]; exact src_inb w

section Loops

variable (𝒱₀ : Variants) (c : Dev nD) (i : grid0.Coords)
  (arg1 : Memref sig .tc .smem S68 .i32) (harg1 : arg1.IsWhole) (arg2 : Memref sig .tc .smem S68 .i32) (harg2 : arg2.IsWhole) (arg3 : Memref sig .tc .smem S1x1x512 .i32) (harg3 : arg3.IsWhole) (arg4 : Memref sig .tc .smem S1x1x512 .i32) (harg4 : arg4.IsWhole) (harg5 : xtok.IsWhole) (arg6 : Memref sig .tc .vmem S1x1024 .f32) (harg6 : arg6.IsWhole) (arg7 : Memref sig .tc .vmem S1x8x1024x256 .bf16) (harg7 : arg7.IsWhole) (arg8 : Memref sig .tc .vmem S1x8x1024x256 .bf16) (harg8 : arg8.IsWhole) (arg9 : Memref sig .tc .vmem S1x8x256x1024 .bf16) (harg9 : arg9.IsWhole) (arg10 : Memref sig .tc .vmem S4096x128 .f32) (harg10 : arg10.IsWhole) (harg11 : xbuf.IsWhole) (arg13 : Memref sig .tc .vmem S512x1024 .bf16) (harg13 : arg13.IsWhole) (arg14 : Memref sig .tc .vmem S512x128 .f32) (harg14 : arg14.IsWhole) (arg15 : Sems sig S_)
  (s : Fin 2) (w : Fin 512 → Fin 32768) (f : XbBuf (F := F) c) (x : XtBuf (F := F) c)

theorem trips_t1 : k0_t1_loop.trips = 512 := by decide +kernel
theorem trips_t2 : k0_t2_loop.trips = 512 := by decide +kernel
theorem lt_t1 (k : Fin k0_t1_loop.trips) : k.val < 512 := trips_t1 ▸ k.isLt
theorem lt_t2 (k : Fin k0_t2_loop.trips) : k.val < 512 := trips_t2 ▸ k.isLt
theorem off2_eq : ∀ k : Fin k0_t1_loop.trips, k0_off2 k = ![0, 0, k.val] := by decide +kernel
theorem off3_eq : ∀ k : Fin k0_t1_loop.trips, k0_off3 k = ![0, k.val, 0] := by decide +kernel
theorem off7_eq : ∀ i : grid0.Coords, k0_off7 i = ![(sl i).val] := by decide +kernel
theorem off6_eq : ∀ k : Fin k0_t2_loop.trips, k0_off6 k = ![0, 0, k.val] := by decide +kernel

/-- Between the starts of one loop: the batch so far beside the table its words come from. -/
def issueInv (M : Memref sig .tc .smem S1x1x512 .i32) (g : Buf (Elt F) (M.view.loc (c : Thread nD τ))) (q : PosShare TreeShare) (j : ℕ) : sProp 𝕄 :=
  iprop(issuing c s w f x j ∗ (M.view.loc (c : Thread nD τ) ↦{q} g))

/-- Between two waits. -/
def drainInv (M : Memref sig .tc .smem S1x1x512 .i32) (g : Buf (Elt F) (M.view.loc (c : Thread nD τ))) (q : PosShare TreeShare) (j : ℕ) : sProp 𝕄 :=
  iprop(flight c s w x 512 (rowN * j) ∗ (∃ W, owes (c : Thread nD τ) 0 W) ∗ (M.view.loc (c : Thread nD τ) ↦{q} g))

theorem step_t1 (g : Buf (Elt F) (arg3.view.loc (c : Thread nD τ))) (q : PosShare TreeShare) (hN : Names c arg3 g w) (k0_h1 : k0_cond1 i = 1#1)
    (k : Fin k0_t1_loop.trips) :
    issueInv c 0 w f x arg3 g q k.val
      ⊢ wp Idealize.ShloMosaic.frame (wpE defs₀ 𝒱₀ (c : Thread nD τ) none) Set.univ
        (k0_t1_body (F := F) i arg1 harg1 arg2 harg2 arg3 harg3 arg4 harg4 xtok harg5 arg6 harg6 arg7 harg7 arg8 harg8 arg9 harg9 arg10 harg10 xbuf harg11 slotSems arg13 harg13 arg14 harg14 arg15 k0_h1 k ())
        (fun _ => issueInv c 0 w f x arg3 g q (k.val + 1)) := by
  have hword := fun inb x => hN.word (inb := inb) (lt_t1 k) (off2_eq k) x
  unfold issueInv
  iintro ⟨HI, Hm⟩
  sl_unfold [k0_t1_body]
  sl_exec
  have hr : (step_t1.sl.r c i arg3 g k0_h1 k : BitVec 32).toNat = (w ⟨k.val, lt_t1 k⟩).val := by
    unfold step_t1.sl.r; exact hword _ _
  generalize step_t1.sl.r c i arg3 g k0_h1 k = v at hr ⊢
  have hc : k0_chk1 i v := fun _ => row_inb hr rfl
  sl_exec
  iapply (issue_row c 0 w f x 𝒱₀ (lt_t1 k) (off3_eq k) (by rw [← hr]; rfl) rfl) $$ HI
  iintro HI
  sl_step
  isplitl [HI] <;> iassumption

-- GEN
theorem step_t2 (g : Buf (Elt F) (arg3.view.loc (c : Thread nD τ))) (q : PosShare TreeShare) (hN : Names c arg3 g w) (v17 : Elt F .i32) (k0_h2 : k0_cond2 i v17 = 1#1)
    (k : Fin k0_t2_loop.trips) :
    drainInv c (sl i) w x arg3 g q k.val
      ⊢ wp Idealize.ShloMosaic.frame (wpE defs₀ 𝒱₀ (c : Thread nD τ) none) Set.univ
        (k0_t2_body (F := F) i arg1 harg1 arg2 harg2 arg3 harg3 arg4 harg4 xtok harg5 arg6 harg6 arg7 harg7 arg8 harg8 arg9 harg9 arg10 harg10 xbuf harg11 slotSems arg13 harg13 arg14 harg14 arg15 v17 k0_h2 k ())
        (fun _ => drainInv c (sl i) w x arg3 g q (k.val + 1)) := by
  have hword := fun inb x => hN.word (inb := inb) (lt_t2 k) (off6_eq k) x
  unfold drainInv
  iintro ⟨HI, ⟨%W, HO⟩, Hm⟩
  sl_unfold [k0_t2_body]
  sl_exec
  have hr : (step_t2.sl.r c arg3 g k : BitVec 32).toNat = (w ⟨k.val, lt_t2 k⟩).val := by
    unfold step_t2.sl.r; exact hword _ _
  generalize step_t2.sl.r c arg3 g k = v at hr ⊢
  have hc : k0_chk2 i v17 v := fun _ => row_inb hr rfl
  sl_exec
  iapply (drain_row c (sl i) w x 𝒱₀ (lt_t2 k) (off7_eq i)) $$ [HI HO]
  · isplitl [HI] <;> iassumption
  iintro ⟨HI, HO⟩
  sl_step
  isplitl [HI]; · iexact HI
  isplitl [HO] <;> iassumption

theorem trips_t3 : k0_t3_loop.trips = 37 := by decide +kernel
theorem lt_t3 (k : Fin k0_t3_loop.trips) : 0 + 2 * k.val < 512 := by have := Nat.lt_of_lt_of_eq k.isLt trips_t3; omega
theorem lt_t3' (k : Fin k0_t3_loop.trips) : 0 + 2 * k.val + 1 < 512 := by have := Nat.lt_of_lt_of_eq k.isLt trips_t3; omega
theorem off15_eq : ∀ k : Fin k0_t3_loop.trips, k0_off15 k = ![0, 0, 0 + 2 * k.val] := by decide +kernel
theorem off16_eq : ∀ i : grid0.Coords, k0_off16 i = ![(sl' i).val] := by decide +kernel
theorem off17_eq : ∀ (i : grid0.Coords) (k : Fin k0_t3_loop.trips), k0_off17 i k = ![(sl' i).val, 0 + 2 * k.val, 0] := by decide +kernel
theorem off19_eq : ∀ k : Fin k0_t3_loop.trips, k0_off19 k = ![0, 0, 0 + 2 * k.val + 1] := by decide +kernel
theorem off20_eq : ∀ i : grid0.Coords, k0_off20 i = ![(sl' i).val] := by decide +kernel
theorem off21_eq : ∀ (i : grid0.Coords) (k : Fin k0_t3_loop.trips), k0_off21 i k = ![(sl' i).val, 0 + 2 * k.val + 1, 0] := by decide +kernel

theorem step_t3 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v64 : FVec F S512x1024 .f32) (v65 : Vec F S512x1024 .bf16) (v67 : FVec F S1024x256 .bf16)
    (k : Fin k0_t3_loop.trips) :
    issueInv c (sl' i) w f x arg4 g q (0 + 2 * k.val)
      ⊢ wp Idealize.ShloMosaic.frame (wpE defs₀ 𝒱₀ (c : Thread nD τ) none) Set.univ
        (k0_t3_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v64 v65 v67 k ())
        (fun _ => issueInv c (sl' i) w f x arg4 g q (0 + 2 * (k.val + 1))) := by
  have hword := fun inb x => hN.word (inb := inb) (lt_t3 k) (off15_eq k) x
  have hword' := fun inb x => hN.word (inb := inb) (lt_t3' k) (off19_eq k) x
  unfold issueInv
  iintro ⟨HI, Hm⟩
  sl_unfold [k0_t3_body]
  sl_exec
  have hr : (step_t3.sl.r c arg4 g k : BitVec 32).toNat = (w ⟨0 + 2 * k.val, lt_t3 k⟩).val := by
    unfold step_t3.sl.r; exact hword _ _
  generalize step_t3.sl.r c arg4 g k = v at hr ⊢
  have hc : k0_chk3 v28 v := fun _ => row_inb hr rfl
  sl_exec
  iapply (issue_row c (sl' i) w f x 𝒱₀ (lt_t3 k) (off17_eq i k) (by rw [← hr]; rfl) (off16_eq i)) $$ HI
  iintro HI
  sl_exec
  have hr' : (step_t3.sl.r_1 c arg4 g k : BitVec 32).toNat = (w ⟨0 + 2 * k.val + 1, lt_t3' k⟩).val := by
    unfold step_t3.sl.r_1; exact hword' _ _
  generalize step_t3.sl.r_1 c arg4 g k = v' at hr' ⊢
  have hc' : k0_chk4 v28 v' := fun _ => row_inb hr' rfl
  sl_exec
  iapply (issue_row c (sl' i) w f x 𝒱₀ (lt_t3' k) (off21_eq i k) (by rw [← hr']; rfl) (off20_eq i)) $$ HI
  iintro HI
  sl_step
  isplitl [HI] <;> iassumption

theorem trips_t4 : k0_t4_loop.trips = 37 := by decide +kernel
theorem lt_t4 (k : Fin k0_t4_loop.trips) : 74 + 2 * k.val < 512 := by have := Nat.lt_of_lt_of_eq k.isLt trips_t4; omega
theorem lt_t4' (k : Fin k0_t4_loop.trips) : 74 + 2 * k.val + 1 < 512 := by have := Nat.lt_of_lt_of_eq k.isLt trips_t4; omega
theorem off23_eq : ∀ k : Fin k0_t4_loop.trips, k0_off23 k = ![0, 0, 74 + 2 * k.val] := by decide +kernel
theorem off24_eq : ∀ i : grid0.Coords, k0_off24 i = ![(sl' i).val] := by decide +kernel
theorem off25_eq : ∀ (i : grid0.Coords) (k : Fin k0_t4_loop.trips), k0_off25 i k = ![(sl' i).val, 74 + 2 * k.val, 0] := by decide +kernel
theorem off27_eq : ∀ k : Fin k0_t4_loop.trips, k0_off27 k = ![0, 0, 74 + 2 * k.val + 1] := by decide +kernel
theorem off28_eq : ∀ i : grid0.Coords, k0_off28 i = ![(sl' i).val] := by decide +kernel
theorem off29_eq : ∀ (i : grid0.Coords) (k : Fin k0_t4_loop.trips), k0_off29 i k = ![(sl' i).val, 74 + 2 * k.val + 1, 0] := by decide +kernel

theorem step_t4 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v92 : FVec F S512x1024 .f32) (v94 : Vec F S512x1024 .bf16) (v97 : FVec F S512x256 .f32)
    (k : Fin k0_t4_loop.trips) :
    issueInv c (sl' i) w f x arg4 g q (74 + 2 * k.val)
      ⊢ wp Idealize.ShloMosaic.frame (wpE defs₀ 𝒱₀ (c : Thread nD τ) none) Set.univ
        (k0_t4_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v92 v94 v97 k ())
        (fun _ => issueInv c (sl' i) w f x arg4 g q (74 + 2 * (k.val + 1))) := by
  have hword := fun inb x => hN.word (inb := inb) (lt_t4 k) (off23_eq k) x
  have hword' := fun inb x => hN.word (inb := inb) (lt_t4' k) (off27_eq k) x
  unfold issueInv
  iintro ⟨HI, Hm⟩
  sl_unfold [k0_t4_body]
  sl_exec
  have hr : (step_t4.sl.r c arg4 g k : BitVec 32).toNat = (w ⟨74 + 2 * k.val, lt_t4 k⟩).val := by
    unfold step_t4.sl.r; exact hword _ _
  generalize step_t4.sl.r c arg4 g k = v at hr ⊢
  have hc : k0_chk5 v28 v := fun _ => row_inb hr rfl
  sl_exec
  iapply (issue_row c (sl' i) w f x 𝒱₀ (lt_t4 k) (off25_eq i k) (by rw [← hr]; rfl) (off24_eq i)) $$ HI
  iintro HI
  sl_exec
  have hr' : (step_t4.sl.r_1 c arg4 g k : BitVec 32).toNat = (w ⟨74 + 2 * k.val + 1, lt_t4' k⟩).val := by
    unfold step_t4.sl.r_1; exact hword' _ _
  generalize step_t4.sl.r_1 c arg4 g k = v' at hr' ⊢
  have hc' : k0_chk6 v28 v' := fun _ => row_inb hr' rfl
  sl_exec
  iapply (issue_row c (sl' i) w f x 𝒱₀ (lt_t4' k) (off29_eq i k) (by rw [← hr']; rfl) (off28_eq i)) $$ HI
  iintro HI
  sl_step
  isplitl [HI] <;> iassumption

theorem trips_t5 : k0_t5_loop.trips = 37 := by decide +kernel
theorem lt_t5 (k : Fin k0_t5_loop.trips) : 148 + 2 * k.val < 512 := by have := Nat.lt_of_lt_of_eq k.isLt trips_t5; omega
theorem lt_t5' (k : Fin k0_t5_loop.trips) : 148 + 2 * k.val + 1 < 512 := by have := Nat.lt_of_lt_of_eq k.isLt trips_t5; omega
theorem off31_eq : ∀ k : Fin k0_t5_loop.trips, k0_off31 k = ![0, 0, 148 + 2 * k.val] := by decide +kernel
theorem off32_eq : ∀ i : grid0.Coords, k0_off32 i = ![(sl' i).val] := by decide +kernel
theorem off33_eq : ∀ (i : grid0.Coords) (k : Fin k0_t5_loop.trips), k0_off33 i k = ![(sl' i).val, 148 + 2 * k.val, 0] := by decide +kernel
theorem off35_eq : ∀ k : Fin k0_t5_loop.trips, k0_off35 k = ![0, 0, 148 + 2 * k.val + 1] := by decide +kernel
theorem off36_eq : ∀ i : grid0.Coords, k0_off36 i = ![(sl' i).val] := by decide +kernel
theorem off37_eq : ∀ (i : grid0.Coords) (k : Fin k0_t5_loop.trips), k0_off37 i k = ![(sl' i).val, 148 + 2 * k.val + 1, 0] := by decide +kernel

theorem step_t5 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v121 : FVec F S512x1024 .f32) (v123 : BitVec 32) (v124 : Vec F S512x1024 .bf16) (v127 : FVec F S512x256 .f32)
    (k : Fin k0_t5_loop.trips) :
    issueInv c (sl' i) w f x arg4 g q (148 + 2 * k.val)
      ⊢ wp Idealize.ShloMosaic.frame (wpE defs₀ 𝒱₀ (c : Thread nD τ) none) Set.univ
        (k0_t5_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v121 v123 v124 v127 k ())
        (fun _ => issueInv c (sl' i) w f x arg4 g q (148 + 2 * (k.val + 1))) := by
  have hword := fun inb x => hN.word (inb := inb) (lt_t5 k) (off31_eq k) x
  have hword' := fun inb x => hN.word (inb := inb) (lt_t5' k) (off35_eq k) x
  unfold issueInv
  iintro ⟨HI, Hm⟩
  sl_unfold [k0_t5_body]
  sl_exec
  have hr : (step_t5.sl.r c arg4 g k : BitVec 32).toNat = (w ⟨148 + 2 * k.val, lt_t5 k⟩).val := by
    unfold step_t5.sl.r; exact hword _ _
  generalize step_t5.sl.r c arg4 g k = v at hr ⊢
  have hc : k0_chk7 v28 v := fun _ => row_inb hr rfl
  sl_exec
  iapply (issue_row c (sl' i) w f x 𝒱₀ (lt_t5 k) (off33_eq i k) (by rw [← hr]; rfl) (off32_eq i)) $$ HI
  iintro HI
  sl_exec
  have hr' : (step_t5.sl.r_1 c arg4 g k : BitVec 32).toNat = (w ⟨148 + 2 * k.val + 1, lt_t5' k⟩).val := by
    unfold step_t5.sl.r_1; exact hword' _ _
  generalize step_t5.sl.r_1 c arg4 g k = v' at hr' ⊢
  have hc' : k0_chk8 v28 v' := fun _ => row_inb hr' rfl
  sl_exec
  iapply (issue_row c (sl' i) w f x 𝒱₀ (lt_t5' k) (off37_eq i k) (by rw [← hr']; rfl) (off36_eq i)) $$ HI
  iintro HI
  sl_step
  isplitl [HI] <;> iassumption

theorem trips_t6 : k0_t6_loop.trips = 37 := by decide +kernel
theorem lt_t6 (k : Fin k0_t6_loop.trips) : 222 + 2 * k.val < 512 := by have := Nat.lt_of_lt_of_eq k.isLt trips_t6; omega
theorem lt_t6' (k : Fin k0_t6_loop.trips) : 222 + 2 * k.val + 1 < 512 := by have := Nat.lt_of_lt_of_eq k.isLt trips_t6; omega
theorem off39_eq : ∀ k : Fin k0_t6_loop.trips, k0_off39 k = ![0, 0, 222 + 2 * k.val] := by decide +kernel
theorem off40_eq : ∀ i : grid0.Coords, k0_off40 i = ![(sl' i).val] := by decide +kernel
theorem off41_eq : ∀ (i : grid0.Coords) (k : Fin k0_t6_loop.trips), k0_off41 i k = ![(sl' i).val, 222 + 2 * k.val, 0] := by decide +kernel
theorem off43_eq : ∀ k : Fin k0_t6_loop.trips, k0_off43 k = ![0, 0, 222 + 2 * k.val + 1] := by decide +kernel
theorem off44_eq : ∀ i : grid0.Coords, k0_off44 i = ![(sl' i).val] := by decide +kernel
theorem off45_eq : ∀ (i : grid0.Coords) (k : Fin k0_t6_loop.trips), k0_off45 i k = ![(sl' i).val, 222 + 2 * k.val + 1, 0] := by decide +kernel

theorem step_t6 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v123 : BitVec 32) (v151 : FVec F S512x1024 .f32) (v153 : Vec F S512x1024 .bf16) (v156 : FVec F S512x256 .f32) (v158 : FVec F S1024x256 .bf16) (cst_112 : FVec F S512x256 .f32)
    (k : Fin k0_t6_loop.trips) :
    issueInv c (sl' i) w f x arg4 g q (222 + 2 * k.val)
      ⊢ wp Idealize.ShloMosaic.frame (wpE defs₀ 𝒱₀ (c : Thread nD τ) none) Set.univ
        (k0_t6_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v123 v151 v153 v156 v158 cst_112 k ())
        (fun _ => issueInv c (sl' i) w f x arg4 g q (222 + 2 * (k.val + 1))) := by
  have hword := fun inb x => hN.word (inb := inb) (lt_t6 k) (off39_eq k) x
  have hword' := fun inb x => hN.word (inb := inb) (lt_t6' k) (off43_eq k) x
  unfold issueInv
  iintro ⟨HI, Hm⟩
  sl_unfold [k0_t6_body]
  sl_exec
  have hr : (step_t6.sl.r c arg4 g k : BitVec 32).toNat = (w ⟨222 + 2 * k.val, lt_t6 k⟩).val := by
    unfold step_t6.sl.r; exact hword _ _
  generalize step_t6.sl.r c arg4 g k = v at hr ⊢
  have hc : k0_chk9 v28 v := fun _ => row_inb hr rfl
  sl_exec
  iapply (issue_row c (sl' i) w f x 𝒱₀ (lt_t6 k) (off41_eq i k) (by rw [← hr]; rfl) (off40_eq i)) $$ HI
  iintro HI
  sl_exec
  have hr' : (step_t6.sl.r_1 c arg4 g k : BitVec 32).toNat = (w ⟨222 + 2 * k.val + 1, lt_t6' k⟩).val := by
    unfold step_t6.sl.r_1; exact hword' _ _
  generalize step_t6.sl.r_1 c arg4 g k = v' at hr' ⊢
  have hc' : k0_chk10 v28 v' := fun _ => row_inb hr' rfl
  sl_exec
  iapply (issue_row c (sl' i) w f x 𝒱₀ (lt_t6' k) (off45_eq i k) (by rw [← hr']; rfl) (off44_eq i)) $$ HI
  iintro HI
  sl_step
  isplitl [HI] <;> iassumption

theorem trips_t7 : k0_t7_loop.trips = 37 := by decide +kernel
theorem lt_t7 (k : Fin k0_t7_loop.trips) : 296 + 2 * k.val < 512 := by have := Nat.lt_of_lt_of_eq k.isLt trips_t7; omega
theorem lt_t7' (k : Fin k0_t7_loop.trips) : 296 + 2 * k.val + 1 < 512 := by have := Nat.lt_of_lt_of_eq k.isLt trips_t7; omega
theorem off47_eq : ∀ k : Fin k0_t7_loop.trips, k0_off47 k = ![0, 0, 296 + 2 * k.val] := by decide +kernel
theorem off48_eq : ∀ i : grid0.Coords, k0_off48 i = ![(sl' i).val] := by decide +kernel
theorem off49_eq : ∀ (i : grid0.Coords) (k : Fin k0_t7_loop.trips), k0_off49 i k = ![(sl' i).val, 296 + 2 * k.val, 0] := by decide +kernel
theorem off51_eq : ∀ k : Fin k0_t7_loop.trips, k0_off51 k = ![0, 0, 296 + 2 * k.val + 1] := by decide +kernel
theorem off52_eq : ∀ i : grid0.Coords, k0_off52 i = ![(sl' i).val] := by decide +kernel
theorem off53_eq : ∀ (i : grid0.Coords) (k : Fin k0_t7_loop.trips), k0_off53 i k = ![(sl' i).val, 296 + 2 * k.val + 1, 0] := by decide +kernel

theorem step_t7 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v180 : FVec F S512x1024 .f32) (v182 : BitVec 32) (v186 : FVec F S512x256 .f32) (v189 : FVec F S512x256 .f32) (v190 : BitVec 32)
    (k : Fin k0_t7_loop.trips) :
    issueInv c (sl' i) w f x arg4 g q (296 + 2 * k.val)
      ⊢ wp Idealize.ShloMosaic.frame (wpE defs₀ 𝒱₀ (c : Thread nD τ) none) Set.univ
        (k0_t7_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v180 v182 v186 v189 v190 k ())
        (fun _ => issueInv c (sl' i) w f x arg4 g q (296 + 2 * (k.val + 1))) := by
  have hword := fun inb x => hN.word (inb := inb) (lt_t7 k) (off47_eq k) x
  have hword' := fun inb x => hN.word (inb := inb) (lt_t7' k) (off51_eq k) x
  unfold issueInv
  iintro ⟨HI, Hm⟩
  sl_unfold [k0_t7_body]
  sl_exec
  have hr : (step_t7.sl.r c arg4 g k : BitVec 32).toNat = (w ⟨296 + 2 * k.val, lt_t7 k⟩).val := by
    unfold step_t7.sl.r; exact hword _ _
  generalize step_t7.sl.r c arg4 g k = v at hr ⊢
  have hc : k0_chk11 v28 v := fun _ => row_inb hr rfl
  sl_exec
  iapply (issue_row c (sl' i) w f x 𝒱₀ (lt_t7 k) (off49_eq i k) (by rw [← hr]; rfl) (off48_eq i)) $$ HI
  iintro HI
  sl_exec
  have hr' : (step_t7.sl.r_1 c arg4 g k : BitVec 32).toNat = (w ⟨296 + 2 * k.val + 1, lt_t7' k⟩).val := by
    unfold step_t7.sl.r_1; exact hword' _ _
  generalize step_t7.sl.r_1 c arg4 g k = v' at hr' ⊢
  have hc' : k0_chk12 v28 v' := fun _ => row_inb hr' rfl
  sl_exec
  iapply (issue_row c (sl' i) w f x 𝒱₀ (lt_t7' k) (off53_eq i k) (by rw [← hr']; rfl) (off52_eq i)) $$ HI
  iintro HI
  sl_step
  isplitl [HI] <;> iassumption

theorem trips_t8 : k0_t8_loop.trips = 37 := by decide +kernel
theorem lt_t8 (k : Fin k0_t8_loop.trips) : 370 + 2 * k.val < 512 := by have := Nat.lt_of_lt_of_eq k.isLt trips_t8; omega
theorem lt_t8' (k : Fin k0_t8_loop.trips) : 370 + 2 * k.val + 1 < 512 := by have := Nat.lt_of_lt_of_eq k.isLt trips_t8; omega
theorem off55_eq : ∀ k : Fin k0_t8_loop.trips, k0_off55 k = ![0, 0, 370 + 2 * k.val] := by decide +kernel
theorem off56_eq : ∀ i : grid0.Coords, k0_off56 i = ![(sl' i).val] := by decide +kernel
theorem off57_eq : ∀ (i : grid0.Coords) (k : Fin k0_t8_loop.trips), k0_off57 i k = ![(sl' i).val, 370 + 2 * k.val, 0] := by decide +kernel
theorem off59_eq : ∀ k : Fin k0_t8_loop.trips, k0_off59 k = ![0, 0, 370 + 2 * k.val + 1] := by decide +kernel
theorem off60_eq : ∀ i : grid0.Coords, k0_off60 i = ![(sl' i).val] := by decide +kernel
theorem off61_eq : ∀ (i : grid0.Coords) (k : Fin k0_t8_loop.trips), k0_off61 i k = ![(sl' i).val, 370 + 2 * k.val + 1, 0] := by decide +kernel

theorem step_t8 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v210 : FVec F S512x1024 .f32) (v215 : FVec F S512x256 .f32) (v218 : FVec F S512x256 .f32) (v222 : IVec S1x128 1)
    (k : Fin k0_t8_loop.trips) :
    issueInv c (sl' i) w f x arg4 g q (370 + 2 * k.val)
      ⊢ wp Idealize.ShloMosaic.frame (wpE defs₀ 𝒱₀ (c : Thread nD τ) none) Set.univ
        (k0_t8_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v210 v215 v218 v222 k ())
        (fun _ => issueInv c (sl' i) w f x arg4 g q (370 + 2 * (k.val + 1))) := by
  have hword := fun inb x => hN.word (inb := inb) (lt_t8 k) (off55_eq k) x
  have hword' := fun inb x => hN.word (inb := inb) (lt_t8' k) (off59_eq k) x
  unfold issueInv
  iintro ⟨HI, Hm⟩
  sl_unfold [k0_t8_body]
  sl_exec
  have hr : (step_t8.sl.r c arg4 g k : BitVec 32).toNat = (w ⟨370 + 2 * k.val, lt_t8 k⟩).val := by
    unfold step_t8.sl.r; exact hword _ _
  generalize step_t8.sl.r c arg4 g k = v at hr ⊢
  have hc : k0_chk13 v28 v := fun _ => row_inb hr rfl
  sl_exec
  iapply (issue_row c (sl' i) w f x 𝒱₀ (lt_t8 k) (off57_eq i k) (by rw [← hr]; rfl) (off56_eq i)) $$ HI
  iintro HI
  sl_exec
  have hr' : (step_t8.sl.r_1 c arg4 g k : BitVec 32).toNat = (w ⟨370 + 2 * k.val + 1, lt_t8' k⟩).val := by
    unfold step_t8.sl.r_1; exact hword' _ _
  generalize step_t8.sl.r_1 c arg4 g k = v' at hr' ⊢
  have hc' : k0_chk14 v28 v' := fun _ => row_inb hr' rfl
  sl_exec
  iapply (issue_row c (sl' i) w f x 𝒱₀ (lt_t8' k) (off61_eq i k) (by rw [← hr']; rfl) (off60_eq i)) $$ HI
  iintro HI
  sl_step
  isplitl [HI] <;> iassumption

theorem trips_t9 : k0_t9_loop.trips = 34 := by decide +kernel
theorem lt_t9 (k : Fin k0_t9_loop.trips) : 444 + 2 * k.val < 512 := by have := Nat.lt_of_lt_of_eq k.isLt trips_t9; omega
theorem lt_t9' (k : Fin k0_t9_loop.trips) : 444 + 2 * k.val + 1 < 512 := by have := Nat.lt_of_lt_of_eq k.isLt trips_t9; omega
theorem off63_eq : ∀ k : Fin k0_t9_loop.trips, k0_off63 k = ![0, 0, 444 + 2 * k.val] := by decide +kernel
theorem off64_eq : ∀ i : grid0.Coords, k0_off64 i = ![(sl' i).val] := by decide +kernel
theorem off65_eq : ∀ (i : grid0.Coords) (k : Fin k0_t9_loop.trips), k0_off65 i k = ![(sl' i).val, 444 + 2 * k.val, 0] := by decide +kernel
theorem off67_eq : ∀ k : Fin k0_t9_loop.trips, k0_off67 k = ![0, 0, 444 + 2 * k.val + 1] := by decide +kernel
theorem off68_eq : ∀ i : grid0.Coords, k0_off68 i = ![(sl' i).val] := by decide +kernel
theorem off69_eq : ∀ (i : grid0.Coords) (k : Fin k0_t9_loop.trips), k0_off69 i k = ![(sl' i).val, 444 + 2 * k.val + 1, 0] := by decide +kernel

theorem step_t9 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v239 : FVec F S512x1024 .f32) (v245 : FVec F S512x256 .f32) (v248 : FVec F S512x256 .f32) (v252 : IVec S1x128 1) (v253 : Vec F S512x128 .f32) (cst_188 : F .f32)
    (k : Fin k0_t9_loop.trips) :
    issueInv c (sl' i) w f x arg4 g q (444 + 2 * k.val)
      ⊢ wp Idealize.ShloMosaic.frame (wpE defs₀ 𝒱₀ (c : Thread nD τ) none) Set.univ
        (k0_t9_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v239 v245 v248 v252 v253 cst_188 k ())
        (fun _ => issueInv c (sl' i) w f x arg4 g q (444 + 2 * (k.val + 1))) := by
  have hword := fun inb x => hN.word (inb := inb) (lt_t9 k) (off63_eq k) x
  have hword' := fun inb x => hN.word (inb := inb) (lt_t9' k) (off67_eq k) x
  unfold issueInv
  iintro ⟨HI, Hm⟩
  sl_unfold [k0_t9_body]
  sl_exec
  have hr : (step_t9.sl.r c arg4 g k : BitVec 32).toNat = (w ⟨444 + 2 * k.val, lt_t9 k⟩).val := by
    unfold step_t9.sl.r; exact hword _ _
  generalize step_t9.sl.r c arg4 g k = v at hr ⊢
  have hc : k0_chk15 v28 v := fun _ => row_inb hr rfl
  sl_exec
  iapply (issue_row c (sl' i) w f x 𝒱₀ (lt_t9 k) (off65_eq i k) (by rw [← hr]; rfl) (off64_eq i)) $$ HI
  iintro HI
  sl_exec
  have hr' : (step_t9.sl.r_1 c arg4 g k : BitVec 32).toNat = (w ⟨444 + 2 * k.val + 1, lt_t9' k⟩).val := by
    unfold step_t9.sl.r_1; exact hword' _ _
  generalize step_t9.sl.r_1 c arg4 g k = v' at hr' ⊢
  have hc' : k0_chk16 v28 v' := fun _ => row_inb hr' rfl
  sl_exec
  iapply (issue_row c (sl' i) w f x 𝒱₀ (lt_t9' k) (off69_eq i k) (by rw [← hr']; rfl) (off68_eq i)) $$ HI
  iintro HI
  sl_step
  isplitl [HI] <;> iassumption

end Loops

end Cert.KernelIdeal.Hand

end
-- ==== Proof.Parts.lean ====
/-
  The stretches of a computing step: each loads its expert's weights, starts its share of the next tile's rows and hands on
  the running sum; what it returns is named by the payloads over what it loads.
-/
module

public import proofs.«01_k».proof.Proof.LoopsA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

/-- A program run to a first result, then on: the rule `wp_bind` with the first part's triple in hand. -/
theorem seq {c : Dev nD} {𝒱₀ : Variants} {α β : Type} {A : sProp 𝕄} {p : Prog (TpuEff nD τ sig (Elt F) Λ₀ .tc) α} {R : α → sProp 𝕄}
    {k : α → Prog (TpuEff nD τ sig (Elt F) Λ₀ .tc) β} {Q : β → sProp 𝕄}
    (h : A ⊢ wp Idealize.ShloMosaic.frame (wpE defs₀ 𝒱₀ (c : Thread nD τ) none) Set.univ p R) :
    A ⊢ iprop((∀ a, R a -∗ wp Idealize.ShloMosaic.frame (wpE defs₀ 𝒱₀ (c : Thread nD τ) none) Set.univ (k a) Q)
      -∗ wp Idealize.ShloMosaic.frame (wpE defs₀ 𝒱₀ (c : Thread nD τ) none) Set.univ (p >>= k) Q) := by
  rw [wp_bind]
  exact h.trans (wp_wand _ _ _)

/-- A counter read while it is held. -/
theorem read_word (𝒱₀ : Variants) (c : Dev nD) {β : Type} {sem : SemLoc sig} {v : ℕ} {k : BitVec 32 → Prog (TpuEff nD τ sig (Elt F) Λ₀ .tc) β} {Q : β → sProp 𝕄} :
    (semVal ((c : Thread nD τ), sem) v : sProp 𝕄)
      ⊢ iprop((semVal ((c : Thread nD τ), sem) v -∗ wp Idealize.ShloMosaic.frame (wpE defs₀ 𝒱₀ (c : Thread nD τ) none) Set.univ (k (BitVec.ofInt 32 v)) Q)
      -∗ wp Idealize.ShloMosaic.frame (wpE defs₀ 𝒱₀ (c : Thread nD τ) none) Set.univ (semReadWord sem >>= k) Q) :=
  wp_semRead 𝒱₀ (c : Thread nD τ) none Set.univ (k := fun n => k (BitVec.ofInt 32 n))

section Parts

variable (𝒱₀ : Variants) (c : Dev nD) (i : grid0.Coords)
  (arg1 : Memref sig .tc .smem S68 .i32) (harg1 : arg1.IsWhole) (arg2 : Memref sig .tc .smem S68 .i32) (harg2 : arg2.IsWhole) (arg3 : Memref sig .tc .smem S1x1x512 .i32) (harg3 : arg3.IsWhole) (arg4 : Memref sig .tc .smem S1x1x512 .i32) (harg4 : arg4.IsWhole) (harg5 : xtok.IsWhole) (arg6 : Memref sig .tc .vmem S1x1024 .f32) (harg6 : arg6.IsWhole) (arg7 : Memref sig .tc .vmem S1x8x1024x256 .bf16) (harg7 : arg7.IsWhole) (arg8 : Memref sig .tc .vmem S1x8x1024x256 .bf16) (harg8 : arg8.IsWhole) (arg9 : Memref sig .tc .vmem S1x8x256x1024 .bf16) (harg9 : arg9.IsWhole) (arg10 : Memref sig .tc .vmem S4096x128 .f32) (harg10 : arg10.IsWhole) (harg11 : xbuf.IsWhole) (arg13 : Memref sig .tc .vmem S512x1024 .bf16) (harg13 : arg13.IsWhole) (arg14 : Memref sig .tc .vmem S512x128 .f32) (harg14 : arg14.IsWhole) (arg15 : Sems sig S_)
  (s : Fin 2) (w : Fin 512 → Fin 32768) (f : XbBuf (F := F) c) (x : XtBuf (F := F) c)

/-- One expert's first weights, a whole scratch array, and the like, as the kernel loads them. -/
abbrev ldA (M : Memref sig .tc .vmem S1x8x1024x256 .bf16) (g : Buf (Elt F) (M.view.loc (c : Thread nD τ))) (off : Fin 4 → ℕ)
    (inb : ∀ a, off a + S1x1x1024x256.size a ≤ S1x8x1024x256.size a) : Vec F S1x1x1024x256 .bf16 :=
  M.view.readAt (Elt F) (Rect.unit (s := S1x8x1024x256) off S1x1x1024x256.size inb).toLoadRect g
abbrev ldB (M : Memref sig .tc .vmem S1x8x256x1024 .bf16) (g : Buf (Elt F) (M.view.loc (c : Thread nD τ))) (off : Fin 4 → ℕ)
    (inb : ∀ a, off a + S1x1x256x1024.size a ≤ S1x8x256x1024.size a) : Vec F S1x1x256x1024 .bf16 :=
  M.view.readAt (Elt F) (Rect.unit (s := S1x8x256x1024) off S1x1x256x1024.size inb).toLoadRect g
abbrev ldX (M : Memref sig .tc .vmem S512x1024 .bf16) (g : Buf (Elt F) (M.view.loc (c : Thread nD τ))) : Vec F S512x1024 .bf16 :=
  M.view.readAt (Elt F) (Rect.unit (s := S512x1024) ![0, 0] S512x1024.size inb_S512x1024_S512x1024_0_0).toLoadRect g
abbrev ldC (M : Memref sig .tc .vmem S512x128 .f32) (g : Buf (Elt F) (M.view.loc (c : Thread nD τ))) : Vec F S512x128 .f32 :=
  M.view.readAt (Elt F) (Rect.unit (s := S512x128) ![0, 0] S512x128.size inb_S512x128_S512x128_0_0).toLoadRect g

variable (g7 : Buf (Elt F) (arg7.view.loc (c : Thread nD τ))) (g8 : Buf (Elt F) (arg8.view.loc (c : Thread nD τ))) (g9 : Buf (Elt F) (arg9.view.loc (c : Thread nD τ)))
  (g13 : Buf (Elt F) (arg13.view.loc (c : Thread nD τ))) (g14 : Buf (Elt F) (arg14.view.loc (c : Thread nD τ)))

/-- What every stretch holds besides the batch in flight: the three weight blocks, the two scratch arrays, the fence's counter at
    zero. -/
def held : sProp 𝕄 :=
  iprop((arg7.view.loc (c : Thread nD τ) ↦{fullShare} g7) ∗ (arg8.view.loc (c : Thread nD τ) ↦{fullShare} g8) ∗ (arg9.view.loc (c : Thread nD τ) ↦{fullShare} g9)
    ∗ (arg13.view.loc (c : Thread nD τ) ↦{fullShare} g13) ∗ (arg14.view.loc (c : Thread nD τ) ↦{fullShare} g14) ∗ semVal ((c : Thread nD τ), SemLoc.reg arg15.sem) 0)

theorem loop_t3 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v64 : FVec F S512x1024 .f32) (v65 : Vec F S512x1024 .bf16) (v67 : FVec F S1024x256 .bf16) :
    issueInv c (sl' i) w f x arg4 g q 0
      ⊢ wp Idealize.ShloMosaic.frame (wpE defs₀ 𝒱₀ (c : Thread nD τ) none) Set.univ
        (Scf.Loop.for k0_t3_loop k0_t3_ok ⟨⟩ (k0_t3_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v64 v65 v67))
        (fun _ => issueInv c (sl' i) w f x arg4 g q 74) := by
  have h0 : issueInv c (sl' i) w f x arg4 g q 0 ⊢ (iprop(issueInv c (sl' i) w f x arg4 g q (0 + 2 * 0)
      ∗ (∀ acc : Unit, issueInv c (sl' i) w f x arg4 g q (0 + 2 * 37) -∗ issueInv c (sl' i) w f x arg4 g q 74)) : sProp 𝕄) := by
    iintro H
    isplitl [H]; · iexact H
    iintro %acc H
    iexact H
  rw [← trips_t3] at h0
  exact h0.trans (Scf.wp_for _ _ _ k0_t3_loop.lb k0_t3_loop.ub k0_t3_loop.st k0_t3_ok () _
    (fun k _ => issueInv c (sl' i) w f x arg4 g q (0 + 2 * k)) (fun k acc => step_t3 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v64 v65 v67 k))

theorem part2_run (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v64 : FVec F S512x1024 .f32) (v65 : Vec F S512x1024 .bf16) (v67 : FVec F S1024x256 .bf16) :
    iprop(held c arg7 arg8 arg9 arg13 arg14 arg15 g7 g8 g9 g13 g14 ∗ issueInv c (sl' i) w f x arg4 g q 0)
      ⊢ wp Idealize.ShloMosaic.frame (wpE defs₀ 𝒱₀ (c : Thread nD τ) none) Set.univ
        (k0_part2 (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v64 v65 v67)
        (fun r => iprop(⌜r = ⟨k0_pay7 v32 v63 v64 v65 v67 (ldA c arg8 g8 ![0, 0, 0, 0] inb_S1x8x1024x256_S1x1x1024x256_0_0_0_0) (ldC c arg14 g14) (ldB c arg9 g9 ![0, 0, 0, 0] inb_S1x8x256x1024_S1x1x256x1024_0_0_0_0), (ldX c arg13 g13), k0_pay8 (ldX c arg13 g13) (ldA c arg7 g7 ![0, 1, 0, 0] inb_S1x8x1024x256_S1x1x1024x256_0_1_0_0)⟩⌝ ∗ held c arg7 arg8 arg9 arg13 arg14 arg15 g7 g8 g9 g13 g14 ∗ issueInv c (sl' i) w f x arg4 g q 74)) := by
  rw [k0_part2_eq_skeleton]
  unfold held
  iintro ⟨⟨H7, H8, H9, H13, H14, Hs⟩, HI⟩
  sl_unfold [k0_part2_skel]
  sl_exec
  iapply (seq (loop_t3 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v64 v65 v67)) $$ HI
  iintro %_ HI
  sl_exec
  sl_step
  isplitr; · ipureintro; rfl
  isplitr [HI]
  · isplitl [H7]; · iexact H7
    isplitl [H8]; · iexact H8
    isplitl [H9]; · iexact H9
    isplitl [H13]; · iexact H13
    isplitl [H14]; · iexact H14
    iexact Hs
  iexact HI

theorem loop_t4 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v92 : FVec F S512x1024 .f32) (v94 : Vec F S512x1024 .bf16) (v97 : FVec F S512x256 .f32) :
    issueInv c (sl' i) w f x arg4 g q 74
      ⊢ wp Idealize.ShloMosaic.frame (wpE defs₀ 𝒱₀ (c : Thread nD τ) none) Set.univ
        (Scf.Loop.for k0_t4_loop k0_t4_ok ⟨⟩ (k0_t4_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v92 v94 v97))
        (fun _ => issueInv c (sl' i) w f x arg4 g q 148) := by
  have h0 : issueInv c (sl' i) w f x arg4 g q 74 ⊢ (iprop(issueInv c (sl' i) w f x arg4 g q (74 + 2 * 0)
      ∗ (∀ acc : Unit, issueInv c (sl' i) w f x arg4 g q (74 + 2 * 37) -∗ issueInv c (sl' i) w f x arg4 g q 148)) : sProp 𝕄) := by
    iintro H
    isplitl [H]; · iexact H
    iintro %acc H
    iexact H
  rw [← trips_t4] at h0
  exact h0.trans (Scf.wp_for _ _ _ k0_t4_loop.lb k0_t4_loop.ub k0_t4_loop.st k0_t4_ok () _
    (fun k _ => issueInv c (sl' i) w f x arg4 g q (74 + 2 * k)) (fun k acc => step_t4 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v92 v94 v97 k))

theorem part3_run (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v92 : FVec F S512x1024 .f32) (v94 : Vec F S512x1024 .bf16) (v97 : FVec F S512x256 .f32) :
    iprop(held c arg7 arg8 arg9 arg13 arg14 arg15 g7 g8 g9 g13 g14 ∗ issueInv c (sl' i) w f x arg4 g q 74)
      ⊢ wp Idealize.ShloMosaic.frame (wpE defs₀ 𝒱₀ (c : Thread nD τ) none) Set.univ
        (k0_part3 (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v92 v94 v97)
        (fun r => iprop(⌜r = ⟨k0_pay9 v32 v63 v92 v94 v97 (ldA c arg8 g8 ![0, 1, 0, 0] inb_S1x8x1024x256_S1x1x1024x256_0_1_0_0) (ldC c arg14 g14) (ldB c arg9 g9 ![0, 1, 0, 0] inb_S1x8x256x1024_S1x1x256x1024_0_1_0_0), (BitVec.ofInt 32 0), (ldX c arg13 g13), k0_pay10 (ldX c arg13 g13) (ldA c arg7 g7 ![0, 2, 0, 0] inb_S1x8x1024x256_S1x1x1024x256_0_2_0_0)⟩⌝ ∗ held c arg7 arg8 arg9 arg13 arg14 arg15 g7 g8 g9 g13 g14 ∗ issueInv c (sl' i) w f x arg4 g q 148)) := by
  rw [k0_part3_eq_skeleton]
  unfold held
  iintro ⟨⟨H7, H8, H9, H13, H14, Hs⟩, HI⟩
  sl_unfold [k0_part3_skel]
  sl_exec
  iapply (seq (loop_t4 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v92 v94 v97)) $$ HI
  iintro %_ HI
  iapply (read_word 𝒱₀ c) $$ Hs
  iintro Hs
  sl_exec
  sl_step
  isplitr; · ipureintro; rfl
  isplitr [HI]
  · isplitl [H7]; · iexact H7
    isplitl [H8]; · iexact H8
    isplitl [H9]; · iexact H9
    isplitl [H13]; · iexact H13
    isplitl [H14]; · iexact H14
    iexact Hs
  iexact HI

theorem loop_t5 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v121 : FVec F S512x1024 .f32) (v123 : BitVec 32) (v124 : Vec F S512x1024 .bf16) (v127 : FVec F S512x256 .f32) :
    issueInv c (sl' i) w f x arg4 g q 148
      ⊢ wp Idealize.ShloMosaic.frame (wpE defs₀ 𝒱₀ (c : Thread nD τ) none) Set.univ
        (Scf.Loop.for k0_t5_loop k0_t5_ok ⟨⟩ (k0_t5_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v121 v123 v124 v127))
        (fun _ => issueInv c (sl' i) w f x arg4 g q 222) := by
  have h0 : issueInv c (sl' i) w f x arg4 g q 148 ⊢ (iprop(issueInv c (sl' i) w f x arg4 g q (148 + 2 * 0)
      ∗ (∀ acc : Unit, issueInv c (sl' i) w f x arg4 g q (148 + 2 * 37) -∗ issueInv c (sl' i) w f x arg4 g q 222)) : sProp 𝕄) := by
    iintro H
    isplitl [H]; · iexact H
    iintro %acc H
    iexact H
  rw [← trips_t5] at h0
  exact h0.trans (Scf.wp_for _ _ _ k0_t5_loop.lb k0_t5_loop.ub k0_t5_loop.st k0_t5_ok () _
    (fun k _ => issueInv c (sl' i) w f x arg4 g q (148 + 2 * k)) (fun k acc => step_t5 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v121 v123 v124 v127 k))

theorem part4_run (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v121 : FVec F S512x1024 .f32) (v123 : BitVec 32) (v124 : Vec F S512x1024 .bf16) (v127 : FVec F S512x256 .f32) :
    iprop(held c arg7 arg8 arg9 arg13 arg14 arg15 g7 g8 g9 g13 g14 ∗ issueInv c (sl' i) w f x arg4 g q 148)
      ⊢ wp Idealize.ShloMosaic.frame (wpE defs₀ 𝒱₀ (c : Thread nD τ) none) Set.univ
        (k0_part4 (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v121 v123 v124 v127)
        (fun r => iprop(⌜r = ⟨k0_pay11 v32 v63 v121 v123 v124 v127 (ldA c arg8 g8 ![0, 2, 0, 0] inb_S1x8x1024x256_S1x1x1024x256_0_2_0_0) (ldC c arg14 g14) (ldB c arg9 g9 ![0, 2, 0, 0] inb_S1x8x256x1024_S1x1x256x1024_0_2_0_0), (ldX c arg13 g13), k0_pay12 (ldX c arg13 g13) (ldA c arg7 g7 ![0, 3, 0, 0] inb_S1x8x1024x256_S1x1x1024x256_0_3_0_0), k0_pay13 (ldA c arg8 g8 ![0, 3, 0, 0] inb_S1x8x1024x256_S1x1x1024x256_0_3_0_0), (constant S512x256 .f32 0x00000000#32)⟩⌝ ∗ held c arg7 arg8 arg9 arg13 arg14 arg15 g7 g8 g9 g13 g14 ∗ issueInv c (sl' i) w f x arg4 g q 222)) := by
  rw [k0_part4_eq_skeleton]
  unfold held
  iintro ⟨⟨H7, H8, H9, H13, H14, Hs⟩, HI⟩
  sl_unfold [k0_part4_skel]
  sl_exec
  iapply (seq (loop_t5 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v121 v123 v124 v127)) $$ HI
  iintro %_ HI
  sl_exec
  sl_step
  isplitr; · ipureintro; rfl
  isplitr [HI]
  · isplitl [H7]; · iexact H7
    isplitl [H8]; · iexact H8
    isplitl [H9]; · iexact H9
    isplitl [H13]; · iexact H13
    isplitl [H14]; · iexact H14
    iexact Hs
  iexact HI

theorem loop_t6 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v123 : BitVec 32) (v151 : FVec F S512x1024 .f32) (v153 : Vec F S512x1024 .bf16) (v156 : FVec F S512x256 .f32) (v158 : FVec F S1024x256 .bf16) (cst_112 : FVec F S512x256 .f32) :
    issueInv c (sl' i) w f x arg4 g q 222
      ⊢ wp Idealize.ShloMosaic.frame (wpE defs₀ 𝒱₀ (c : Thread nD τ) none) Set.univ
        (Scf.Loop.for k0_t6_loop k0_t6_ok ⟨⟩ (k0_t6_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v123 v151 v153 v156 v158 cst_112))
        (fun _ => issueInv c (sl' i) w f x arg4 g q 296) := by
  have h0 : issueInv c (sl' i) w f x arg4 g q 222 ⊢ (iprop(issueInv c (sl' i) w f x arg4 g q (222 + 2 * 0)
      ∗ (∀ acc : Unit, issueInv c (sl' i) w f x arg4 g q (222 + 2 * 37) -∗ issueInv c (sl' i) w f x arg4 g q 296)) : sProp 𝕄) := by
    iintro H
    isplitl [H]; · iexact H
    iintro %acc H
    iexact H
  rw [← trips_t6] at h0
  exact h0.trans (Scf.wp_for _ _ _ k0_t6_loop.lb k0_t6_loop.ub k0_t6_loop.st k0_t6_ok () _
    (fun k _ => issueInv c (sl' i) w f x arg4 g q (222 + 2 * k)) (fun k acc => step_t6 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v123 v151 v153 v156 v158 cst_112 k))

theorem part5_run (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v123 : BitVec 32) (v151 : FVec F S512x1024 .f32) (v153 : Vec F S512x1024 .bf16) (v156 : FVec F S512x256 .f32) (v158 : FVec F S1024x256 .bf16) (cst_112 : FVec F S512x256 .f32) :
    iprop(held c arg7 arg8 arg9 arg13 arg14 arg15 g7 g8 g9 g13 g14 ∗ issueInv c (sl' i) w f x arg4 g q 222)
      ⊢ wp Idealize.ShloMosaic.frame (wpE defs₀ 𝒱₀ (c : Thread nD τ) none) Set.univ
        (k0_part5 (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v123 v151 v153 v156 v158 cst_112)
        (fun r => iprop(⌜r = ⟨k0_pay14 v32 v63 v123 v151 v153 v156 v158 cst_112 (ldC c arg14 g14) (ldB c arg9 g9 ![0, 3, 0, 0] inb_S1x8x256x1024_S1x1x256x1024_0_3_0_0), (BitVec.ofInt 32 0), k0_pay15 (ldX c arg13 g13) (ldA c arg7 g7 ![0, 4, 0, 0] inb_S1x8x1024x256_S1x1x1024x256_0_4_0_0), k0_pay16 (ldX c arg13 g13) (ldA c arg8 g8 ![0, 4, 0, 0] inb_S1x8x1024x256_S1x1x1024x256_0_4_0_0), (Scalar.addi v63 4#32)⟩⌝ ∗ held c arg7 arg8 arg9 arg13 arg14 arg15 g7 g8 g9 g13 g14 ∗ issueInv c (sl' i) w f x arg4 g q 296)) := by
  rw [k0_part5_eq_skeleton]
  unfold held
  iintro ⟨⟨H7, H8, H9, H13, H14, Hs⟩, HI⟩
  sl_unfold [k0_part5_skel]
  sl_exec
  iapply (seq (loop_t6 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v123 v151 v153 v156 v158 cst_112)) $$ HI
  iintro %_ HI
  iapply (read_word 𝒱₀ c) $$ Hs
  iintro Hs
  sl_exec
  sl_step
  isplitr; · ipureintro; rfl
  isplitr [HI]
  · isplitl [H7]; · iexact H7
    isplitl [H8]; · iexact H8
    isplitl [H9]; · iexact H9
    isplitl [H13]; · iexact H13
    isplitl [H14]; · iexact H14
    iexact Hs
  iexact HI

theorem loop_t7 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v180 : FVec F S512x1024 .f32) (v182 : BitVec 32) (v186 : FVec F S512x256 .f32) (v189 : FVec F S512x256 .f32) (v190 : BitVec 32) :
    issueInv c (sl' i) w f x arg4 g q 296
      ⊢ wp Idealize.ShloMosaic.frame (wpE defs₀ 𝒱₀ (c : Thread nD τ) none) Set.univ
        (Scf.Loop.for k0_t7_loop k0_t7_ok ⟨⟩ (k0_t7_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v180 v182 v186 v189 v190))
        (fun _ => issueInv c (sl' i) w f x arg4 g q 370) := by
  have h0 : issueInv c (sl' i) w f x arg4 g q 296 ⊢ (iprop(issueInv c (sl' i) w f x arg4 g q (296 + 2 * 0)
      ∗ (∀ acc : Unit, issueInv c (sl' i) w f x arg4 g q (296 + 2 * 37) -∗ issueInv c (sl' i) w f x arg4 g q 370)) : sProp 𝕄) := by
    iintro H
    isplitl [H]; · iexact H
    iintro %acc H
    iexact H
  rw [← trips_t7] at h0
  exact h0.trans (Scf.wp_for _ _ _ k0_t7_loop.lb k0_t7_loop.ub k0_t7_loop.st k0_t7_ok () _
    (fun k _ => issueInv c (sl' i) w f x arg4 g q (296 + 2 * k)) (fun k acc => step_t7 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v180 v182 v186 v189 v190 k))

theorem part6_run (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v180 : FVec F S512x1024 .f32) (v182 : BitVec 32) (v186 : FVec F S512x256 .f32) (v189 : FVec F S512x256 .f32) (v190 : BitVec 32) :
    iprop(held c arg7 arg8 arg9 arg13 arg14 arg15 g7 g8 g9 g13 g14 ∗ issueInv c (sl' i) w f x arg4 g q 296)
      ⊢ wp Idealize.ShloMosaic.frame (wpE defs₀ 𝒱₀ (c : Thread nD τ) none) Set.univ
        (k0_part6 (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v180 v182 v186 v189 v190)
        (fun r => iprop(⌜r = ⟨k0_pay17 v32 v180 v182 v186 v189 v190 (ldC c arg14 g14) (ldB c arg9 g9 ![0, 4, 0, 0] inb_S1x8x256x1024_S1x1x256x1024_0_4_0_0), k0_pay18 (ldX c arg13 g13) (ldA c arg7 g7 ![0, 5, 0, 0] inb_S1x8x1024x256_S1x1x1024x256_0_5_0_0), k0_pay19 (ldX c arg13 g13) (ldA c arg8 g8 ![0, 5, 0, 0] inb_S1x8x1024x256_S1x1x1024x256_0_5_0_0), k0_pay20 v32 v63 v182⟩⌝ ∗ held c arg7 arg8 arg9 arg13 arg14 arg15 g7 g8 g9 g13 g14 ∗ issueInv c (sl' i) w f x arg4 g q 370)) := by
  rw [k0_part6_eq_skeleton]
  unfold held
  iintro ⟨⟨H7, H8, H9, H13, H14, Hs⟩, HI⟩
  sl_unfold [k0_part6_skel]
  sl_exec
  iapply (seq (loop_t7 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v180 v182 v186 v189 v190)) $$ HI
  iintro %_ HI
  sl_exec
  sl_step
  isplitr; · ipureintro; rfl
  isplitr [HI]
  · isplitl [H7]; · iexact H7
    isplitl [H8]; · iexact H8
    isplitl [H9]; · iexact H9
    isplitl [H13]; · iexact H13
    isplitl [H14]; · iexact H14
    iexact Hs
  iexact HI

theorem loop_t8 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v210 : FVec F S512x1024 .f32) (v215 : FVec F S512x256 .f32) (v218 : FVec F S512x256 .f32) (v222 : IVec S1x128 1) :
    issueInv c (sl' i) w f x arg4 g q 370
      ⊢ wp Idealize.ShloMosaic.frame (wpE defs₀ 𝒱₀ (c : Thread nD τ) none) Set.univ
        (Scf.Loop.for k0_t8_loop k0_t8_ok ⟨⟩ (k0_t8_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v210 v215 v218 v222))
        (fun _ => issueInv c (sl' i) w f x arg4 g q 444) := by
  have h0 : issueInv c (sl' i) w f x arg4 g q 370 ⊢ (iprop(issueInv c (sl' i) w f x arg4 g q (370 + 2 * 0)
      ∗ (∀ acc : Unit, issueInv c (sl' i) w f x arg4 g q (370 + 2 * 37) -∗ issueInv c (sl' i) w f x arg4 g q 444)) : sProp 𝕄) := by
    iintro H
    isplitl [H]; · iexact H
    iintro %acc H
    iexact H
  rw [← trips_t8] at h0
  exact h0.trans (Scf.wp_for _ _ _ k0_t8_loop.lb k0_t8_loop.ub k0_t8_loop.st k0_t8_ok () _
    (fun k _ => issueInv c (sl' i) w f x arg4 g q (370 + 2 * k)) (fun k acc => step_t8 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v210 v215 v218 v222 k))

theorem part7_run (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v210 : FVec F S512x1024 .f32) (v215 : FVec F S512x256 .f32) (v218 : FVec F S512x256 .f32) (v222 : IVec S1x128 1) :
    iprop(held c arg7 arg8 arg9 arg13 arg14 arg15 g7 g8 g9 g13 g14 ∗ issueInv c (sl' i) w f x arg4 g q 370)
      ⊢ wp Idealize.ShloMosaic.frame (wpE defs₀ 𝒱₀ (c : Thread nD τ) none) Set.univ
        (k0_part7 (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v210 v215 v218 v222)
        (fun r => iprop(⌜r = ⟨k0_pay21 v210 v215 v218 v222 (ldC c arg14 g14) (ldB c arg9 g9 ![0, 5, 0, 0] inb_S1x8x256x1024_S1x1x256x1024_0_5_0_0), k0_pay22 (ldX c arg13 g13) (ldA c arg7 g7 ![0, 6, 0, 0] inb_S1x8x1024x256_S1x1x1024x256_0_6_0_0), k0_pay23 (ldX c arg13 g13) (ldA c arg8 g8 ![0, 6, 0, 0] inb_S1x8x1024x256_S1x1x1024x256_0_6_0_0), k0_pay24 v32 v63 (BitVec.ofInt 32 0), (ldC c arg14 g14), (Scalar.ofBits .f32 0x00000000#32)⟩⌝ ∗ held c arg7 arg8 arg9 arg13 arg14 arg15 g7 g8 g9 g13 g14 ∗ issueInv c (sl' i) w f x arg4 g q 444)) := by
  rw [k0_part7_eq_skeleton]
  unfold held
  iintro ⟨⟨H7, H8, H9, H13, H14, Hs⟩, HI⟩
  sl_unfold [k0_part7_skel]
  sl_exec
  iapply (seq (loop_t8 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v210 v215 v218 v222)) $$ HI
  iintro %_ HI
  iapply (read_word 𝒱₀ c) $$ Hs
  iintro Hs
  sl_exec
  sl_step
  isplitr; · ipureintro; rfl
  isplitr [HI]
  · isplitl [H7]; · iexact H7
    isplitl [H8]; · iexact H8
    isplitl [H9]; · iexact H9
    isplitl [H13]; · iexact H13
    isplitl [H14]; · iexact H14
    iexact Hs
  iexact HI

theorem loop_t9 (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v239 : FVec F S512x1024 .f32) (v245 : FVec F S512x256 .f32) (v248 : FVec F S512x256 .f32) (v252 : IVec S1x128 1) (v253 : Vec F S512x128 .f32) (cst_188 : F .f32) :
    issueInv c (sl' i) w f x arg4 g q 444
      ⊢ wp Idealize.ShloMosaic.frame (wpE defs₀ 𝒱₀ (c : Thread nD τ) none) Set.univ
        (Scf.Loop.for k0_t9_loop k0_t9_ok ⟨⟩ (k0_t9_body (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v239 v245 v248 v252 v253 cst_188))
        (fun _ => issueInv c (sl' i) w f x arg4 g q 512) := by
  have h0 : issueInv c (sl' i) w f x arg4 g q 444 ⊢ (iprop(issueInv c (sl' i) w f x arg4 g q (444 + 2 * 0)
      ∗ (∀ acc : Unit, issueInv c (sl' i) w f x arg4 g q (444 + 2 * 34) -∗ issueInv c (sl' i) w f x arg4 g q 512)) : sProp 𝕄) := by
    iintro H
    isplitl [H]; · iexact H
    iintro %acc H
    iexact H
  rw [← trips_t9] at h0
  exact h0.trans (Scf.wp_for _ _ _ k0_t9_loop.lb k0_t9_loop.ub k0_t9_loop.st k0_t9_ok () _
    (fun k _ => issueInv c (sl' i) w f x arg4 g q (444 + 2 * k)) (fun k acc => step_t9 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v239 v245 v248 v252 v253 cst_188 k))

theorem part8_run (g : Buf (Elt F) (arg4.view.loc (c : Thread nD τ))) (q : PosShare TreeShare) (hN : Names c arg4 g w) (v9 : BitVec 32) (v28 : Elt F .i32) (k0_h4 : k0_cond4 v28 = 1#1) (v32 : IVec S1x128 32) (v63 : BitVec 32) (v239 : FVec F S512x1024 .f32) (v245 : FVec F S512x256 .f32) (v248 : FVec F S512x256 .f32) (v252 : IVec S1x128 1) (v253 : Vec F S512x128 .f32) (cst_188 : F .f32) :
    iprop(held c arg7 arg8 arg9 arg13 arg14 arg15 g7 g8 g9 g13 g14 ∗ issueInv c (sl' i) w f x arg4 g q 444)
      ⊢ wp Idealize.ShloMosaic.frame (wpE defs₀ 𝒱₀ (c : Thread nD τ) none) Set.univ
        (k0_part8 (F := F) i arg1 harg1 arg2 harg2 arg3 harg3 arg4 harg4 xtok harg5 arg6 harg6 arg7 harg7 arg8 harg8 arg9 harg9 arg10 harg10 xbuf harg11 slotSems arg13 harg13 arg14 harg14 arg15 v9 v28 k0_h4 v32 v63 v239 v245 v248 v252 v253 cst_188)
        (fun r => iprop(⌜r = ⟨k0_pay25 v239 v245 v248 v252 v253 cst_188 (ldB c arg9 g9 ![0, 6, 0, 0] inb_S1x8x256x1024_S1x1x256x1024_0_6_0_0), k0_pay26 (ldX c arg13 g13) (ldA c arg7 g7 ![0, 7, 0, 0] inb_S1x8x1024x256_S1x1x1024x256_0_7_0_0), k0_pay27 (ldX c arg13 g13) (ldA c arg8 g8 ![0, 7, 0, 0] inb_S1x8x1024x256_S1x1x1024x256_0_7_0_0), (ldC c arg14 g14), k0_pay28 v32 v63 (BitVec.ofInt 32 0), k0_pay29 (F:=F)⟩⌝ ∗ held c arg7 arg8 arg9 arg13 arg14 arg15 g7 g8 g9 g13 g14 ∗ issueInv c (sl' i) w f x arg4 g q 512)) := by
  rw [k0_part8_eq_skeleton]
  unfold held
  iintro ⟨⟨H7, H8, H9, H13, H14, Hs⟩, HI⟩
  sl_unfold [k0_part8_skel]
  sl_exec
  iapply (seq (loop_t9 𝒱₀ c i arg1 harg1 arg2 harg2 arg3 harg3 arg4 harg4 harg5 arg6 harg6 arg7 harg7 arg8 harg8 arg9 harg9 arg10 harg10 harg11 arg13 harg13 arg14 harg14 arg15 w f x g q hN v9 v28 k0_h4 v32 v63 v239 v245 v248 v252 v253 cst_188)) $$ HI
  iintro %_ HI
  iapply (read_word 𝒱₀ c) $$ Hs
  iintro Hs
  sl_exec
  sl_step
  isplitr; · ipureintro; rfl
  isplitr [HI]
  · isplitl [H7]; · iexact H7
    isplitl [H8]; · iexact H8
    isplitl [H9]; · iexact H9
    isplitl [H13]; · iexact H13
    isplitl [H14]; · iexact H14
    iexact Hs
  iexact HI

end Parts

end Cert.KernelIdeal.Hand

end
-- ==== Proof.BodyA.lean ====
/-
  A step's first stretch and the two loops that stand outside the computing part.
-/
module

public import proofs.«01_k».proof.Proof.Parts
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

section Body

variable (𝒱₀ : Variants) (c : Dev nD) (i : grid0.Coords)
  (arg1 : Memref sig .tc .smem S68 .i32) (harg1 : arg1.IsWhole) (arg2 : Memref sig .tc .smem S68 .i32) (harg2 : arg2.IsWhole) (arg3 : Memref sig .tc .smem S1x1x512 .i32) (harg3 : arg3.IsWhole) (arg4 : Memref sig .tc .smem S1x1x512 .i32) (harg4 : arg4.IsWhole) (harg5 : xtok.IsWhole) (arg6 : Memref sig .tc .vmem S1x1024 .f32) (harg6 : arg6.IsWhole) (arg7 : Memref sig .tc .vmem S1x8x1024x256 .bf16) (harg7 : arg7.IsWhole) (arg8 : Memref sig .tc .vmem S1x8x1024x256 .bf16) (harg8 : arg8.IsWhole) (arg9 : Memref sig .tc .vmem S1x8x256x1024 .bf16) (harg9 : arg9.IsWhole) (arg10 : Memref sig .tc .vmem S4096x128 .f32) (harg10 : arg10.IsWhole) (harg11 : xbuf.IsWhole) (arg13 : Memref sig .tc .vmem S512x1024 .bf16) (harg13 : arg13.IsWhole) (arg14 : Memref sig .tc .vmem S512x128 .f32) (harg14 : arg14.IsWhole) (arg15 : Sems sig S_)
  (s : Fin 2) (w : Fin 512 → Fin 32768) (f : XbBuf (F := F) c) (x : XtBuf (F := F) c)

theorem loop_t1 (g : Buf (Elt F) (arg3.view.loc (c : Thread nD τ))) (q : PosShare TreeShare) (hN : Names c arg3 g w) (k0_h1 : k0_cond1 i = 1#1) :
    issueInv c 0 w f x arg3 g q 0
      ⊢ wp Idealize.ShloMosaic.frame (wpE defs₀ 𝒱₀ (c : Thread nD τ) none) Set.univ
        (Scf.Loop.for k0_t1_loop (k0_t1_ok i k0_h1) ⟨⟩ (k0_t1_body (F := F) i arg1 harg1 arg2 harg2 arg3 harg3 arg4 harg4 xtok harg5 arg6 harg6 arg7 harg7 arg8 harg8 arg9 harg9 arg10 harg10 xbuf harg11 slotSems arg13 harg13 arg14 harg14 arg15 k0_h1))
        (fun _ => issueInv c 0 w f x arg3 g q 512) := by
  have h0 : issueInv c 0 w f x arg3 g q 0 ⊢ (iprop(issueInv c 0 w f x arg3 g q 0
      ∗ (∀ acc : Unit, issueInv c 0 w f x arg3 g q 512 -∗ issueInv c 0 w f x arg3 g q 512)) : sProp 𝕄) := by
    iintro H
    isplitl [H]; · iexact H
    iintro %acc H
    iexact H
  have e : issueInv c 0 w f x arg3 g q 512 = issueInv c 0 w f x arg3 g q k0_t1_loop.trips := by rw [trips_t1]
  rw [e] at h0 ⊢
  exact h0.trans (Scf.wp_for _ _ _ k0_t1_loop.lb k0_t1_loop.ub k0_t1_loop.st (k0_t1_ok i k0_h1) () _
    (fun k _ => issueInv c 0 w f x arg3 g q k) (fun k acc => step_t1 𝒱₀ c i arg1 harg1 arg2 harg2 arg3 harg3 arg4 harg4 harg5 arg6 harg6 arg7 harg7 arg8 harg8 arg9 harg9 arg10 harg10 harg11 arg13 harg13 arg14 harg14 arg15 w f x g q hN k0_h1 k))

theorem loop_t2 (g : Buf (Elt F) (arg3.view.loc (c : Thread nD τ))) (q : PosShare TreeShare) (hN : Names c arg3 g w) (v17 : Elt F .i32) (k0_h2 : k0_cond2 i v17 = 1#1) :
    drainInv c (sl i) w x arg3 g q 0
      ⊢ wp Idealize.ShloMosaic.frame (wpE defs₀ 𝒱₀ (c : Thread nD τ) none) Set.univ
        (Scf.Loop.for k0_t2_loop k0_t2_ok ⟨⟩ (k0_t2_body (F := F) i arg1 harg1 arg2 harg2 arg3 harg3 arg4 harg4 xtok harg5 arg6 harg6 arg7 harg7 arg8 harg8 arg9 harg9 arg10 harg10 xbuf harg11 slotSems arg13 harg13 arg14 harg14 arg15 v17 k0_h2))
        (fun _ => drainInv c (sl i) w x arg3 g q 512) := by
  have h0 : drainInv c (sl i) w x arg3 g q 0 ⊢ (iprop(drainInv c (sl i) w x arg3 g q 0
      ∗ (∀ acc : Unit, drainInv c (sl i) w x arg3 g q 512 -∗ drainInv c (sl i) w x arg3 g q 512)) : sProp 𝕄) := by
    iintro H
    isplitl [H]; · iexact H
    iintro %acc H
    iexact H
  have e : drainInv c (sl i) w x arg3 g q 512 = drainInv c (sl i) w x arg3 g q k0_t2_loop.trips := by rw [trips_t2]
  rw [e] at h0 ⊢
  exact h0.trans (Scf.wp_for _ _ _ k0_t2_loop.lb k0_t2_loop.ub k0_t2_loop.st k0_t2_ok () _
    (fun k _ => drainInv c (sl i) w x arg3 g q k) (fun k acc => step_t2 𝒱₀ c i arg1 harg1 arg2 harg2 arg3 harg3 arg4 harg4 harg5 arg6 harg6 arg7 harg7 arg8 harg8 arg9 harg9 arg10 harg10 harg11 arg13 harg13 arg14 harg14 arg15 w x g q hN v17 k0_h2 k))

/-- A load from the row buffer, of elements of one slot. -/
theorem load_slot {β : Type} {r : LoadRect S2x512x1152} {hl : xbuf.view.LoadsAt r} {k : (r.shape.Idx → Elt F .f32) → Prog (TpuEff nD τ sig (Elt F) Λ₀ .tc) β}
    {Q : β → sProp 𝕄} (hS : xbuf.view.setOn r.set ⊆ slotSet s) :
    slotAt c s f ⊢ iprop((slotAt c s f -∗ wp Idealize.ShloMosaic.frame (wpE defs₀ 𝒱₀ (c : Thread nD τ) none) Set.univ (k (xbuf.view.readAt (Elt F) r f)) Q)
      -∗ wp Idealize.ShloMosaic.frame (wpE defs₀ 𝒱₀ (c : Thread nD τ) none) Set.univ (.op (.load xbuf r hl) k) Q) :=
  wp_load 𝒱₀ (c : Thread nD τ) none Set.univ hS

theorem off12_eq : ∀ i : grid0.Coords, k0_off12 i = ![(sl i).val, 0, 0] := by decide +kernel
theorem off13_eq : ∀ i : grid0.Coords, k0_off13 i = ![(sl i).val, 0, 1024] := by decide +kernel

theorem in_slot {off : Fin 3 → ℕ} {sz : Fin 3 → ℕ} {inb : ∀ a, off a + sz a ≤ S2x512x1152.size a} (h0 : off 0 = s.val) (h1 : sz 0 = 1) :
    xbuf.view.setOn (Rect.unit (s := S2x512x1152) off sz inb).toLoadRect.set ⊆ slotSet s := by
  intro y hy
  rw [mem_slotSet]
  obtain ⟨z, hz, rfl⟩ := Finset.mem_map.1 hy
  have hz' : z ∈ (Rect.unit (s := S2x512x1152) off sz inb).set := hz
  rw [Rect.mem_set_unit] at hz'
  have h := hz' 0
  have e : (xbuf.view.emb z) 0 = z 0 := rfl
  have h' : off 0 ≤ (z 0).val ∧ (z 0).val < off 0 + sz 0 := h
  show (z 0).val = s.val
  omega

variable (g1 : Buf (Elt F) (arg1.view.loc (c : Thread nD τ))) (q1 : PosShare TreeShare)
  (g6 : Buf (Elt F) (arg6.view.loc (c : Thread nD τ))) (g7 : Buf (Elt F) (arg7.view.loc (c : Thread nD τ)))
  (g13 : Buf (Elt F) (arg13.view.loc (c : Thread nD τ))) (g14 : Buf (Elt F) (arg14.view.loc (c : Thread nD τ)))

/-- What the first stretch loads from the slot: the tokens' features and their routing weights. -/
abbrev ldT (f : XbBuf (F := F) c) : Vec F S1x512x1024 .f32 :=
  xbuf.view.readAt (Elt F) (Rect.unit (s := S2x512x1152) (k0_off12 i) S1x512x1024.size (k0_off12_inb i)).toLoadRect f
abbrev ldR (f : XbBuf (F := F) c) : Vec F S1x512x128 .f32 :=
  xbuf.view.readAt (Elt F) (Rect.unit (s := S2x512x1152) (k0_off13 i) S1x512x128.size (k0_off13_inb i)).toLoadRect f
abbrev ldG : Vec F S1x1024 .f32 :=
  arg6.view.readAt (Elt F) (Rect.unit (s := S1x1024) ![0, 0] S1x1024.size inb_S1x1024_S1x1024_0_0).toLoadRect g6
/-- The group's word. -/
abbrev ldW : BitVec 32 :=
  arg1.view.readAt (Elt F) (Rect.unit (s := S68) (k0_off14 i) S1.size (k0_off14_inb i)).toLoadRect g1 (Shape.Idx.first (show 0 < S1.numel by decide))

theorem part1_run (arg0 v9 : BitVec 32) :
    iprop(slotAt c (sl i) f ∗ (arg1.view.loc (c : Thread nD τ) ↦{q1} g1) ∗ (arg6.view.loc (c : Thread nD τ) ↦{fullShare} g6)
      ∗ (arg7.view.loc (c : Thread nD τ) ↦{fullShare} g7)
      ∗ (arg13.view.loc (c : Thread nD τ) ↦{fullShare} g13) ∗ (arg14.view.loc (c : Thread nD τ) ↦{fullShare} g14))
      ⊢ wp Idealize.ShloMosaic.frame (wpE defs₀ 𝒱₀ (c : Thread nD τ) none) Set.univ
        (k0_part1 (F := F) i arg1 harg1 arg2 harg2 arg3 harg3 arg4 harg4 xtok harg5 arg6 harg6 arg7 harg7 arg8 harg8 arg9 harg9 arg10 harg10 xbuf harg11 slotSems arg13 harg13 arg14 harg14 arg15 arg0 v9)
        (fun r => iprop(∃ g13' g14', ⌜r = ⟨iota .tc S1x128 32 [1] iota_S1x128_d1_w32, Scalar.addi 4#32 (Scalar.muli (ldW c i arg1 g1) 8#32), k0_pay5 (F := F), k0_pay3 (ldT c i f) (ldG c arg6 g6),
            k0_pay6 (ldA c arg7 g7 ![0, 0, 0, 0] inb_S1x8x1024x256_S1x1x1024x256_0_0_0_0)⟩
            ∧ ldX c arg13 g13' = k0_pay3 (ldT c i f) (ldG c arg6 g6) ∧ ldC c arg14 g14' = k0_pay4 (ldR c i f)⌝
          ∗ slotAt c (sl i) f ∗ (arg1.view.loc (c : Thread nD τ) ↦{q1} g1) ∗ (arg6.view.loc (c : Thread nD τ) ↦{fullShare} g6)
      ∗ (arg7.view.loc (c : Thread nD τ) ↦{fullShare} g7)
      ∗ (arg13.view.loc (c : Thread nD τ) ↦{fullShare} g13') ∗ (arg14.view.loc (c : Thread nD τ) ↦{fullShare} g14'))) := by
  rw [k0_part1_eq_skeleton]
  iintro ⟨HT, H1, H6, H7, H13, H14⟩
  sl_unfold [k0_part1_skel]
  sl_exec
  iapply (load_slot 𝒱₀ c (sl i) f (in_slot (sl i) (by rw [off12_eq]; rfl) rfl)) $$ HT
  iintro HT
  sl_exec
  iapply (load_slot 𝒱₀ c (sl i) f (in_slot (sl i) (by rw [off13_eq]; rfl) rfl)) $$ HT
  iintro HT
  sl_exec
  sl_step
  iexists _, _
  isplitr
  rotate_left
  · isplitl [HT]; · iexact HT
    isplitl [H1]; · iexact H1
    isplitl [H6]; · iexact H6
    isplitl [H7]; · iexact H7
    isplitl [H13]; · iexact H13
    iexact H14
  ipureintro
  refine ⟨?_, View.readAt_writes_full _ _ _ _ _ _, View.readAt_writes_full _ _ _ _ _ _⟩
  unfold part1_run.sl.v32 part1_run.sl.v63 part1_run.sl.v65 part1_run.sl.v62 part1_run.sl.r
  rw [View.readCov_full]

end Body

end Cert.KernelIdeal.Hand

end
-- ==== Proof.BodyB.lean ====
/-
  One computing step: the value it reaches, expert after expert, and its run.
-/
module

public import proofs.«01_k».proof.Proof.BodyA
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

/-- The running sum after expert 0. -/
def acc2 (wd : BitVec 32) (X : Vec F S512x1024 .bf16) (C : Vec F S512x128 .f32) (a b : Fin 8 → Vec F S1x1x1024x256 .bf16) (d : Fin 8 → Vec F S1x1x256x1024 .bf16) : FVec F S512x1024 .f32 := k0_pay7 (iota .tc S1x128 32 [1] iota_S1x128_d1_w32) (Scalar.addi 4#32 (Scalar.muli wd 8#32)) (k0_pay5 (F := F)) X (k0_pay6 (a 0)) (b 0) C (d 0)

/-- The running sum after expert 1. -/
def acc3 (wd : BitVec 32) (X : Vec F S512x1024 .bf16) (C : Vec F S512x128 .f32) (a b : Fin 8 → Vec F S1x1x1024x256 .bf16) (d : Fin 8 → Vec F S1x1x256x1024 .bf16) : FVec F S512x1024 .f32 := k0_pay9 (iota .tc S1x128 32 [1] iota_S1x128_d1_w32) (Scalar.addi 4#32 (Scalar.muli wd 8#32)) (acc2 wd X C a b d) (X) (k0_pay8 X (a 1)) (b 1) C (d 1)

/-- The running sum after expert 2. -/
def acc4 (wd : BitVec 32) (X : Vec F S512x1024 .bf16) (C : Vec F S512x128 .f32) (a b : Fin 8 → Vec F S1x1x1024x256 .bf16) (d : Fin 8 → Vec F S1x1x256x1024 .bf16) : FVec F S512x1024 .f32 := k0_pay11 (iota .tc S1x128 32 [1] iota_S1x128_d1_w32) (Scalar.addi 4#32 (Scalar.muli wd 8#32)) (acc3 wd X C a b d) (BitVec.ofInt 32 0) (X) (k0_pay10 X (a 2)) (b 2) C (d 2)

/-- The running sum after expert 3. -/
def acc5 (wd : BitVec 32) (X : Vec F S512x1024 .bf16) (C : Vec F S512x128 .f32) (a b : Fin 8 → Vec F S1x1x1024x256 .bf16) (d : Fin 8 → Vec F S1x1x256x1024 .bf16) : FVec F S512x1024 .f32 := k0_pay14 (iota .tc S1x128 32 [1] iota_S1x128_d1_w32) (Scalar.addi 4#32 (Scalar.muli wd 8#32)) (BitVec.ofInt 32 0) (acc4 wd X C a b d) (X) (k0_pay12 X (a 3)) (k0_pay13 (b 3)) (constant S512x256 .f32 0x00000000#32) C (d 3)

/-- The running sum after expert 4. -/
def acc6 (wd : BitVec 32) (X : Vec F S512x1024 .bf16) (C : Vec F S512x128 .f32) (a b : Fin 8 → Vec F S1x1x1024x256 .bf16) (d : Fin 8 → Vec F S1x1x256x1024 .bf16) : FVec F S512x1024 .f32 := k0_pay17 (iota .tc S1x128 32 [1] iota_S1x128_d1_w32) (acc5 wd X C a b d) (BitVec.ofInt 32 0) (k0_pay15 X (a 4)) (k0_pay16 X (b 4)) (Scalar.addi (Scalar.addi 4#32 (Scalar.muli wd 8#32)) 4#32) C (d 4)

/-- The running sum after expert 5. -/
def acc7 (wd : BitVec 32) (X : Vec F S512x1024 .bf16) (C : Vec F S512x128 .f32) (a b : Fin 8 → Vec F S1x1x1024x256 .bf16) (d : Fin 8 → Vec F S1x1x256x1024 .bf16) : FVec F S512x1024 .f32 := k0_pay21 (acc6 wd X C a b d) (k0_pay18 X (a 5)) (k0_pay19 X (b 5)) (k0_pay20 (iota .tc S1x128 32 [1] iota_S1x128_d1_w32) (Scalar.addi 4#32 (Scalar.muli wd 8#32)) (BitVec.ofInt 32 0)) C (d 5)

/-- The running sum after expert 6. -/
def acc8 (wd : BitVec 32) (X : Vec F S512x1024 .bf16) (C : Vec F S512x128 .f32) (a b : Fin 8 → Vec F S1x1x1024x256 .bf16) (d : Fin 8 → Vec F S1x1x256x1024 .bf16) : FVec F S512x1024 .f32 := k0_pay25 (acc7 wd X C a b d) (k0_pay22 X (a 6)) (k0_pay23 X (b 6)) (k0_pay24 (iota .tc S1x128 32 [1] iota_S1x128_d1_w32) (Scalar.addi 4#32 (Scalar.muli wd 8#32)) (BitVec.ofInt 32 0)) (C) (Scalar.ofBits .f32 0x00000000#32) (d 6)

/-- The tile's result, all eight experts added. -/
def tileVal (wd : BitVec 32) (X : Vec F S512x1024 .bf16) (C : Vec F S512x128 .f32) (a b : Fin 8 → Vec F S1x1x1024x256 .bf16) (d : Fin 8 → Vec F S1x1x256x1024 .bf16) : FVec F S512x1024 .f32 :=
  k0_pay30 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)

/-- Its eight column blocks, as the kernel cuts them. -/
def tileCut (wd : BitVec 32) (X : Vec F S512x1024 .bf16) (C : Vec F S512x128 .f32) (a b : Fin 8 → Vec F S1x1x1024x256 .bf16) (d : Fin 8 → Vec F S1x1x256x1024 .bf16) : Fin 8 → FVec F S512x128 .f32
  | 0 => k0_pay31 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)
  | 1 => k0_pay32 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)
  | 2 => k0_pay33 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)
  | 3 => k0_pay34 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)
  | 4 => k0_pay35 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)
  | 5 => k0_pay36 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)
  | 6 => k0_pay37 (acc8 wd X C a b d) (k0_pay26 X (a 7)) (k0_pay27 X (b 7)) (C) (k0_pay28 (iota .tc S1x128 32 [1] iota_S1x128_d1_w32) (Scalar.addi 4#32 (Scalar.muli wd 8#32)) (BitVec.ofInt 32 0)) (k0_pay29 (F := F)) (d 7)
  | 7 => k0_pay2 (tileVal wd X C a b d)

/-- The stores of the first six blocks, and of all eight. -/
def cuts6 (wd : BitVec 32) (X : Vec F S512x1024 .bf16) (C : Vec F S512x128 .f32) (a b : Fin 8 → Vec F S1x1x1024x256 .bf16) (d : Fin 8 → Vec F S1x1x256x1024 .bf16) : List (View.Piece (Elt F) S4096x128 .f32) :=
  [⟨⟨(⟨![5, 0], S512x128.size, ![8, 1], inb_S4096x128_S512x128_5_0_s_8_1⟩ : LoadRect S4096x128), spos_8_1⟩, tileCut wd X C a b d 5⟩,
          ⟨⟨(⟨![4, 0], S512x128.size, ![8, 1], inb_S4096x128_S512x128_4_0_s_8_1⟩ : LoadRect S4096x128), spos_8_1⟩, tileCut wd X C a b d 4⟩,
          ⟨⟨(⟨![3, 0], S512x128.size, ![8, 1], inb_S4096x128_S512x128_3_0_s_8_1⟩ : LoadRect S4096x128), spos_8_1⟩, tileCut wd X C a b d 3⟩,
          ⟨⟨(⟨![2, 0], S512x128.size, ![8, 1], inb_S4096x128_S512x128_2_0_s_8_1⟩ : LoadRect S4096x128), spos_8_1⟩, tileCut wd X C a b d 2⟩,
          ⟨⟨(⟨![1, 0], S512x128.size, ![8, 1], inb_S4096x128_S512x128_1_0_s_8_1⟩ : LoadRect S4096x128), spos_8_1⟩, tileCut wd X C a b d 1⟩,
          ⟨⟨(⟨![0, 0], S512x128.size, ![8, 1], inb_S4096x128_S512x128_0_0_s_8_1⟩ : LoadRect S4096x128), spos_8_1⟩, tileCut wd X C a b d 0⟩]
def cuts8 (wd : BitVec 32) (X : Vec F S512x1024 .bf16) (C : Vec F S512x128 .f32) (a b : Fin 8 → Vec F S1x1x1024x256 .bf16) (d : Fin 8 → Vec F S1x1x256x1024 .bf16) : List (View.Piece (Elt F) S4096x128 .f32) :=
  [⟨⟨(⟨![7, 0], S512x128.size, ![8, 1], inb_S4096x128_S512x128_7_0_s_8_1⟩ : LoadRect S4096x128), spos_8_1⟩, tileCut wd X C a b d 7⟩,
          ⟨⟨(⟨![6, 0], S512x128.size, ![8, 1], inb_S4096x128_S512x128_6_0_s_8_1⟩ : LoadRect S4096x128), spos_8_1⟩, tileCut wd X C a b d 6⟩,
          ⟨⟨(⟨![5, 0], S512x128.size, ![8, 1], inb_S4096x128_S512x128_5_0_s_8_1⟩ : LoadRect S4096x128), spos_8_1⟩, tileCut wd X C a b d 5⟩,
          ⟨⟨(⟨![4, 0], S512x128.size, ![8, 1], inb_S4096x128_S512x128_4_0_s_8_1⟩ : LoadRect S4096x128), spos_8_1⟩, tileCut wd X C a b d 4⟩,
          ⟨⟨(⟨![3, 0], S512x128.size, ![8, 1], inb_S4096x128_S512x128_3_0_s_8_1⟩ : LoadRect S4096x128), spos_8_1⟩, tileCut wd X C a b d 3⟩,
          ⟨⟨(⟨![2, 0], S512x128.size, ![8, 1], inb_S4096x128_S512x128_2_0_s_8_1⟩ : LoadRect S4096x128), spos_8_1⟩, tileCut wd X C a b d 2⟩,
          ⟨⟨(⟨![1, 0], S512x128.size, ![8, 1], inb_S4096x128_S512x128_1_0_s_8_1⟩ : LoadRect S4096x128), spos_8_1⟩, tileCut wd X C a b d 1⟩,
          ⟨⟨(⟨![0, 0], S512x128.size, ![8, 1], inb_S4096x128_S512x128_0_0_s_8_1⟩ : LoadRect S4096x128), spos_8_1⟩, tileCut wd X C a b d 0⟩]

section Step

variable (𝒱₀ : Variants) (c : Dev nD) (i : grid0.Coords)
  (arg1 : Memref sig .tc .smem S68 .i32) (harg1 : arg1.IsWhole) (arg2 : Memref sig .tc .smem S68 .i32) (harg2 : arg2.IsWhole) (arg3 : Memref sig .tc .smem S1x1x512 .i32) (harg3 : arg3.IsWhole) (arg4 : Memref sig .tc .smem S1x1x512 .i32) (harg4 : arg4.IsWhole) (harg5 : xtok.IsWhole) (arg6 : Memref sig .tc .vmem S1x1024 .f32) (harg6 : arg6.IsWhole) (arg7 : Memref sig .tc .vmem S1x8x1024x256 .bf16) (harg7 : arg7.IsWhole) (arg8 : Memref sig .tc .vmem S1x8x1024x256 .bf16) (harg8 : arg8.IsWhole) (arg9 : Memref sig .tc .vmem S1x8x256x1024 .bf16) (harg9 : arg9.IsWhole) (arg10 : Memref sig .tc .vmem S4096x128 .f32) (harg10 : arg10.IsWhole) (harg11 : xbuf.IsWhole) (arg13 : Memref sig .tc .vmem S512x1024 .bf16) (harg13 : arg13.IsWhole) (arg14 : Memref sig .tc .vmem S512x128 .f32) (harg14 : arg14.IsWhole) (arg15 : Sems sig S_)
  (s : Fin 2) (w : Fin 512 → Fin 32768) (f : XbBuf (F := F) c) (x : XtBuf (F := F) c)

variable (g1 : Buf (Elt F) (arg1.view.loc (c : Thread nD τ))) (q1 : PosShare TreeShare)
  (g6 : Buf (Elt F) (arg6.view.loc (c : Thread nD τ))) (g7 : Buf (Elt F) (arg7.view.loc (c : Thread nD τ))) (g8 : Buf (Elt F) (arg8.view.loc (c : Thread nD τ))) (g9 : Buf (Elt F) (arg9.view.loc (c : Thread nD τ)))
  (g10 : Buf (Elt F) (arg10.view.loc (c : Thread nD τ))) (g13 : Buf (Elt F) (arg13.view.loc (c : Thread nD τ))) (g14 : Buf (Elt F) (arg14.view.loc (c : Thread nD τ)))
  (z : XbBuf (F := F) c)

theorem inbA (e : Fin 8) : ∀ k, (![0, e.val, 0, 0] : Fin 4 → ℕ) k + S1x1x1024x256.size k ≤ S1x8x1024x256.size k := by
  revert e; decide
theorem inbB (e : Fin 8) : ∀ k, (![0, e.val, 0, 0] : Fin 4 → ℕ) k + S1x1x256x1024.size k ≤ S1x8x256x1024.size k := by
  revert e; decide

/-- The tile's result from what the step holds. -/
abbrev stepVal {β : Type} (K : (BitVec 32) → (Vec F S512x1024 .bf16) → (Vec F S512x128 .f32) → (Fin 8 → Vec F S1x1x1024x256 .bf16) → (Fin 8 → Vec F S1x1x1024x256 .bf16) → (Fin 8 → Vec F S1x1x256x1024 .bf16) → β) : β :=
  K (ldW c i arg1 g1) (k0_pay3 (ldT c i z) (ldG c arg6 g6)) (k0_pay4 (ldR c i z))
    (fun e => ldA c arg7 g7 ![0, e.val, 0, 0] (inbA e)) (fun e => ldA c arg8 g8 ![0, e.val, 0, 0] (inbA e)) (fun e => ldB c arg9 g9 ![0, e.val, 0, 0] (inbB e))

/-- What the step holds beside the batch it starts. -/
def stepHeld (g10 : Buf (Elt F) (arg10.view.loc (c : Thread nD τ))) : sProp 𝕄 :=
  iprop(slotAt c (sl i) z ∗ (arg1.view.loc (c : Thread nD τ) ↦{q1} g1) ∗ (arg6.view.loc (c : Thread nD τ) ↦{fullShare} g6)
    ∗ (arg7.view.loc (c : Thread nD τ) ↦{fullShare} g7) ∗ (arg8.view.loc (c : Thread nD τ) ↦{fullShare} g8) ∗ (arg9.view.loc (c : Thread nD τ) ↦{fullShare} g9)
    ∗ (arg10.view.loc (c : Thread nD τ) ↦{fullShare} g10)
    ∗ (∃ g, arg13.view.loc (c : Thread nD τ) ↦{fullShare} g) ∗ (∃ g, arg14.view.loc (c : Thread nD τ) ↦{fullShare} g)
    ∗ semVal ((c : Thread nD τ), SemLoc.reg arg15.sem) 0)

theorem part9_run (g : Buf (Elt F) (arg4.view.loc (c : Thread nD τ))) (q : PosShare TreeShare) (hN : Names c arg4 g w) (arg0 v9 : BitVec 32)
    (v28 : Elt F .i32) (k0_h4 : k0_cond4 v28 = 1#1) :
    iprop(stepHeld c i arg1 arg6 arg7 arg8 arg9 arg10 arg13 arg14 arg15 g1 q1 g6 g7 g8 g9 z g10 ∗ issueInv c (sl' i) w f x arg4 g q 0)
      ⊢ wp Idealize.ShloMosaic.frame (wpE defs₀ 𝒱₀ (c : Thread nD τ) none) Set.univ
        (k0_part9 (F := F) i arg1 harg1 arg2 harg2 arg3 harg3 arg4 harg4 xtok harg5 arg6 harg6 arg7 harg7 arg8 harg8 arg9 harg9 arg10 harg10 xbuf harg11 slotSems arg13 harg13 arg14 harg14 arg15 arg0 v9 v28 k0_h4)
        (fun r => iprop(⌜r = ⟨stepVal c i arg1 arg6 arg7 arg8 arg9 g1 g6 g7 g8 g9 z tileVal, stepVal c i arg1 arg6 arg7 arg8 arg9 g1 g6 g7 g8 g9 z tileCut 6⟩⌝
          ∗ stepHeld c i arg1 arg6 arg7 arg8 arg9 arg10 arg13 arg14 arg15 g1 q1 g6 g7 g8 g9 z
              (arg10.view.writes (Elt F) g10 (stepVal c i arg1 arg6 arg7 arg8 arg9 g1 g6 g7 g8 g9 z cuts6)) ∗ issueInv c (sl' i) w f x arg4 g q 512)) := by
  rw [k0_part9_eq_skeleton]
  unfold stepHeld
  iintro ⟨⟨HT, H1, H6, H7, H8, H9, H10, ⟨%g13, H13⟩, ⟨%g14, H14⟩, Hs⟩, HI⟩
  sl_unfold [k0_part9_skel]
  iapply (seq (part1_run 𝒱₀ c i arg1 harg1 arg2 harg2 arg3 harg3 arg4 harg4 harg5 arg6 harg6 arg7 harg7 arg8 harg8 arg9 harg9 arg10 harg10 harg11 arg13 harg13 arg14 harg14 arg15 z g1 q1 g6 g7 g13 g14 arg0 v9)) $$ [HT H1 H6 H7 H13 H14]
  · isplitl [HT]; · iexact HT
    isplitl [H1]; · iexact H1
    isplitl [H6]; · iexact H6
    isplitl [H7]; · iexact H7
    isplitl [H13]; · iexact H13
    iexact H14
  iintro %r ⟨%g13', %g14', %hr, HT, H1, H6, H7, H13, H14⟩
  obtain ⟨hr, hX, hC⟩ := hr
  subst hr
  dsimp only
  ihave HH : iprop(held c arg7 arg8 arg9 arg13 arg14 arg15 g7 g8 g9 g13' g14') $$ [H7 H8 H9 H13 H14 Hs]
  · unfold held
    isplitl [H7]; · iexact H7
    isplitl [H8]; · iexact H8
    isplitl [H9]; · iexact H9
    isplitl [H13]; · iexact H13
    isplitl [H14]; · iexact H14
    iexact Hs
  iapply (seq (part2_run 𝒱₀ c i arg1 harg1 arg2 harg2 arg3 harg3 arg4 harg4 harg5 arg6 harg6 arg7 harg7 arg8 harg8 arg9 harg9 arg10 harg10 harg11 arg13 harg13 arg14 harg14 arg15 w f x g7 g8 g9 g13' g14' g q hN v9 v28 k0_h4 _ _ _ _ _)) $$ [HH HI]
  · isplitl [HH]; · iexact HH
    iexact HI
  iintro %r ⟨%hr, HH, HI⟩
  subst hr
  dsimp only
  iapply (seq (part3_run 𝒱₀ c i arg1 harg1 arg2 harg2 arg3 harg3 arg4 harg4 harg5 arg6 harg6 arg7 harg7 arg8 harg8 arg9 harg9 arg10 harg10 harg11 arg13 harg13 arg14 harg14 arg15 w f x g7 g8 g9 g13' g14' g q hN v9 v28 k0_h4 _ _ _ _ _)) $$ [HH HI]
  · isplitl [HH]; · iexact HH
    iexact HI
  iintro %r ⟨%hr, HH, HI⟩
  subst hr
  dsimp only
  iapply (seq (part4_run 𝒱₀ c i arg1 harg1 arg2 harg2 arg3 harg3 arg4 harg4 harg5 arg6 harg6 arg7 harg7 arg8 harg8 arg9 harg9 arg10 harg10 harg11 arg13 harg13 arg14 harg14 arg15 w f x g7 g8 g9 g13' g14' g q hN v9 v28 k0_h4 _ _ _ _ _ _)) $$ [HH HI]
  · isplitl [HH]; · iexact HH
    iexact HI
  iintro %r ⟨%hr, HH, HI⟩
  subst hr
  dsimp only
  iapply (seq (part5_run 𝒱₀ c i arg1 harg1 arg2 harg2 arg3 harg3 arg4 harg4 harg5 arg6 harg6 arg7 harg7 arg8 harg8 arg9 harg9 arg10 harg10 harg11 arg13 harg13 arg14 harg14 arg15 w f x g7 g8 g9 g13' g14' g q hN v9 v28 k0_h4 _ _ _ _ _ _ _ _)) $$ [HH HI]
  · isplitl [HH]; · iexact HH
    iexact HI
  iintro %r ⟨%hr, HH, HI⟩
  subst hr
  dsimp only
  iapply (seq (part6_run 𝒱₀ c i arg1 harg1 arg2 harg2 arg3 harg3 arg4 harg4 harg5 arg6 harg6 arg7 harg7 arg8 harg8 arg9 harg9 arg10 harg10 harg11 arg13 harg13 arg14 harg14 arg15 w f x g7 g8 g9 g13' g14' g q hN v9 v28 k0_h4 _ _ _ _ _ _ _)) $$ [HH HI]
  · isplitl [HH]; · iexact HH
    iexact HI
  iintro %r ⟨%hr, HH, HI⟩
  subst hr
  dsimp only
  iapply (seq (part7_run 𝒱₀ c i arg1 harg1 arg2 harg2 arg3 harg3 arg4 harg4 harg5 arg6 harg6 arg7 harg7 arg8 harg8 arg9 harg9 arg10 harg10 harg11 arg13 harg13 arg14 harg14 arg15 w f x g7 g8 g9 g13' g14' g q hN v9 v28 k0_h4 _ _ _ _ _ _)) $$ [HH HI]
  · isplitl [HH]; · iexact HH
    iexact HI
  iintro %r ⟨%hr, HH, HI⟩
  subst hr
  dsimp only
  iapply (seq (part8_run 𝒱₀ c i arg1 harg1 arg2 harg2 arg3 harg3 arg4 harg4 harg5 arg6 harg6 arg7 harg7 arg8 harg8 arg9 harg9 arg10 harg10 harg11 arg13 harg13 arg14 harg14 arg15 w f x g7 g8 g9 g13' g14' g q hN v9 v28 k0_h4 _ _ _ _ _ _ _ _)) $$ [HH HI]
  · isplitl [HH]; · iexact HH
    iexact HI
  iintro %r ⟨%hr, HH, HI⟩
  subst hr
  dsimp only
  unfold held
  icases HH with ⟨H7, H8, H9, H13, H14, Hs⟩
  sl_exec
  sl_step
  isplitr; · ipureintro; rw [hX, hC]; rfl
  isplitr [HI]
  · isplitl [HT]; · iexact HT
    isplitl [H1]; · iexact H1
    isplitl [H6]; · iexact H6
    isplitl [H7]; · iexact H7
    isplitl [H8]; · iexact H8
    isplitl [H9]; · iexact H9
    isplitl [H10]
    · rw [hX, hC]
      iexact H10
    isplitl [H13]; · iexists _; iexact H13
    isplitl [H14]; · iexists _; iexact H14
    iexact Hs
  iexact HI

end Step

end Cert.KernelIdeal.Hand

end
-- ==== Proof.BodyC.lean ====
/-
  The body at one grid point: the batch waiting on the current slot is drained, and on a tile in use the next one
  is started and the tile computed.
-/
module

public import proofs.«01_k».proof.Proof.BodyB
public import Idealize.ShloMosaic.Lib.Affine
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

theorem cond1_iff (i : grid0.Coords) : k0_cond1 i = 1#1 ↔ (i 0).val = 0 := by
  have h : ∀ a : Fin 68, (Scalar.cmpi .ne (Scalar.extui (Scalar.cmpi .eq (BitVec.ofNat 32 a.val) 0#32) : BitVec 32) 0#32 = 1#1) ↔ a.val = 0 := by decide +kernel
  exact h (i 0)
theorem bit_iff (b : BitVec 1) : Scalar.cmpi .ne (Scalar.extui b : BitVec 32) 0#32 = 1#1 ↔ b = 1#1 := by revert b; decide
theorem cmp_iff (v k : BitVec 32) : Scalar.cmpi .eq v k = 1#1 ↔ v = k := by
  exact Idealize.ShloMosaic.IntOp.cmpi_eq
theorem cond3_iff (v : BitVec 32) : k0_cond3 v = 1#1 ↔ v = 0#32 := (bit_iff _).trans (cmp_iff _ _)
theorem cond4_iff (v : BitVec 32) : k0_cond4 v = 1#1 ↔ v = 1#32 := (bit_iff _).trans (cmp_iff _ _)
theorem cond2_iff (i : grid0.Coords) (v : BitVec 32) : k0_cond2 i v = 1#1 ↔ ((i 0).val = 0 ∨ v = 1#32) := by
  refine (bit_iff _).trans ?_
  have h : ∀ a b : BitVec 1, Scalar.ori a b = 1#1 ↔ (a = 1#1 ∨ b = 1#1) := by decide
  refine (h _ _).trans (or_congr ?_ (cmp_iff _ _))
  exact (bit_iff _).symm.trans (cond1_iff i)

section Pend
variable (c : Dev nD) (s : Fin 2) (w : Fin 512 → Fin 32768) (x : XtBuf (F := F) c)

/-- A batch of 512 copies in flight on a slot. -/
def carry : sProp 𝕄 :=
  iprop(flight c s w x 512 0 ∗ bigSep (Ring.rangeSet 512 0 512) (rowOut c w x) ∗ (xtok.view.loc (c : Thread nD τ) ↦{shareDrop fullShare 512} x))
/-- No batch on a slot. -/
def calm : sProp 𝕄 :=
  iprop(semVal ((c : Thread nD τ), SemLoc.dma (cell s)) 0 ∗ (∃ f, slotAt c s f) ∗ (xtok.view.loc (c : Thread nD τ) ↦{fullShare} x))
/-- One or the other. -/
def pend (b : Bool) : sProp 𝕄 := bif b then carry c s w x else calm c s x

theorem issuing_done (f : XbBuf (F := F) c) : issuing c s w f x 512
    ⊢ (iprop(flight c s w x 512 0 ∗ bigSep (Ring.rangeSet 512 0 512) (rowOut c w x)) : sProp 𝕄) := by
  unfold issuing
  iintro ⟨HB, -, HO⟩
  isplitl [HB]; · iexact HB
  iexact HO
end Pend

section Body

variable (𝒱₀ : Variants) (c : Dev nD) (i : grid0.Coords)
  (arg1 : Memref sig .tc .smem S68 .i32) (harg1 : arg1.IsWhole) (arg2 : Memref sig .tc .smem S68 .i32) (harg2 : arg2.IsWhole) (arg3 : Memref sig .tc .smem S1x1x512 .i32) (harg3 : arg3.IsWhole) (arg4 : Memref sig .tc .smem S1x1x512 .i32) (harg4 : arg4.IsWhole) (harg5 : xtok.IsWhole) (arg6 : Memref sig .tc .vmem S1x1024 .f32) (harg6 : arg6.IsWhole) (arg7 : Memref sig .tc .vmem S1x8x1024x256 .bf16) (harg7 : arg7.IsWhole) (arg8 : Memref sig .tc .vmem S1x8x1024x256 .bf16) (harg8 : arg8.IsWhole) (arg9 : Memref sig .tc .vmem S1x8x256x1024 .bf16) (harg9 : arg9.IsWhole) (arg10 : Memref sig .tc .vmem S4096x128 .f32) (harg10 : arg10.IsWhole) (harg11 : xbuf.IsWhole) (arg13 : Memref sig .tc .vmem S512x1024 .bf16) (harg13 : arg13.IsWhole) (arg14 : Memref sig .tc .vmem S512x128 .f32) (harg14 : arg14.IsWhole) (arg15 : Sems sig S_)
  (s : Fin 2) (w : Fin 512 → Fin 32768) (f : XbBuf (F := F) c) (x : XtBuf (F := F) c)

variable (g1 : Buf (Elt F) (arg1.view.loc (c : Thread nD τ))) (g2 : Buf (Elt F) (arg2.view.loc (c : Thread nD τ))) (q1 : PosShare TreeShare)
  (g3 : Buf (Elt F) (arg3.view.loc (c : Thread nD τ))) (g4 : Buf (Elt F) (arg4.view.loc (c : Thread nD τ)))
  (g6 : Buf (Elt F) (arg6.view.loc (c : Thread nD τ))) (g7 : Buf (Elt F) (arg7.view.loc (c : Thread nD τ))) (g8 : Buf (Elt F) (arg8.view.loc (c : Thread nD τ))) (g9 : Buf (Elt F) (arg9.view.loc (c : Thread nD τ)))
  (g10 : Buf (Elt F) (arg10.view.loc (c : Thread nD τ)))
  (w' : Fin 512 → Fin 32768)

/-- The tables' words at the current point and the one before. -/
abbrev okNow (g : Buf (Elt F) (arg2.view.loc (c : Thread nD τ))) : BitVec 32 :=
  arg2.view.readAt (Elt F) (Rect.unit (s := S68) (k0_off10 i) S1.size (k0_off10_inb i)).toLoadRect g (Shape.Idx.first (show 0 < S1.numel by decide))
abbrev okPrev (g : Buf (Elt F) (arg2.view.loc (c : Thread nD τ))) : BitVec 32 :=
  arg2.view.readAt (Elt F) (Rect.unit (s := S68) (k0_off5 i) S1.size (k0_off5_inb i)).toLoadRect g (Shape.Idx.first (show 0 < S1.numel by decide))

/-- A branch that runs one stage before what follows it, or goes there at once. -/
theorem branch {A R : sProp 𝕄} {φ : Prop} [Decidable φ] {α β : Type} {L : φ → Prog (TpuEff nD τ sig (Elt F) Λ₀ .tc) α} {jp : Prog (TpuEff nD τ sig (Elt F) Λ₀ .tc) β} {Q : β → sProp 𝕄}
    (hpos : ∀ h, A ⊢ wp Idealize.ShloMosaic.frame (wpE defs₀ 𝒱₀ (c : Thread nD τ) none) Set.univ (L h) (fun _ => R)) (hneg : ¬ φ → A ⊢ R) :
    A ⊢ iprop((R -∗ wp Idealize.ShloMosaic.frame (wpE defs₀ 𝒱₀ (c : Thread nD τ) none) Set.univ jp Q)
      -∗ wp Idealize.ShloMosaic.frame (wpE defs₀ 𝒱₀ (c : Thread nD τ) none) Set.univ (if h : φ then (L h >>= fun _ => jp) else jp) Q) := by
  by_cases h : φ
  · rw [dif_pos h]
    iintro HA Hk
    iapply (seq (hpos h)) $$ HA
    iintro %a HR
    iapply Hk
    iexact HR
  · rw [dif_neg h]
    iintro HA Hk
    iapply Hk
    iapply (hneg h)
    iexact HA

theorem sl_first (h : (i 0).val = 0) : sl i = 0 := by
  apply Fin.ext; show (i 0).val % 2 = 0; rw [h]

/-- The prologue: at the first point it starts the first tile's batch. -/
theorem stage1 (hN : Names c arg3 g3 w) (b : Bool) (hb : (i 0).val = 0 → b = false) (k0_h1 : k0_cond1 i = 1#1) :
    iprop(pend c (sl i) w x b ∗ (arg3.view.loc (c : Thread nD τ) ↦{fullShare} g3))
      ⊢ wp Idealize.ShloMosaic.frame (wpE defs₀ 𝒱₀ (c : Thread nD τ) none) Set.univ
        (Scf.Loop.for k0_t1_loop (k0_t1_ok i k0_h1) ⟨⟩ (k0_t1_body (F := F) i arg1 harg1 arg2 harg2 arg3 harg3 arg4 harg4 xtok harg5 arg6 harg6 arg7 harg7 arg8 harg8 arg9 harg9 arg10 harg10 xbuf harg11 slotSems arg13 harg13 arg14 harg14 arg15 k0_h1))
        (fun _ => iprop(carry c (sl i) w x ∗ (arg3.view.loc (c : Thread nD τ) ↦{fullShare} g3))) := by
  have hi := (cond1_iff i).1 k0_h1
  rw [hb hi, sl_first i hi]
  unfold pend
  simp only [cond_false]
  unfold calm carry
  iintro ⟨⟨Hs, ⟨%f, HT⟩, Hx⟩, H3⟩
  imod (start c 0 w f x) $$ [Hs HT Hx] with ⟨HI, Hx⟩
  · isplitl [Hs]; · iexact Hs
    isplitl [HT]; · iexact HT
    iexact Hx
  ihave Hw := (loop_t1 𝒱₀ c i arg1 harg1 arg2 harg2 arg3 harg3 arg4 harg4 harg5 arg6 harg6 arg7 harg7 arg8 harg8 arg9 harg9 arg10 harg10 harg11 arg13 harg13 arg14 harg14 arg15 w f x g3 fullShare hN k0_h1) $$ [HI H3]
  · unfold issueInv
    isplitl [HI]; · iexact HI
    iexact H3
  iapply (wp_wand _ _ _) $$ Hw
  unfold issueInv
  iintro %a ⟨HI, H3⟩
  isplitr [H3]
  · ihave HI' := (issuing_done c 0 w x f) $$ HI
    icases HI' with ⟨HB, HO⟩
    isplitl [HB]; · iexact HB
    isplitl [HO]; · iexact HO
    iexact Hx
  iexact H3

/-- The drain: every copy waited for, the slot holds the tile's rows. -/
theorem stage2 (hN : Names c arg3 g3 w) (v17 : Elt F .i32) (k0_h2 : k0_cond2 i v17 = 1#1) :
    iprop(carry c (sl i) w x ∗ (∃ W, owes (c : Thread nD τ) 0 W) ∗ (arg3.view.loc (c : Thread nD τ) ↦{fullShare} g3))
      ⊢ wp Idealize.ShloMosaic.frame (wpE defs₀ 𝒱₀ (c : Thread nD τ) none) Set.univ
        (Scf.Loop.for k0_t2_loop k0_t2_ok ⟨⟩ (k0_t2_body (F := F) i arg1 harg1 arg2 harg2 arg3 harg3 arg4 harg4 xtok harg5 arg6 harg6 arg7 harg7 arg8 harg8 arg9 harg9 arg10 harg10 xbuf harg11 slotSems arg13 harg13 arg14 harg14 arg15 v17 k0_h2))
        (fun _ => iprop((semVal ((c : Thread nD τ), SemLoc.dma (cell (sl i))) 0 ∗ slotAt c (sl i) (landed x w) ∗ (xtok.view.loc (c : Thread nD τ) ↦{fullShare} x))
          ∗ (∃ W, owes (c : Thread nD τ) 0 W) ∗ (arg3.view.loc (c : Thread nD τ) ↦{fullShare} g3))) := by
  unfold carry
  iintro ⟨⟨HB, HO, Hx⟩, HW, H3⟩
  ihave Hw := (loop_t2 𝒱₀ c i arg1 harg1 arg2 harg2 arg3 harg3 arg4 harg4 harg5 arg6 harg6 arg7 harg7 arg8 harg8 arg9 harg9 arg10 harg10 harg11 arg13 harg13 arg14 harg14 arg15 w x g3 fullShare hN v17 k0_h2) $$ [HB HW H3]
  · unfold drainInv
    rw [Nat.mul_zero]
    isplitl [HB]; · iexact HB
    isplitl [HW]; · iexact HW
    iexact H3
  iapply (wp_fupd _ _ _ _ _)
  iapply (wp_wand _ _ _) $$ Hw
  unfold drainInv
  iintro %a ⟨HB, HW, H3⟩
  imod (finish c (sl i) w x) $$ [HB HO Hx] with HF
  · isplitl [HB]; · iexact HB
    isplitl [HO]; · iexact HO
    iexact Hx
  imodintro
  isplitl [HF]; · iexact HF
  isplitl [HW]; · iexact HW
  iexact H3

/-- What the block of the result holds after a point: zeros off the tiles in use. -/
def blockOut : Buf (Elt F) (arg10.view.loc (c : Thread nD τ)) :=
  if okNow c i arg2 g2 = 1#32 then arg10.view.writes (Elt F) g10 (stepVal c i arg1 arg6 arg7 arg8 arg9 g1 g6 g7 g8 g9 (landed x w) cuts8)
  else arg10.view.writes (Elt F) g10 [⟨Rect.unit (s := S4096x128) ![0, 0] S4096x128.size inb_S4096x128_S4096x128_0_0, k0_pay1 (F := F)⟩]

/-- What the body holds besides the batch and the two slots. -/
def kept (g10 : Buf (Elt F) (arg10.view.loc (c : Thread nD τ))) : sProp 𝕄 :=
  iprop((arg1.view.loc (c : Thread nD τ) ↦{q1} g1) ∗ (arg2.view.loc (c : Thread nD τ) ↦{q1} g2)
    ∗ (arg3.view.loc (c : Thread nD τ) ↦{fullShare} g3) ∗ (arg4.view.loc (c : Thread nD τ) ↦{fullShare} g4)
    ∗ (arg6.view.loc (c : Thread nD τ) ↦{fullShare} g6)
    ∗ (arg7.view.loc (c : Thread nD τ) ↦{fullShare} g7) ∗ (arg8.view.loc (c : Thread nD τ) ↦{fullShare} g8) ∗ (arg9.view.loc (c : Thread nD τ) ↦{fullShare} g9)
    ∗ (arg10.view.loc (c : Thread nD τ) ↦{fullShare} g10)
    ∗ (∃ g, arg13.view.loc (c : Thread nD τ) ↦{fullShare} g) ∗ (∃ g, arg14.view.loc (c : Thread nD τ) ↦{fullShare} g)
    ∗ semVal ((c : Thread nD τ), SemLoc.reg arg15.sem) 0 ∗ (∃ W, owes (c : Thread nD τ) 0 W))

set_option maxHeartbeats 4000000 in
theorem body_run (hN : Names c arg3 g3 w) (hN' : okNow c i arg2 g2 = 1#32 → Names c arg4 g4 w')
    (hz : okNow c i arg2 g2 = 0#32 ∨ okNow c i arg2 g2 = 1#32)
    (hm : okNow c i arg2 g2 = 1#32 → ((i 0).val = 0 ∨ okPrev c i arg2 g2 = 1#32))
    (b b' : Bool) (hb : b = true ↔ ((i 0).val ≠ 0 ∧ okPrev c i arg2 g2 = 1#32)) (hb' : b' = true ↔ okNow c i arg2 g2 = 1#32) :
    iprop(pend c (sl i) w x b ∗ semVal ((c : Thread nD τ), SemLoc.dma (cell (sl' i))) 0 ∗ (∃ f, slotAt c (sl' i) f)
      ∗ kept c arg1 arg2 arg3 arg4 arg6 arg7 arg8 arg9 arg10 arg13 arg14 arg15 g1 g2 q1 g3 g4 g6 g7 g8 g9 g10)
      ⊢ wp Idealize.ShloMosaic.frame (wpE defs₀ 𝒱₀ (c : Thread nD τ) none) Set.univ
        (cc0_moe (F := F) i arg1 harg1 arg2 harg2 arg3 harg3 arg4 harg4 xtok harg5 arg6 harg6 arg7 harg7 arg8 harg8 arg9 harg9 arg10 harg10 xbuf harg11 slotSems arg13 harg13 arg14 harg14 arg15)
        (fun _ => iprop(pend c (sl' i) w' x b' ∗ semVal ((c : Thread nD τ), SemLoc.dma (cell (sl i))) 0 ∗ (∃ f, slotAt c (sl i) f)
      ∗ kept c arg1 arg2 arg3 arg4 arg6 arg7 arg8 arg9 arg10 arg13 arg14 arg15 g1 g2 q1 g3 g4 g6 g7 g8 g9
          (blockOut c i arg1 arg2 arg6 arg7 arg8 arg9 arg10 w x g1 g2 g6 g7 g8 g9 g10))) := by
  have hbb : ((b || decide ((i 0).val = 0)) = true) ↔ k0_cond2 i (okPrev c i arg2 g2) = 1#1 := by
    rw [cond2_iff, Bool.or_eq_true, hb, decide_eq_true_iff]
    constructor
    · rintro (h | h)
      · exact Or.inr h.2
      · exact Or.inl h
    · rintro (h | h)
      · exact Or.inr h
      · by_cases h0 : (i 0).val = 0
        · exact Or.inr h0
        · exact Or.inl ⟨h0, h⟩
  rw [cc0_moe_eq_skeleton]
  unfold kept
  iintro ⟨HP, Hs', HT', H1, H2, H3, H4, H6, H7, H8, H9, H10, H13, H14, Hf, HW⟩
  sl_unfold [cc0_moe_skel]
  dsimp only
  iapply (branch 𝒱₀ c (A := iprop(pend c (sl i) w x b ∗ (arg3.view.loc (c : Thread nD τ) ↦{fullShare} g3)))
    (R := iprop(pend c (sl i) w x (b || decide ((i 0).val = 0)) ∗ (arg3.view.loc (c : Thread nD τ) ↦{fullShare} g3)))
    (fun h => by
      have h0 := (cond1_iff i).1 h
      rw [decide_eq_true h0, Bool.or_true]
      exact stage1 𝒱₀ c i arg1 harg1 arg2 harg2 arg3 harg3 arg4 harg4 harg5 arg6 harg6 arg7 harg7 arg8 harg8 arg9 harg9 arg10 harg10 harg11 arg13 harg13 arg14 harg14 arg15 w x g3 hN b (fun hi => by
        by_contra hc
        exact (hb.1 (by simpa using hc)).1 hi) h)
    (fun h => by
      have h0 : ¬ (i 0).val = 0 := fun e => h ((cond1_iff i).2 e)
      rw [decide_eq_false h0, Bool.or_false])) $$ [HP H3]
  · isplitl [HP]; · iexact HP
    iexact H3
  iintro ⟨HP, H3⟩
  sl_exec
  iapply (branch 𝒱₀ c (A := iprop(pend c (sl i) w x (b || decide ((i 0).val = 0)) ∗ (∃ W, owes (c : Thread nD τ) 0 W) ∗ (arg3.view.loc (c : Thread nD τ) ↦{fullShare} g3)))
    (R := iprop((semVal ((c : Thread nD τ), SemLoc.dma (cell (sl i))) 0 ∗ (∃ f, ⌜okNow c i arg2 g2 = 1#32 → f = landed x w⌝ ∗ slotAt c (sl i) f) ∗ (xtok.view.loc (c : Thread nD τ) ↦{fullShare} x))
          ∗ (∃ W, owes (c : Thread nD τ) 0 W) ∗ (arg3.view.loc (c : Thread nD τ) ↦{fullShare} g3)))
    (fun h => by
      rw [hbb.2 h]
      refine (stage2 𝒱₀ c i arg1 harg1 arg2 harg2 arg3 harg3 arg4 harg4 harg5 arg6 harg6 arg7 harg7 arg8 harg8 arg9 harg9 arg10 harg10 harg11 arg13 harg13 arg14 harg14 arg15 w x g3 hN _ h).trans (wp_mono _ _ _ fun _ => ?_)
      iintro ⟨⟨Hs, HT, Hx⟩, HW, H3⟩
      isplitl [Hs HT Hx]
      · isplitl [Hs]; · iexact Hs
        isplitl [HT]
        · iexists _
          isplitr; · ipureintro; exact fun _ => rfl
          iexact HT
        iexact Hx
      isplitl [HW]; · iexact HW
      iexact H3)
    (fun h => by
      have h0 : (b || decide ((i 0).val = 0)) = false := by
        rw [Bool.eq_false_iff]; exact fun e => h (hbb.1 e)
      have hn : ¬ okNow c i arg2 g2 = 1#32 := fun e => h ((cond2_iff i _).2 (hm e))
      rw [h0]
      unfold pend
      simp only [cond_false]
      unfold calm
      iintro ⟨⟨Hs, ⟨%f, HT⟩, Hx⟩, HW, H3⟩
      isplitl [Hs HT Hx]
      · isplitl [Hs]; · iexact Hs
        isplitl [HT]
        · iexists f
          isplitr; · ipureintro; exact fun e => absurd e hn
          iexact HT
        iexact Hx
      isplitl [HW]; · iexact HW
      iexact H3)) $$ [HP HW H3]
  · isplitl [HP]; · iexact HP
    isplitl [HW]; · iexact HW
    iexact H3
  iintro ⟨⟨Hs, ⟨%f, %hf, HT⟩, Hx⟩, HW, H3⟩
  sl_exec
  by_cases hok : okNow c i arg2 g2 = 1#32
  · have h3 : ¬ k0_cond3 (body_run.sl.r_1 c i arg2 g2) = 1#1 := by
      rw [cond3_iff]
      intro e
      exact absurd ((show okNow c i arg2 g2 = 0#32 from e).symm.trans hok) (by decide)
    have h4 : k0_cond4 (body_run.sl.r_2 c i arg2 g2) = 1#1 := (cond4_iff _).2 hok
    rw [dif_neg h3, dif_pos h4, hb'.2 hok, hf hok]
    unfold blockOut
    rw [if_pos hok]
    icases HT' with ⟨%f', HT'⟩
    imod (start c (sl' i) w' f' x) $$ [Hs' HT' Hx] with ⟨HI, Hx⟩
    · isplitl [Hs']; · iexact Hs'
      isplitl [HT']; · iexact HT'
      iexact Hx
    iapply (seq (part9_run 𝒱₀ c i arg1 harg1 arg2 harg2 arg3 harg3 arg4 harg4 harg5 arg6 harg6 arg7 harg7 arg8 harg8 arg9 harg9 arg10 harg10 harg11 arg13 harg13 arg14 harg14 arg15 w' f' x g1 q1 g6 g7 g8 g9 g10 (landed x w) g4 fullShare (hN' hok) _ _ _ h4)) $$ [HT H1 H6 H7 H8 H9 H10 H13 H14 Hf HI H4]
    · unfold stepHeld issueInv
      isplitr [HI H4]
      · isplitl [HT]; · iexact HT
        isplitl [H1]; · iexact H1
        isplitl [H6]; · iexact H6
        isplitl [H7]; · iexact H7
        isplitl [H8]; · iexact H8
        isplitl [H9]; · iexact H9
        isplitl [H10]; · iexact H10
        isplitl [H13]; · iexact H13
        isplitl [H14]; · iexact H14
        iexact Hf
      isplitl [HI]; · iexact HI
      iexact H4
    unfold stepHeld issueInv
    iintro %r ⟨%hr, ⟨HT, H1, H6, H7, H8, H9, H10, H13, H14, Hf⟩, HI, H4⟩
    subst hr
    dsimp only
    sl_exec
    sl_step
    isplitl [HI Hx]
    · unfold pend
      simp only [cond_true]
      unfold carry
      ihave HI' := (issuing_done c (sl' i) w' x f') $$ HI
      icases HI' with ⟨HB, HO⟩
      isplitl [HB]; · iexact HB
      isplitl [HO]; · iexact HO
      iexact Hx
    isplitl [Hs]; · iexact Hs
    isplitl [HT]; · iexists _; iexact HT
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [Hf]; · iexact Hf
    iexact HW
  · have hz' := hz.resolve_right hok
    have h3 : k0_cond3 (body_run.sl.r_1 c i arg2 g2) = 1#1 := (cond3_iff _).2 hz'
    have h4 : ¬ k0_cond4 (body_run.sl.r_2 c i arg2 g2) = 1#1 := by
      rw [cond4_iff]; exact hok
    have hbf : b' = false := by rw [Bool.eq_false_iff]; exact fun e => hok (hb'.1 e)
    rw [dif_pos h3, dif_neg h4, hbf]
    unfold blockOut
    rw [if_neg hok]
    sl_step
    isplitl [Hs' HT' Hx]
    · unfold pend
      simp only [cond_false]
      unfold calm
      isplitl [Hs']; · iexact Hs'
      isplitl [HT']; · iexact HT'
      iexact Hx
    isplitl [Hs]; · iexact Hs
    isplitl [HT]; · iexists _; iexact HT
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [Hf]; · iexact Hf
    iexact HW

end Body

end Cert.KernelIdeal.Hand

end
-- ==== Proof.Out.lean ====
/-
  The block of the result a point leaves, as a function of what the point read.
-/
module

public import proofs.«01_k».proof.Proof.BodyC
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

/-- A tile's 512 rows of 1024 laid out as 4096 rows of 128, eight to a row. -/
def spread (V : FVec F S512x1024 .f32) : S4096x128.Idx → Elt F .f32 := fun y =>
  V (ix2 (⟨(y 0).val / 8, by have : (y 0).val < 4096 := (y 0).isLt; omega⟩ : Fin 512)
    (⟨128 * ((y 0).val % 8) + (y 1).val, by have : (y 1).val < 128 := (y 1).isLt; omega⟩ : Fin 1024) : S512x1024.Idx)

theorem ess (V : FVec F S512x1024 .f32) (o : ℕ) (ho : o + 128 ≤ 1024) (h) (x : S512x128.Idx) :
    extractStridedSlice S512x128 ![0, o] V h x
      = V (ix2 (x 0) (⟨o + (x 1).val, by have : (x 1).val < 128 := (x 1).isLt; omega⟩ : Fin 1024) : S512x1024.Idx) := by
  show V _ = V _
  refine congrArg V ?_
  funext ax
  apply Fin.ext
  fin_cases ax
  · show 0 + (x 0).val = (x 0).val; omega
  · rfl

section Cuts
variable (wd : BitVec 32) (X : Vec F S512x1024 .bf16) (C : Vec F S512x128 .f32) (a b : Fin 8 → Vec F S1x1x1024x256 .bf16) (d : Fin 8 → Vec F S1x1x256x1024 .bf16)

theorem tileCut_apply (j : Fin 8) (x : S512x128.Idx) : tileCut wd X C a b d j x
    = tileVal wd X C a b d (ix2 (x 0) (⟨128 * j.val + (x 1).val, by have : (x 1).val < 128 := (x 1).isLt; omega⟩ : Fin 1024) : S512x1024.Idx) := by
  fin_cases j
  · exact ess (tileVal wd X C a b d) 0 (by decide) slices_S512x1024_o0_0_S512x128 x
  · exact ess (tileVal wd X C a b d) 128 (by decide) slices_S512x1024_o0_128_S512x128 x
  · exact ess (tileVal wd X C a b d) 256 (by decide) slices_S512x1024_o0_256_S512x128 x
  · exact ess (tileVal wd X C a b d) 384 (by decide) slices_S512x1024_o0_384_S512x128 x
  · exact ess (tileVal wd X C a b d) 512 (by decide) slices_S512x1024_o0_512_S512x128 x
  · exact ess (tileVal wd X C a b d) 640 (by decide) slices_S512x1024_o0_640_S512x128 x
  · exact ess (tileVal wd X C a b d) 768 (by decide) slices_S512x1024_o0_768_S512x128 x
  · exact ess (tileVal wd X C a b d) 896 (by decide) slices_S512x1024_o0_896_S512x128 x

theorem mem_cuts8 (j : Fin 8) : ∃ inb, (⟨⟨(⟨![j.val, 0], S512x128.size, ![8, 1], inb⟩ : LoadRect S4096x128), spos_8_1⟩, tileCut wd X C a b d j⟩ : View.Piece (Elt F) S4096x128 .f32) ∈ cuts8 wd X C a b d := by
  fin_cases j
  · exact ⟨inb_S4096x128_S512x128_0_0_s_8_1, by unfold cuts8; apply List.Mem.tail; apply List.Mem.tail; apply List.Mem.tail; apply List.Mem.tail; apply List.Mem.tail; apply List.Mem.tail; apply List.Mem.tail; exact List.Mem.head _⟩
  · exact ⟨inb_S4096x128_S512x128_1_0_s_8_1, by unfold cuts8; apply List.Mem.tail; apply List.Mem.tail; apply List.Mem.tail; apply List.Mem.tail; apply List.Mem.tail; apply List.Mem.tail; exact List.Mem.head _⟩
  · exact ⟨inb_S4096x128_S512x128_2_0_s_8_1, by unfold cuts8; apply List.Mem.tail; apply List.Mem.tail; apply List.Mem.tail; apply List.Mem.tail; apply List.Mem.tail; exact List.Mem.head _⟩
  · exact ⟨inb_S4096x128_S512x128_3_0_s_8_1, by unfold cuts8; apply List.Mem.tail; apply List.Mem.tail; apply List.Mem.tail; apply List.Mem.tail; exact List.Mem.head _⟩
  · exact ⟨inb_S4096x128_S512x128_4_0_s_8_1, by unfold cuts8; apply List.Mem.tail; apply List.Mem.tail; apply List.Mem.tail; exact List.Mem.head _⟩
  · exact ⟨inb_S4096x128_S512x128_5_0_s_8_1, by unfold cuts8; apply List.Mem.tail; apply List.Mem.tail; exact List.Mem.head _⟩
  · exact ⟨inb_S4096x128_S512x128_6_0_s_8_1, by unfold cuts8; apply List.Mem.tail; exact List.Mem.head _⟩
  · exact ⟨inb_S4096x128_S512x128_7_0_s_8_1, by unfold cuts8; exact List.Mem.head _⟩

theorem cuts8_spread : ∀ p ∈ cuts8 wd X C a b d, ∃ j : Fin 8, ∃ inb, p = (⟨⟨(⟨![j.val, 0], S512x128.size, ![8, 1], inb⟩ : LoadRect S4096x128), spos_8_1⟩, tileCut wd X C a b d j⟩ : View.Piece (Elt F) S4096x128 .f32) := by
  intro p hp
  unfold cuts8 at hp
  simp only [List.mem_cons, List.not_mem_nil, or_false] at hp
  rcases hp with rfl | rfl | rfl | rfl | rfl | rfl | rfl | rfl
  · exact ⟨7, _, rfl⟩
  · exact ⟨6, _, rfl⟩
  · exact ⟨5, _, rfl⟩
  · exact ⟨4, _, rfl⟩
  · exact ⟨3, _, rfl⟩
  · exact ⟨2, _, rfl⟩
  · exact ⟨1, _, rfl⟩
  · exact ⟨0, _, rfl⟩

theorem read_cuts8 {sp : Space} {κ : Kind} (v : View sig κ sp S4096x128 .f32) (g : v.ty.Contents (Elt F)) :
    v.read (Elt F) (v.writes (Elt F) g (cuts8 wd X C a b d)) = spread (tileVal wd X C a b d) := by
  funext y
  refine View.read_writes_apply_of_pieces v g (spread (tileVal wd X C a b d)) _ ?_ y ?_
  · intro p hp x
    obtain ⟨j, inb, rfl⟩ := cuts8_spread wd X C a b d p hp
    refine (tileCut_apply wd X C a b d j x).trans ?_
    unfold spread
    refine congrArg (tileVal wd X C a b d) ?_
    have hx : (x 0).val < 512 := (x 0).isLt
    have e0 : ((Rect.emb ⟨(⟨![j.val, 0], S512x128.size, ![8, 1], inb⟩ : LoadRect S4096x128), spos_8_1⟩ x) 0).val = j.val + 8 * (x 0).val := rfl
    have e1 : ((Rect.emb ⟨(⟨![j.val, 0], S512x128.size, ![8, 1], inb⟩ : LoadRect S4096x128), spos_8_1⟩ x) 1).val = 0 + 1 * (x 1).val := rfl
    have hj := j.isLt
    funext ax
    apply Fin.ext
    fin_cases ax
    · show (x 0).val = _ / 8
      rw [e0]; omega
    · show 128 * j.val + (x 1).val = 128 * (_ % 8) + _
      rw [e0, e1]; omega
  · have h1 : (y 0).val % 8 < 8 := Nat.mod_lt _ (by decide)
    obtain ⟨inb, hm⟩ := mem_cuts8 wd X C a b d ⟨(y 0).val % 8, h1⟩
    refine ⟨_, hm, ?_⟩
    have hy : (y 0).val < 4096 := (y 0).isLt
    have hy1 : (y 1).val < 128 := (y 1).isLt
    refine (LoadRect.mem_set _).2 fun ax => ?_
    fin_cases ax
    · refine ⟨(y 0).val / 8, ?_, ?_⟩
      · show _ < 512; omega
      · show (y 0).val = (y 0).val % 8 + 8 * ((y 0).val / 8); omega
    · refine ⟨(y 1).val, ?_, ?_⟩
      · show _ < 128; omega
      · show (y 1).val = 0 + 1 * (y 1).val; omega

end Cuts

/-- The tile a point computes, from the group's word, the gathered rows and the blocks it reads. -/
def tileIn (wd : BitVec 32) (T : Vec F S1x512x1024 .f32) (R : Vec F S1x512x128 .f32) (G : S1x1024.Idx → Elt F .f32)
    (A B : S1x8x1024x256.Idx → Elt F .bf16) (D : S1x8x256x1024.Idx → Elt F .bf16) : FVec F S512x1024 .f32 :=
  tileVal wd (k0_pay3 T (fun j => G ((Rect.unit (s := S1x1024) ![0, 0] S1x1024.size inb_S1x1024_S1x1024_0_0).toLoadRect.idx j))) (k0_pay4 R)
    (fun e j => A ((Rect.unit (s := S1x8x1024x256) ![0, e.val, 0, 0] S1x1x1024x256.size (inbA e)).toLoadRect.idx j))
    (fun e j => B ((Rect.unit (s := S1x8x1024x256) ![0, e.val, 0, 0] S1x1x1024x256.size (inbA e)).toLoadRect.idx j))
    (fun e j => D ((Rect.unit (s := S1x8x256x1024) ![0, e.val, 0, 0] S1x1x256x1024.size (inbB e)).toLoadRect.idx j))

/-- The block a point leaves. -/
def outBlk (ok : BitVec 32) (V : FVec F S512x1024 .f32) : S4096x128.Idx → Elt F .f32 :=
  if ok = 1#32 then spread V else fun _ => Scalar.ofBits .f32 0x00000000#32

section Out

variable (𝒱₀ : Variants) (c : Dev nD) (i : grid0.Coords)
  (arg1 : Memref sig .tc .smem S68 .i32) (harg1 : arg1.IsWhole) (arg2 : Memref sig .tc .smem S68 .i32) (harg2 : arg2.IsWhole) (arg3 : Memref sig .tc .smem S1x1x512 .i32) (harg3 : arg3.IsWhole) (arg4 : Memref sig .tc .smem S1x1x512 .i32) (harg4 : arg4.IsWhole) (harg5 : xtok.IsWhole) (arg6 : Memref sig .tc .vmem S1x1024 .f32) (harg6 : arg6.IsWhole) (arg7 : Memref sig .tc .vmem S1x8x1024x256 .bf16) (harg7 : arg7.IsWhole) (arg8 : Memref sig .tc .vmem S1x8x1024x256 .bf16) (harg8 : arg8.IsWhole) (arg9 : Memref sig .tc .vmem S1x8x256x1024 .bf16) (harg9 : arg9.IsWhole) (arg10 : Memref sig .tc .vmem S4096x128 .f32) (harg10 : arg10.IsWhole) (harg11 : xbuf.IsWhole) (arg13 : Memref sig .tc .vmem S512x1024 .bf16) (harg13 : arg13.IsWhole) (arg14 : Memref sig .tc .vmem S512x128 .f32) (harg14 : arg14.IsWhole) (arg15 : Sems sig S_)
  (s : Fin 2) (w : Fin 512 → Fin 32768) (f : XbBuf (F := F) c) (x : XtBuf (F := F) c)

variable (g1 : Buf (Elt F) (arg1.view.loc (c : Thread nD τ))) (g2 : Buf (Elt F) (arg2.view.loc (c : Thread nD τ)))
  (g6 : Buf (Elt F) (arg6.view.loc (c : Thread nD τ))) (g7 : Buf (Elt F) (arg7.view.loc (c : Thread nD τ))) (g8 : Buf (Elt F) (arg8.view.loc (c : Thread nD τ))) (g9 : Buf (Elt F) (arg9.view.loc (c : Thread nD τ)))
  (g10 : Buf (Elt F) (arg10.view.loc (c : Thread nD τ)))

theorem read_blockOut : arg10.view.read (Elt F) (blockOut c i arg1 arg2 arg6 arg7 arg8 arg9 arg10 w x g1 g2 g6 g7 g8 g9 g10)
    = outBlk (okNow c i arg2 g2) (tileIn (ldW c i arg1 g1) (ldT c i (landed x w)) (ldR c i (landed x w))
        (arg6.view.read (Elt F) g6) (arg7.view.read (Elt F) g7) (arg8.view.read (Elt F) g8) (arg9.view.read (Elt F) g9)) := by
  unfold blockOut outBlk
  by_cases h : okNow c i arg2 g2 = 1#32
  · rw [if_pos h, if_pos h]
    exact read_cuts8 _ _ _ _ _ _ arg10.view g10
  · rw [if_neg h, if_neg h]
    funext y
    refine View.read_writes_apply_of_pieces arg10.view g10 (fun _ => Scalar.ofBits .f32 0x00000000#32) [(⟨Rect.unit ![0, 0] S4096x128.size inb_S4096x128_S4096x128_0_0, k0_pay1⟩ : View.Piece (Elt F) S4096x128 .f32)] ?_ y ⟨_, List.Mem.head _, ?_⟩
    · intro p hp x
      rw [List.mem_singleton] at hp
      subst hp
      rfl
    · refine (Rect.mem_set_unit (inb := inb_S4096x128_S4096x128_0_0)).2 fun ax => ?_
      have h0 : (y 0).val < 4096 := (y 0).isLt
      have h1 : (y 1).val < 128 := (y 1).isLt
      fin_cases ax
      · exact ⟨Nat.zero_le _, by show (y 0).val < 0 + 4096; omega⟩
      · exact ⟨Nat.zero_le _, by show (y 1).val < 0 + 128; omega⟩

end Out

end Cert.KernelIdeal.Hand

end
-- ==== Proof.Tab.lean ====
/-
  What the arrays the region reads hold when it starts.
-/
module

public import proofs.«01_k».proof.Proof.Out
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

variable (m : (ℓ : Loc nD τ sig) → Buf (Elt F) ℓ) (c : Dev nD)

/-- What the core's buffers hold when the region starts. -/
abbrev V (c : Dev nD) (b : Ref sig .tc) : Buf (Elt F) ((c.tc : Thread nD τ).loc b) :=
  StableHlo.after hostOps0 (fun b => m (c, b)) b

/-- The four bounds, in rows. -/
def ends (t : IVec S4 32) : IVec S4 32 := muli t (broadcastInDim S4 ![] bcast_S_S4 (constantI S_ 32 512#32))

/-- Where each tile starts, in rows. -/
def starts : IVec S68 32 := muli (iotaInDim S68 32 0) (broadcastInDim S68 ![] bcast_S_S68 (constantI S_ 32 512#32))

/-- One bound, at every tile. -/
def bound (o : Fin 1 → ℕ) (h : S4.Slices o S1) (t : IVec S4 32) : IVec S68 32 :=
  broadcastInDim S68 ![] bcast_S_S68 (shapeCast S_ (extractStridedSlice S1 o (ends t) h) shapeCasts_S1_S_)

theorem V_ok : V m c main_v28 = extui 32 (cmpi .slt starts (bound ![3] slices_S4_S1_3 (m (c, main_arg0)))) natLt_1_32 := by
  unfold V
  after_results
  rfl

theorem V_group : V m c main_v23 = addi (addi (addi (broadcastInDim S68 ![] bcast_S_S68 (constantI S_ 32 0#32))
      (extui 32 (cmpi .sge starts (bound ![0] slices_S4_S1_0 (m (c, main_arg0)))) natLt_1_32))
      (extui 32 (cmpi .sge starts (bound ![1] slices_S4_S1_1 (m (c, main_arg0)))) natLt_1_32))
      (extui 32 (cmpi .sge starts (bound ![2] slices_S4_S1_2 (m (c, main_arg0)))) natLt_1_32) := by
  unfold V
  after_results
  rfl

theorem V_rows : V m c main_v29 = shapeCast S68x1x512 (m (c, main_arg1)) shapeCasts_S34816_S68x1x512 := by
  unfold V
  after_results
  rfl

theorem V_rows' : V m c main_v30 = shapeCast S68x1x512 (m (c, main_arg1)) shapeCasts_S34816_S68x1x512 := by
  unfold V
  after_results
  rfl

theorem V_arg (b : Ref sig .tc) (h : ∀ op ∈ (hostOps0 : List (HloOp τ sig (Elt F))), Proc.devRef .tc b ∉ op.writes) : V m c b = m (c, b) :=
  StableHlo.after_of_forall_not_mem _ _ h

theorem V_arg2 : V m c main_arg2 = m (c, main_arg2) := by
  unfold V
  after_results

/-! ## The tables' words under the precondition -/

theorem bool_word (p : Bool) : (BitVec.ofBool p).setWidth 32 = if p = true then 1#32 else 0#32 := by
  cases p <;> decide

theorem slt_row (n k : BitVec 32) (hn : n.toNat < 68) (hk : k.toNat < 68) :
    (IntOp.muli n 512#32).slt (IntOp.muli k 512#32) = decide (n.toNat < k.toNat) := by
  have e1 : (IntOp.muli n 512#32).toNat = n.toNat * 512 := by
    show (n * 512#32).toNat = _
    rw [BitVec.toNat_mul]; simp only [BitVec.toNat_ofNat]; omega
  have e2 : (IntOp.muli k 512#32).toNat = k.toNat * 512 := by
    show (k * 512#32).toNat = _
    rw [BitVec.toNat_mul]; simp only [BitVec.toNat_ofNat]; omega
  rw [Bool.eq_iff_iff]
  simp only [BitVec.slt, decide_eq_true_eq, BitVec.toInt, e1, e2]
  omega

theorem sge_row (n k : BitVec 32) (hn : n.toNat < 68) (hk : k.toNat < 68) :
    (IntOp.muli k 512#32).sle (IntOp.muli n 512#32) = decide (k.toNat ≤ n.toNat) := by
  have e1 : (IntOp.muli n 512#32).toNat = n.toNat * 512 := by
    show (n * 512#32).toNat = _
    rw [BitVec.toNat_mul]; simp only [BitVec.toNat_ofNat]; omega
  have e2 : (IntOp.muli k 512#32).toNat = k.toNat * 512 := by
    show (k * 512#32).toNat = _
    rw [BitVec.toNat_mul]; simp only [BitVec.toNat_ofNat]; omega
  rw [Bool.eq_iff_iff]
  simp only [BitVec.sle, decide_eq_true_eq, BitVec.toInt, e1, e2]
  omega

/-- One index of the four. -/
def at4 (j : Fin 4) : S4.Idx := fun a => ⟨j.val, by fin_cases a; exact j.isLt⟩

theorem bound_apply (j : Fin 4) (h : S4.Slices ![j.val] S1) (t : IVec S4 32) (x : S68.Idx) :
    bound ![j.val] h t x = IntOp.muli (t (at4 j)) 512#32 := by
  show ends t _ = ends t (at4 j)
  refine congrArg (ends t) ?_
  funext a
  apply Fin.ext
  fin_cases a
  show j.val + _ = j.val
  have : ∀ k : Fin 1, j.val + k.val = j.val := fun k => by have := k.isLt; omega
  exact this _

/-- The precondition's ranges, of the two integer arguments. -/
structure Ranges (t : IVec S4 32) (s : IVec S34816 32) : Prop where
  tile : ∀ x, (t x).toNat < 68
  row : ∀ x, (s x).toNat < 32768

theorem starts_apply (x : S68.Idx) : starts x = IntOp.muli (BitVec.ofNat 32 (x 0).val) 512#32 := rfl

theorem coord_word (x : S68.Idx) : (BitVec.ofNat 32 (x 0).val).toNat = (x 0).val := by
  have : (x 0).val < 68 := (x 0).isLt
  rw [BitVec.toNat_ofNat]; omega

/-- Whether tile `n` is one of the routed ones, as the table says it. -/
def okN (t : IVec S4 32) (n : ℕ) : BitVec 32 := if n < (t (at4 3)).toNat then 1#32 else 0#32
/-- The group of tile `n`, as the table says it. -/
def grpN (t : IVec S4 32) (n : ℕ) : ℕ :=
  (if (t (at4 0)).toNat ≤ n then 1 else 0) + (if (t (at4 1)).toNat ≤ n then 1 else 0) + (if (t (at4 2)).toNat ≤ n then 1 else 0)

theorem grpN_le (t : IVec S4 32) (n : ℕ) : grpN t n ≤ 3 := by
  unfold grpN; split <;> split <;> split <;> omega

theorem ok_word {s} (hr : Ranges (m (c, main_arg0)) s) (x : S68.Idx) : V m c main_v28 x = okN (m (c, main_arg0)) (x 0).val := by
  have hx : (x 0).val < 68 := (x 0).isLt
  rw [V_ok]
  show (BitVec.ofBool ((starts x).slt (bound ![3] slices_S4_S1_3 (m (c, main_arg0)) x))).setWidth 32 = _
  have e3 := bound_apply 3 slices_S4_S1_3 (m (c, main_arg0)) x
  simp only [show ((3 : Fin 4).val) = 3 from rfl] at e3
  rw [bool_word, starts_apply, e3, slt_row _ _ (by rw [coord_word]; exact hx) (hr.tile _), coord_word]
  unfold okN
  simp only [decide_eq_true_eq]

theorem ge_word {s} (hr : Ranges (m (c, main_arg0)) s) (x : S68.Idx) (j : Fin 4) (h : S4.Slices ![j.val] S1) :
    extui 32 (cmpi .sge starts (bound ![j.val] h (m (c, main_arg0)))) natLt_1_32 x
      = if ((m (c, main_arg0) : IVec S4 32) (at4 j)).toNat ≤ (x 0).val then 1#32 else 0#32 := by
  have hx : (x 0).val < 68 := (x 0).isLt
  show (BitVec.ofBool ((bound ![j.val] h (m (c, main_arg0)) x).sle (starts x))).setWidth 32 = _
  rw [bool_word, starts_apply, bound_apply j, sge_row _ _ (by rw [coord_word]; exact hx) (hr.tile _), coord_word]
  simp only [decide_eq_true_eq]

theorem grp_word {s} (hr : Ranges (m (c, main_arg0)) s) (x : S68.Idx) : V m c main_v23 x = BitVec.ofNat 32 (grpN (m (c, main_arg0)) (x 0).val) := by
  rw [V_group]
  have e (a b : IVec S68 32) : (addi a b : IVec S68 32) x = IntOp.addi (a x) (b x) := rfl
  have e0 := ge_word m c hr x 0 slices_S4_S1_0
  have e1 := ge_word m c hr x 1 slices_S4_S1_1
  have e2 := ge_word m c hr x 2 slices_S4_S1_2
  simp only [Fin.val_zero, Fin.val_one, Fin.val_two] at e0 e1 e2
  rw [e, e, e, e0, e1, e2]
  show IntOp.addi (IntOp.addi (IntOp.addi 0#32 _) _) _ = _
  unfold grpN
  split <;> split <;> split <;> decide

/-- The rows tile `n` gathers: the words of its stretch of the index argument. -/
def rowsN (s : IVec S34816 32) (n : ℕ) : Fin 512 → Fin 32768 := fun r =>
  ⟨(s (fun a => ⟨(512 * n + r.val) % 34816, by fin_cases a; exact Nat.mod_lt _ (by decide)⟩)).toNat % 32768, Nat.mod_lt _ (by decide)⟩

theorem rows_cast (s : IVec S34816 32) (n : Fin 68) (r : Fin 512) :
    shapeCast S68x1x512 s shapeCasts_S34816_S68x1x512 (ix3 n (0 : Fin 1) r : S68x1x512.Idx)
      = s (fun a => ⟨(512 * n.val + r.val) % 34816, by fin_cases a; exact Nat.mod_lt _ (by decide)⟩) := by
  refine shapeCast_apply s _ _ _ ?_
  rw [Shape.rowMajor_val_one, Shape.rowMajor_val_three]
  have h1 := n.isLt
  have h2 := r.isLt
  show (512 * n.val + r.val) % 34816 = (n.val * 1 + 0) * 512 + r.val
  omega

theorem rows_word {t} {s : IVec S34816 32} (hr : Ranges t s) (n : Fin 68) (r : Fin 512) :
    (shapeCast S68x1x512 s shapeCasts_S34816_S68x1x512 (ix3 n (0 : Fin 1) r : S68x1x512.Idx)).toNat = (rowsN s n.val r).val := by
  rw [rows_cast]
  exact (Nat.mod_eq_of_lt (hr.row _)).symm

end Cert.KernelIdeal.Hand

end
-- ==== Proof.Plan.lean ====
/-
  The tables' admissibility, the invariant between tiles, and what every point leaves.
-/
module

public import proofs.«01_k».proof.Proof.Tab
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

variable (m : (ℓ : Loc nD τ sig) → Buf (Elt F) ℓ)

/-- The precondition's ranges at every core. -/
def Routed : Prop := ∀ c : Dev nD, Ranges (m (c, main_arg0)) (m (c, main_arg1))

abbrev tl (c : Dev nD) : IVec S4 32 := m (c, main_arg0)
abbrev sr (c : Dev nD) : IVec S34816 32 := m (c, main_arg1)
abbrev xt (c : Dev nD) : XtBuf (F := F) c := V m c main_arg2

/-- The two tables as the region finds them. -/
def tabs : pre0.Contents (Elt F) := fun
  | 0 => V m 0 main_v23
  | 1 => V m 0 main_v28
  | ⟨_ + 2, h⟩ => absurd h (Nat.not_lt.2 (Nat.le_add_left _ _))

theorem coords_val : ∀ t : Fin 68, (grid0.coords t 0).val = t.val := by decide +kernel

theorem off_word {off : Fin 1 → ℕ} {n : ℕ} (hn : n < 68) (inb : ∀ a, off a + S1.size a ≤ S68.size a) (ho : off = ![n])
    (x : (Rect.unit (s := S68) off S1.size inb).shape.Idx) : (Rect.unit (s := S68) off S1.size inb).emb x = (fun a => ⟨n, by fin_cases a; exact hn⟩ : S68.Idx) := by
  subst ho
  funext a
  apply Fin.ext
  fin_cases a
  show n + 1 * _ = n
  have : ∀ k : Fin 1, n + 1 * k.val = n := fun k => by have := k.isLt; omega
  exact this _

theorem word_toNat (n : ℕ) (h : n < 68) : (BitVec.ofNat 32 n).toNat = n := by rw [BitVec.toNat_ofNat]; omega

theorem off1_eq (i : grid0.Coords) : k0_off1 i = ![(i 0).val] := by
  unfold k0_off1
  exact congrArg (fun n => ![n]) (word_toNat _ (i 0).isLt)

variable {m} (hr : Routed m)
include hr

theorem grp_at (i : grid0.Coords) : ((tabs m).at 0 (Rect.unit (s := S68) ![(BitVec.ofNat 32 (i 0).val).toNat] S1.size (k0_off1_inb i)) numel1_S1 : BitVec 32)
    = BitVec.ofNat 32 (grpN (tl m 0) (i 0).val) := by
  show V m 0 main_v23 _ = _
  refine (congrArg (V m 0 main_v23) (off_word (i 0).isLt _ (off1_eq i) _)).trans ?_
  rw [grp_word m 0 (hr 0)]

theorem grp_toNat (i : grid0.Coords) : ((tabs m).at 0 (Rect.unit (s := S68) ![(BitVec.ofNat 32 (i 0).val).toNat] S1.size (k0_off1_inb i)) numel1_S1 : BitVec 32).toNat
    = grpN (tl m 0) (i 0).val := by
  have := grpN_le (tl m 0) (i 0).val
  rw [grp_at hr, BitVec.toNat_ofNat]; omega

theorem tr4 (i : grid0.Coords) : cc0_transform_4 k0_off1_inb numel1_S1 (tabs m) i = ![grpN (tl m 0) (i 0).val, 0, 0, 0] :=
  congrArg (fun n => (![n, 0, 0, 0] : Fin 4 → ℕ)) (grp_toNat hr i)
theorem tr5 (i : grid0.Coords) : cc0_transform_5 k0_off1_inb numel1_S1 (tabs m) i = ![grpN (tl m 0) (i 0).val, 0, 0, 0] :=
  congrArg (fun n => (![n, 0, 0, 0] : Fin 4 → ℕ)) (grp_toNat hr i)
theorem tr6 (i : grid0.Coords) : cc0_transform_6 k0_off1_inb numel1_S1 (tabs m) i = ![grpN (tl m 0) (i 0).val, 0, 0, 0] :=
  congrArg (fun n => (![n, 0, 0, 0] : Fin 4 → ℕ)) (grp_toNat hr i)

theorem ok_tabs : ok0 (tabs m) := by
  refine ⟨fun i => ?_, fun i => ?_, fun i => ?_⟩
  · have hg := grpN_le (tl m 0) (i 0).val
    rw [tr4 hr i]
    refine ⟨fun a => ?_, Or.inr (Or.inr ⟨by decide, rfl, rfl, rfl⟩)⟩
    fin_cases a
    · show (grpN (tl m 0) (i 0).val + 1) * 1 ≤ 4; omega
    · exact Nat.le_of_eq rfl
    · exact Nat.le_of_eq rfl
    · exact Nat.le_of_eq rfl
  · have hg := grpN_le (tl m 0) (i 0).val
    rw [tr5 hr i]
    refine ⟨fun a => ?_, Or.inr (Or.inr ⟨by decide, rfl, rfl, rfl⟩)⟩
    fin_cases a
    · show (grpN (tl m 0) (i 0).val + 1) * 1 ≤ 4; omega
    · exact Nat.le_of_eq rfl
    · exact Nat.le_of_eq rfl
    · exact Nat.le_of_eq rfl
  · have hg := grpN_le (tl m 0) (i 0).val
    rw [tr6 hr i]
    refine ⟨fun a => ?_, Or.inr (Or.inr ⟨by decide, rfl, rfl, rfl⟩)⟩
    fin_cases a
    · show (grpN (tl m 0) (i 0).val + 1) * 1 ≤ 4; omega
    · exact Nat.le_of_eq rfl
    · exact Nat.le_of_eq rfl
    · exact Nat.le_of_eq rfl

omit hr in
/-- The tables, admissible. -/
def adm (hr : Routed m) (_ : Fin 1) : (pcfg0 (F := F)).Adm := ⟨tabs m, ok_tabs hr⟩

/-- Which slot is filled while tile `n` runs, and read while tile `n` runs. -/
def par (n : ℕ) : Fin 2 := ⟨n % 2, Nat.mod_lt _ (by decide)⟩
/-- Whether a batch is under way when tile `n` starts. -/
def bN (t : IVec S4 32) (n : ℕ) : Bool := decide (0 < n ∧ n - 1 < (t (at4 3)).toNat)

omit hr in
/-- What the core holds between tiles. -/
def inv (m : (ℓ : Loc nD τ sig) → Buf (Elt F) ℓ) (c : Dev nD) (n : ℕ) : sProp 𝕄 :=
  iprop(pend c (par n) (rowsN (sr m c) n) (xt m c) (bN (tl m c) n)
    ∗ semVal ((c : Thread nD τ), SemLoc.dma (cell (par (n + 1)))) 0 ∗ (∃ f, slotAt c (par (n + 1)) f)
    ∗ ((c : Thread nD τ).loc main_v23 ↦{fullShare.right} V m c main_v23) ∗ ((c : Thread nD τ).loc main_v28 ↦{fullShare.right} V m c main_v28)
    ∗ (∃ g, (c : Thread nD τ).loc cc0_scratch2 ↦{fullShare} g) ∗ (∃ g, (c : Thread nD τ).loc cc0_scratch3 ↦{fullShare} g)
    ∗ semVal ((c : Thread nD τ), SemLoc.reg cc0_scratch4.sem) 0 ∗ ∃ r, prngReg c r)

omit hr in
/-- The block window `w` covers at point `t`, of the array the region finds. -/
def iblk (hr : Routed m) (c : Dev nD) (w : Fin 7) (t : Fin (cfg0 (adm hr 0)).N) : (((cfg0 (adm hr 0)).win w).xblock ((cfg0 (adm hr 0)).grid.coords t)).Idx → Elt F ((cfg0 (adm hr 0)).win w).elt :=
  (((cfg0 (adm hr 0)).win w).blk t).view.read (Elt F) (V m c (Pipeline.arrRef spec0 w))

omit hr in
/-- The tile point `t` computes. -/
def tileN (hr : Routed m) (c : Dev nD) (t : Fin (cfg0 (adm hr 0)).N) : FVec F S512x1024 .f32 :=
  tileIn (BitVec.ofNat 32 (grpN (tl m c) t.val)) (ldT c (grid0.coords t) (landed (xt m c) (rowsN (sr m c) t.val)))
    (ldR c (grid0.coords t) (landed (xt m c) (rowsN (sr m c) t.val)))
    (iblk hr c 2 t) (iblk hr c 3 t) (iblk hr c 4 t) (iblk hr c 5 t)

omit hr in
def dats (hr : Routed m) (p : Fin 1) (c : Dev nD) : Pipeline.Dat τ (Elt F) Unit ℕ (Pipeline.UD sig nD τ) ℕ (Pipeline.pin (pcfgs (F := F)) (adm hr) p) c where
  A w := V m c (Pipeline.arrRef spec0 w)
  after w t := match w with
    | ⟨0, _⟩ => iblk hr c 0 t
    | ⟨1, _⟩ => iblk hr c 1 t
    | ⟨2, _⟩ => iblk hr c 2 t
    | ⟨3, _⟩ => iblk hr c 3 t
    | ⟨4, _⟩ => iblk hr c 4 t
    | ⟨5, _⟩ => iblk hr c 5 t
    | ⟨6, _⟩ => outBlk (okN (tl m c) t.val) (tileN hr c t)
    | ⟨_ + 7, h⟩ => absurd h (Nat.not_lt.2 (Nat.le_add_left _ _))
  Φ n := inv m c n.val
  q _ := fullShare
  owed _ := 0

end Cert.KernelIdeal.Hand

end
-- ==== Proof.Step.lean ====
/-
  One point of the grid, from the invariant and the blocks to the invariant and the block left.
-/
module

public import proofs.«01_k».proof.Proof.Plan
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

variable {m : (ℓ : Loc nD τ sig) → Buf (Elt F) ℓ} (hr : Routed m) (c : Dev nD)

theorem open_owns {sp : Space} {S : Shape} {e : EltTy} (M : Memref sig .tc sp S e) (hM : M.IsWhole) (X : S.Idx → Elt F e) :
    (owns (c : Thread nD τ) M fullShare X : sProp 𝕄) ⊢ iprop(∃ f, ⌜M.view.read (Elt F) f = X⌝ ∗ (M.view.loc (c : Thread nD τ) ↦{fullShare} f)) := by
  unfold owns
  rw [hM.set_eq_univ]

theorem close_owns {sp : Space} {S : Shape} {e : EltTy} (M : Memref sig .tc sp S e) (hM : M.IsWhole) (X : S.Idx → Elt F e)
    (f : Buf (Elt F) (M.view.loc (c : Thread nD τ))) (h : M.view.read (Elt F) f = X) :
    iprop(M.view.loc (c : Thread nD τ) ↦{fullShare} f) ⊢ (owns (c : Thread nD τ) M fullShare X : sProp 𝕄) := by
  unfold owns
  rw [hM.set_eq_univ]
  iintro H
  iexists f
  isplitr; · ipureintro; exact h
  iexact H

theorem off10_eq (i : grid0.Coords) : k0_off10 i = ![(i 0).val] := by
  unfold k0_off10
  exact congrArg (fun n => ![n]) (word_toNat _ (i 0).isLt)
theorem off14_eq (i : grid0.Coords) : k0_off14 i = ![(i 0).val] := by
  unfold k0_off14
  exact congrArg (fun n => ![n]) (word_toNat _ (i 0).isLt)
theorem off5_eq : ∀ i : grid0.Coords, k0_off5 i = ![(i 0).val - 1] := by
  have h : ∀ n : Fin 68, k0_off5 (fun a => ⟨n.val, by fin_cases a; exact n.isLt⟩ : grid0.Coords) = ![n.val - 1] := by decide +kernel
  intro i
  have := h (i 0)
  rw [show (fun a => ⟨(i 0).val, by fin_cases a; exact (i 0).isLt⟩ : grid0.Coords) = i from funext fun a => by fin_cases a; rfl] at this
  exact this

theorem sl_par (i : grid0.Coords) : sl i = par (i 0).val := rfl
theorem sl'_par (i : grid0.Coords) : sl' i = par ((i 0).val + 1) := by
  apply Fin.ext
  show 1 - (i 0).val % 2 = ((i 0).val + 1) % 2
  omega

section Words
include hr

theorem okNow_eq (i : grid0.Coords) : okNow c i (Memref.whole main_v28) (V m c main_v28) = okN (tl m c) (i 0).val := by
  show V m c main_v28 _ = _
  refine (congrArg (V m c main_v28) (off_word (i 0).isLt _ (off10_eq i) _)).trans ?_
  rw [ok_word m c (hr c)]
theorem okPrev_eq (i : grid0.Coords) : okPrev c i (Memref.whole main_v28) (V m c main_v28) = okN (tl m c) ((i 0).val - 1) := by
  show V m c main_v28 _ = _
  refine (congrArg (V m c main_v28) (off_word (lt_of_le_of_lt (Nat.sub_le _ _) (i 0).isLt) _ (off5_eq i) _)).trans ?_
  rw [ok_word m c (hr c)]
theorem ldW_eq (i : grid0.Coords) : ldW c i (Memref.whole main_v23) (V m c main_v23) = BitVec.ofNat 32 (grpN (tl m c) (i 0).val) := by
  show V m c main_v23 _ = _
  refine (congrArg (V m c main_v23) (off_word (i 0).isLt _ (off14_eq i) _)).trans ?_
  rw [grp_word m c (hr c)]

end Words

theorem okN_one (t : IVec S4 32) (n : ℕ) : okN t n = 1#32 ↔ n < (t (at4 3)).toNat := by
  unfold okN; split
  · exact ⟨fun _ => ‹_›, fun _ => rfl⟩
  · exact ⟨fun h => absurd h (by decide), fun h => absurd h ‹_›⟩
theorem okN_or (t : IVec S4 32) (n : ℕ) : okN t n = 0#32 ∨ okN t n = 1#32 := by
  unfold okN; split
  · exact Or.inr rfl
  · exact Or.inl rfl

theorem tr0_val : ∀ t : Fin 68, cc0_transform_0 (grid0.coords t) 0 = t.val := by decide +kernel

/-- Window 0's block at a point: the point's 512 words of the index table. -/
theorem blk0_apply (t : Fin (cfg0 (adm hr 0)).N) (r : Fin 512) :
    iblk hr c 0 t (ix3 (0 : Fin 1) (0 : Fin 1) r : S1x1x512.Idx) = V m c main_v29 (ix3 (⟨t.val, t.isLt⟩ : Fin 68) (0 : Fin 1) r : S68x1x512.Idx) := by
  refine congrArg (V m c main_v29) ?_
  funext a
  apply Fin.ext
  fin_cases a
  · show cc0_transform_0 (grid0.coords t) 0 * 1 + 1 * 0 = t.val
    have := tr0_val t; omega
  · rfl
  · show 0 * 512 + 1 * r.val = r.val
    omega

theorem tr1_val : ∀ t : Fin 68, cc0_transform_1 (grid0.coords t) 0 = min (t.val + 1) 67 := by decide +kernel

theorem blk1_apply (t : Fin (cfg0 (adm hr 0)).N) (r : Fin 512) (ht : t.val + 1 < 68) :
    iblk hr c 1 t (ix3 (0 : Fin 1) (0 : Fin 1) r : S1x1x512.Idx) = V m c main_v30 (ix3 (⟨t.val + 1, ht⟩ : Fin 68) (0 : Fin 1) r : S68x1x512.Idx) := by
  refine congrArg (V m c main_v30) ?_
  funext a
  apply Fin.ext
  fin_cases a
  · show cc0_transform_1 (grid0.coords t) 0 * 1 + 1 * 0 = t.val + 1
    have := tr1_val t; omega
  · rfl
  · show 0 * 512 + 1 * r.val = r.val
    omega

theorem blk0_word (t : Fin (cfg0 (adm hr 0)).N) (r : Fin 512) :
    (iblk hr c 0 t (ix3 (0 : Fin 1) (0 : Fin 1) r : S1x1x512.Idx) : BitVec 32).toNat = (rowsN (sr m c) t.val r).val := by
  refine (congrArg BitVec.toNat (blk0_apply hr c t r)).trans ?_
  rw [V_rows]
  exact rows_word (hr c) ⟨t.val, t.isLt⟩ r

theorem blk1_word (t : Fin (cfg0 (adm hr 0)).N) (r : Fin 512) (ht : t.val + 1 < 68) :
    (iblk hr c 1 t (ix3 (0 : Fin 1) (0 : Fin 1) r : S1x1x512.Idx) : BitVec 32).toNat = (rowsN (sr m c) (t.val + 1) r).val := by
  refine (congrArg BitVec.toNat (blk1_apply hr c t r ht)).trans ?_
  rw [V_rows']
  exact rows_word (hr c) ⟨t.val + 1, ht⟩ r

set_option pp.maxSteps 900 in
set_option maxHeartbeats 4000000 in
/-- One point: from the invariant and the windows' blocks to the next invariant and the block computed. -/
theorem point_run (𝒱₀ : Variants) (t : Fin (cfg0 (adm hr 0)).N) (arg3 : Memref sig .tc .smem S1x1x512 .i32) (harg3 : arg3.IsWhole) (arg4 : Memref sig .tc .smem S1x1x512 .i32) (harg4 : arg4.IsWhole)
    (arg6 : Memref sig .tc .vmem S1x1024 .f32) (harg6 : arg6.IsWhole) (arg7 : Memref sig .tc .vmem S1x8x1024x256 .bf16) (harg7 : arg7.IsWhole) (arg8 : Memref sig .tc .vmem S1x8x1024x256 .bf16) (harg8 : arg8.IsWhole)
    (arg9 : Memref sig .tc .vmem S1x8x256x1024 .bf16) (harg9 : arg9.IsWhole) (arg10 : Memref sig .tc .vmem S4096x128 .f32) (harg10 : arg10.IsWhole) :
    iprop(inv m c t.val ∗ (∃ W, owes (c : Thread nD τ) 0 W)
      ∗ owns (c : Thread nD τ) arg3 fullShare (iblk hr c 0 t) ∗ owns (c : Thread nD τ) arg4 fullShare (iblk hr c 1 t) ∗ owns (c : Thread nD τ) arg6 fullShare (iblk hr c 2 t)
      ∗ owns (c : Thread nD τ) arg7 fullShare (iblk hr c 3 t) ∗ owns (c : Thread nD τ) arg8 fullShare (iblk hr c 4 t) ∗ owns (c : Thread nD τ) arg9 fullShare (iblk hr c 5 t)
      ∗ (∃ d, owns (c : Thread nD τ) arg10 fullShare d))
    ⊢ wp Idealize.ShloMosaic.frame (wpE defs₀ 𝒱₀ (c : Thread nD τ) none) Set.univ
        (cc0_moe (F := F) (grid0.coords t) (Memref.whole main_v23) (Memref.isWhole_whole _) (Memref.whole main_v28) (Memref.isWhole_whole _) arg3 harg3 arg4 harg4 (Memref.whole main_arg2) (Memref.isWhole_whole _) arg6 harg6 arg7 harg7 arg8 harg8 arg9 harg9 arg10 harg10 (Memref.whole cc0_scratch0) (Memref.isWhole_whole _) cc0_scratch1 (Memref.whole cc0_scratch2) (Memref.isWhole_whole _) (Memref.whole cc0_scratch3) (Memref.isWhole_whole _) cc0_scratch4)
        (fun _ => iprop(inv m c (t.val + 1) ∗ (∃ W, owes (c : Thread nD τ) 0 W)
      ∗ owns (c : Thread nD τ) arg3 fullShare (iblk hr c 0 t) ∗ owns (c : Thread nD τ) arg4 fullShare (iblk hr c 1 t) ∗ owns (c : Thread nD τ) arg6 fullShare (iblk hr c 2 t)
      ∗ owns (c : Thread nD τ) arg7 fullShare (iblk hr c 3 t) ∗ owns (c : Thread nD τ) arg8 fullShare (iblk hr c 4 t) ∗ owns (c : Thread nD τ) arg9 fullShare (iblk hr c 5 t)
      ∗ owns (c : Thread nD τ) arg10 fullShare (outBlk (okN (tl m c) t.val) (tileN hr c t)))) := by
  have hv : (grid0.coords t 0).val = t.val := coords_val t
  have hlt : t.val < 68 := t.isLt
  have hokN : okNow c (grid0.coords t) (Memref.whole main_v28) (V m c main_v28) = okN (tl m c) t.val := by rw [okNow_eq hr, hv]
  have hokP : okPrev c (grid0.coords t) (Memref.whole main_v28) (V m c main_v28) = okN (tl m c) (t.val - 1) := by rw [okPrev_eq hr, hv]
  have hldW : ldW c (grid0.coords t) (Memref.whole main_v23) (V m c main_v23) = BitVec.ofNat 32 (grpN (tl m c) t.val) := by rw [ldW_eq hr, hv]
  have ht3 : ((tl m c) (at4 3)).toNat < 68 := (hr c).tile _
  have hsl : sl (grid0.coords t) = par t.val := by rw [sl_par, hv]
  have hsl' : sl' (grid0.coords t) = par (t.val + 1) := by rw [sl'_par, hv]
  have hpp : par (t.val + 1 + 1) = par t.val := by apply Fin.ext; show (t.val + 1 + 1) % 2 = t.val % 2; omega
  iintro ⟨Hinv, HW, H3, H4, H6, H7, H8, H9, ⟨%d, H10⟩⟩
  ihave H3 := (open_owns c arg3 harg3 _) $$ H3
  ihave H4 := (open_owns c arg4 harg4 _) $$ H4
  ihave H6 := (open_owns c arg6 harg6 _) $$ H6
  ihave H7 := (open_owns c arg7 harg7 _) $$ H7
  ihave H8 := (open_owns c arg8 harg8 _) $$ H8
  ihave H9 := (open_owns c arg9 harg9 _) $$ H9
  ihave H10 := (open_owns c arg10 harg10 _) $$ H10
  icases H3 with ⟨%g3, %e3, H3⟩
  icases H4 with ⟨%g4, %e4, H4⟩
  icases H6 with ⟨%g6, %e6, H6⟩
  icases H7 with ⟨%g7, %e7, H7⟩
  icases H8 with ⟨%g8, %e8, H8⟩
  icases H9 with ⟨%g9, %e9, H9⟩
  icases H10 with ⟨%g10, -, H10⟩
  unfold inv
  icases Hinv with ⟨Hp, Hsem, Hslot, Ht1, Ht2, H13, H14, Hf, Hg⟩
  have key := body_run (F := F) 𝒱₀ c (grid0.coords t) (Memref.whole main_v23) (Memref.isWhole_whole _) (Memref.whole main_v28) (Memref.isWhole_whole _) arg3 harg3 arg4 harg4 (Memref.isWhole_whole _) arg6 harg6 arg7 harg7 arg8 harg8 arg9 harg9 arg10 harg10 (Memref.isWhole_whole _) (Memref.whole cc0_scratch2) (Memref.isWhole_whole _) (Memref.whole cc0_scratch3) (Memref.isWhole_whole _) cc0_scratch4
    (rowsN (sr m c) t.val) (xt m c) (V m c main_v23) (V m c main_v28) fullShare.right g3 g4 g6 g7 g8 g9 g10 (rowsN (sr m c) (t.val + 1))
    (fun r => (congrArg (fun f => (f (ix3 (0 : Fin 1) (0 : Fin 1) r : S1x1x512.Idx) : BitVec 32).toNat) e3).trans (blk0_word hr c t r))
    (fun h r => (congrArg (fun f => (f (ix3 (0 : Fin 1) (0 : Fin 1) r : S1x1x512.Idx) : BitVec 32).toNat) e4).trans (blk1_word hr c t r (by
      rw [hokN, okN_one] at h; omega)))
    (by rw [hokN]; exact okN_or _ _)
    (by rw [hokN, hokP, hv, okN_one, okN_one]; intro h; omega)
    (bN (tl m c) t.val) (bN (tl m c) (t.val + 1))
    (by rw [hokP, hv, okN_one]; unfold bN; rw [decide_eq_true_eq]; omega)
    (by rw [hokN, okN_one]; unfold bN; rw [decide_eq_true_eq]; omega)
  rw [hsl, hsl'] at key
  have hout : arg10.view.read (Elt F) (blockOut c (grid0.coords t) (Memref.whole main_v23) (Memref.whole main_v28) arg6 arg7 arg8 arg9 arg10 (rowsN (sr m c) t.val) (xt m c) (V m c main_v23) (V m c main_v28) g6 g7 g8 g9 g10)
      = outBlk (okN (tl m c) t.val) (tileN hr c t) := by
    rw [read_blockOut, hokN, hldW, e6, e7, e8, e9]; rfl
  ihave Hw := key $$ [Hp Hsem Hslot Ht1 Ht2 H13 H14 Hf HW H3 H4 H6 H7 H8 H9 H10]
  · isplitl [Hp]; · iexact Hp
    isplitl [Hsem]; · iexact Hsem
    isplitl [Hslot]; · iexact Hslot
    unfold kept
    isplitl [Ht1]; · iexact Ht1
    isplitl [Ht2]; · iexact Ht2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [Hf]; · iexact Hf
    iexact HW
  iapply (wp_wand _ _ _) $$ Hw
  iintro %u ⟨Hp, Hsem, Hslot, Hk⟩
  unfold kept
  icases Hk with ⟨Ht1, Ht2, H3, H4, H6, H7, H8, H9, H10, H13, H14, Hf, HW⟩
  isplitl [Hp Hsem Hslot Ht1 Ht2 H13 H14 Hf Hg]
  · rw [hpp]
    isplitl [Hp]; · iexact Hp
    isplitl [Hsem]; · iexact Hsem
    isplitl [Hslot]; · iexact Hslot
    isplitl [Ht1]; · iexact Ht1
    isplitl [Ht2]; · iexact Ht2
    isplitl [H13]; · iexact H13
    isplitl [H14]; · iexact H14
    isplitl [Hf]; · iexact Hf
    iexact Hg
  isplitl [HW]; · iexact HW
  isplitl [H3]; · iapply (close_owns c arg3 harg3 _ _ e3); iexact H3
  isplitl [H4]; · iapply (close_owns c arg4 harg4 _ _ e4); iexact H4
  isplitl [H6]; · iapply (close_owns c arg6 harg6 _ _ e6); iexact H6
  isplitl [H7]; · iapply (close_owns c arg7 harg7 _ _ e7); iexact H7
  isplitl [H8]; · iapply (close_owns c arg8 harg8 _ _ e8); iexact H8
  isplitl [H9]; · iapply (close_owns c arg9 harg9 _ _ e9); iexact H9
  iapply (close_owns c arg10 harg10 _ _ hout); iexact H10

end Cert.KernelIdeal.Hand

end
-- ==== Proof.Run.lean ====
/-
  The launch: what the region gives, every point's run, and what the program leaves.
-/
module

public import proofs.«01_k».proof.Proof.Step
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

variable {m : (ℓ : Loc nD τ sig) → Buf (Elt F) ℓ} (hr : Routed m) (c : Dev nD)

/-- The kernel's own counters: the two slots' and the fence. -/
abbrev osem0 : Fin 3 → SemLoc sig := fun j => (![SemLoc.dma (cell 0), SemLoc.dma (cell 1), SemLoc.reg cc0_scratch4.sem] : Fin 3 → SemLoc sig) j
theorem osem0_facts : Pipeline.OwnSemFacts spec0 osem0 := by decide
theorem osem0_eq : (Pipeline.ownSems0 (Ix := Unit) (Name := ℕ) (U := Pipeline.UD sig nD τ) (Lvl := ℕ) (Val := Elt F) (τ := τ) osem0 c : sProp 𝕄)
    = iprop(semVal ((c : Thread nD τ), SemLoc.dma (cell 0)) 0 ∗ semVal ((c : Thread nD τ), SemLoc.dma (cell 1)) 0 ∗ semVal ((c : Thread nD τ), SemLoc.reg cc0_scratch4.sem) 0) := by
  rw [Pipeline.ownSems0_eq_of_list c osem0 [0, 1, 2] (by decide) (by decide)]; rfl
/-- The array the kernel reads by its own transfers: the tokens. -/
abbrev H0 : Finset (Ref sig .tc) := {main_arg2}
theorem H0_sub : H0 ⊆ Pipeline.restRefsP sig pre0 spec0 := by decide

theorem held_eq : (Pipeline.ΦT pre0 (tabs m) c : sProp 𝕄)
    = iprop(((c : Thread nD τ).loc main_v23 ↦{fullShare.right} V m 0 main_v23) ∗ ((c : Thread nD τ).loc main_v28 ↦{fullShare.right} V m 0 main_v28)) := by
  show bigSep Finset.univ _ = _
  rw [bigSep_univ_eq_bigSepL [(0 : Fin 2), (1 : Fin 2)] (by decide) (by decide)]
  rfl

theorem given_eq : (Pipeline.ΦD osem0 spec0 H0 (V m) c : sProp 𝕄)
    = iprop(((∃ f : Buf (Elt F) ((c : Thread nD τ).loc cc0_scratch0), ((c : Thread nD τ).loc cc0_scratch0) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))
      ∗ (∃ r, prngReg c r)
      ∗ (semVal ((c : Thread nD τ), SemLoc.dma (cell 0)) 0 ∗ semVal ((c : Thread nD τ), SemLoc.dma (cell 1)) 0 ∗ semVal ((c : Thread nD τ), SemLoc.reg cc0_scratch4.sem) 0)
      ∗ ((c : Thread nD τ).loc main_arg2 ↦{fullShare} V m c main_arg2)) := by
  show iprop(Pipeline.scopedRest spec0 c ∗ (∃ r, prngReg c r) ∗ Pipeline.ownSems0 osem0 c ∗ bigSep H0 _) = _
  rw [scopedRest0_eq, osem0_eq, bigSep_singleton]

theorem bN_zero (t : IVec S4 32) : bN t 0 = false := by unfold bN; exact decide_eq_false (by omega)
include hr in
theorem bN_last : bN (tl m c) 68 = false := by
  unfold bN
  have : ((tl m c) (at4 3)).toNat < 68 := (hr c).tile _
  exact decide_eq_false (by omega)

/-- What the region gives makes the invariant before the first tile. -/
theorem enter : iprop(Pipeline.ΦD osem0 spec0 H0 (V m) c ∗ Pipeline.ΦT pre0 (tabs m) c) ⊢ (inv m c 0 : sProp 𝕄) := by
  obtain rfl : c = 0 := Subsingleton.elim _ _
  rw [given_eq, held_eq]
  unfold inv
  rw [bN_zero]
  show _ ⊢ iprop(calm _ _ _ ∗ _)
  unfold calm
  iintro ⟨⟨⟨⟨%f, Hx⟩, H13, H14⟩, Hg, ⟨Hs0, Hs1, Hf⟩, Hxt⟩, Ht1, Ht2⟩
  ihave Hx := (show iprop(xbuf.view.loc ((0 : Dev nD) : Thread nD τ) ↦{fullShare} f) ⊢ (iprop(slotAt 0 0 f ∗ slotAt 0 1 f) : sProp 𝕄) by rw [xbuf_slots]) $$ Hx
  icases Hx with ⟨Hx0, Hx1⟩
  isplitl [Hs0 Hx0 Hxt]
  · isplitl [Hs0]; · iexact Hs0
    isplitl [Hx0]; · iexists f; iexact Hx0
    iexact Hxt
  isplitl [Hs1]; · iexact Hs1
  isplitl [Hx1]; · iexists f; iexact Hx1
  isplitl [Ht1]; · iexact Ht1
  isplitl [Ht2]; · iexact Ht2
  isplitl [H13]; · iexact H13
  isplitl [H14]; · iexact H14
  isplitl [Hf]; · iexact Hf
  iexact Hg

theorem slots_merge (f g : XbBuf (F := F) c) : iprop(slotAt c 0 f ∗ slotAt c 1 g) ⊢ (iprop(∃ h : Buf (Elt F) ((c : Thread nD τ).loc cc0_scratch0), ((c : Thread nD τ).loc cc0_scratch0) ↦{fullShare} h) : sProp 𝕄) := by
  rw [slotAt_congr c 0 f (g := fun y : S2x512x1152.Idx => if (y 0).val = 0 then f y else g y)
      (fun y hy => (if_pos ((mem_slotSet 0 y).1 hy)).symm),
    slotAt_congr c 1 g (g := fun y : S2x512x1152.Idx => if (y 0).val = 0 then f y else g y)
      (fun y hy => (if_neg (by rw [(mem_slotSet 1 y).1 hy]; decide)).symm)]
  rw [← xbuf_slots]
  iintro H
  iexists _
  iexact H

include hr in
/-- The invariant after the last tile makes what the region takes back. -/
theorem leave : (inv m c 68 : sProp 𝕄) ⊢ Pipeline.ΦD osem0 spec0 H0 (V m) c := by
  rw [given_eq]
  unfold inv
  rw [bN_last hr]
  show iprop(calm _ _ _ ∗ _) ⊢ _
  unfold calm
  iintro ⟨⟨Hs0, ⟨%f, Hx0⟩, Hxt⟩, Hs1, ⟨%g, Hx1⟩, Ht1, Ht2, H13, H14, Hf, Hg⟩
  isplitl [Hx0 Hx1 H13 H14]
  · isplitl [Hx0 Hx1]
    · iapply (slots_merge c f g)
      isplitl [Hx0]; · iexact Hx0
      iexact Hx1
    isplitl [H13]; · iexact H13
    iexact H14
  isplitl [Hg]; · iexact Hg
  isplitl [Hs0 Hs1 Hf]
  · isplitl [Hs0]; · iexact Hs0
    isplitl [Hs1]; · iexact Hs1
    iexact Hf
  iexact Hxt

abbrev N0 (hr : Routed m) : ℕ := (cfg0 (adm hr 0)).N

theorem before_0 (t : Fin (N0 hr)) (d) : (dats hr 0 c).before 0 t d = iblk hr c 0 t :=
  (dats hr 0 c).before_in_eq_fetched 0 rfl (fun _ => rfl) (fun _ _ _ => rfl) (fun _ => rfl) t d
theorem before_1 (t : Fin (N0 hr)) (d) : (dats hr 0 c).before 1 t d = iblk hr c 1 t :=
  (dats hr 0 c).before_in_eq_fetched 1 rfl (fun _ => rfl) (fun _ _ _ => rfl) (fun _ => rfl) t d
theorem before_2 (t : Fin (N0 hr)) (d) : (dats hr 0 c).before 2 t d = iblk hr c 2 t :=
  (dats hr 0 c).before_in_eq_fetched 2 rfl (fun _ => rfl) (fun _ _ _ => rfl) (fun _ => rfl) t d
theorem before_3 (t : Fin (N0 hr)) (d) : (dats hr 0 c).before 3 t d = iblk hr c 3 t :=
  (dats hr 0 c).before_in_eq_fetched 3 rfl (fun _ => rfl) (fun _ _ _ => rfl) (fun _ => rfl) t d
theorem before_4 (t : Fin (N0 hr)) (d) : (dats hr 0 c).before 4 t d = iblk hr c 4 t :=
  (dats hr 0 c).before_in_eq_fetched 4 rfl (fun _ => rfl) (fun _ _ _ => rfl) (fun _ => rfl) t d
theorem before_5 (t : Fin (N0 hr)) (d) : (dats hr 0 c).before 5 t d = iblk hr c 5 t :=
  (dats hr 0 c).before_in_eq_fetched 5 rfl (fun _ => rfl) (fun _ _ _ => rfl) (fun _ => rfl) t d

theorem atD_ok (i : grid0.Coords) (off : Fin 1 → ℕ) (n : ℕ) (hn : n < 68) (ho : off = ![n]) :
    ((tabs m).atD 1 off : BitVec 32) = V m 0 main_v28 (fun a => ⟨n, by fin_cases a; exact hn⟩ : S68.Idx) := by
  subst ho
  unfold Pipeline.Prefetch.Contents.atD
  rw [dif_pos (fun a => by fin_cases a; exact hn)]
  refine congrArg (V m 0 main_v28) ?_
  funext a
  apply Fin.ext
  fin_cases a
  rfl

end Cert.KernelIdeal.Hand

end
-- ==== Proof.Frame.lean ====
/-
  Every point's run, in the launch's form, and the program's run from it.
-/
module

public import Idealize.ShloMosaic.Lib.Pipeline.FrameBody
public import proofs.«01_k».proof.Proof.Run
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

variable {m : (ℓ : Loc nD τ sig) → Buf (Elt F) ℓ} (hr : Routed m) (c : Dev nD) (ρ : Dev nD → PrngReg)

theorem off11_eq (i : grid0.Coords) : k0_off11 i = ![(i 0).val] := by
  unfold k0_off11
  exact congrArg (fun n => ![n]) (word_toNat _ (i 0).isLt)

/-- No point leaves the result's window untouched. -/
theorem live (i : grid0.Coords) : (cfg0 (adm hr 0)).idle 6 i = false := by
  show (!(k0_cond3 ((tabs m).atD 1 (k0_off10 i) : BitVec 32) == 1#1) && !(k0_cond4 ((tabs m).atD 1 (k0_off11 i) : BitVec 32) == 1#1)) = false
  rw [atD_ok i _ _ (i 0).isLt (off10_eq i), atD_ok i _ _ (i 0).isLt (off11_eq i), ok_word m 0 (hr 0)]
  rcases okN_or (tl m 0) (i 0).val with h | h
  · have h' : okN (m (0, main_arg0)) (i 0).val = 0#32 := h
    have := (cond3_iff 0#32).2 rfl
    simp only [h', this]; rfl
  · have h' : okN (m (0, main_arg0)) (i 0).val = 1#32 := h
    have := (cond4_iff 1#32).2 rfl
    simp only [h', this]; exact Bool.and_false _

abbrev stg (t : Fin (N0 hr)) (w : Fin 7) := ((cfg0 (adm hr 0)).win w).stage ((cfg0 (adm hr 0)).slots t w)

def bodyAt (t : Fin (N0 hr)) : Prog (TpuEff nD τ sig (Elt F) Λ₀ .tc) PUnit :=
  let s := (cfg0 (adm hr 0)).slots t
  cc0_moe (F := F) (grid0.coords t) (Memref.whole main_v23) (Memref.isWhole_whole _) (Memref.whole main_v28) (Memref.isWhole_whole _) (spec0_0.stage (s 0)) (hstage0_0 ((s 0).cast nbuf0_0)) (spec0_1.stage (s 1)) (hstage0_1 ((s 1).cast nbuf0_1)) (Memref.whole main_arg2) (Memref.isWhole_whole _) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6))
    (Memref.whole cc0_scratch0) (Memref.isWhole_whole _) cc0_scratch1 (Memref.whole cc0_scratch2) (Memref.isWhole_whole _) (Memref.whole cc0_scratch3) (Memref.isWhole_whole _) cc0_scratch4

theorem defs₀_row (t : Fin (N0 hr)) : defs₀ (F := F) .tc (cfg0 (adm hr 0)).body ((cfg0 (adm hr 0)).bodyArgs t ((cfg0 (adm hr 0)).slots t)) = bodyAt hr t := by
  unfold defs₀; rw [Defs.onTc_tc]; rfl

def bodyPre (t : Fin (N0 hr)) : sProp 𝕄 :=
  iprop((dats hr 0 c).Φ t.castSucc ∗ (dats hr 0 c).owesAt () t.castSucc
    ∗ (∃ d, owns (c : Thread nD τ) (stg hr t 0) fullShare ((dats hr 0 c).before 0 t d))
    ∗ (∃ d, owns (c : Thread nD τ) (stg hr t 1) fullShare ((dats hr 0 c).before 1 t d))
    ∗ (∃ d, owns (c : Thread nD τ) (stg hr t 2) fullShare ((dats hr 0 c).before 2 t d))
    ∗ (∃ d, owns (c : Thread nD τ) (stg hr t 3) fullShare ((dats hr 0 c).before 3 t d))
    ∗ (∃ d, owns (c : Thread nD τ) (stg hr t 4) fullShare ((dats hr 0 c).before 4 t d))
    ∗ (∃ d, owns (c : Thread nD τ) (stg hr t 5) fullShare ((dats hr 0 c).before 5 t d))
    ∗ (∃ d, owns (c : Thread nD τ) (stg hr t 6) fullShare ((dats hr 0 c).before 6 t d)))
def bodyPost (t : Fin (N0 hr)) : sProp 𝕄 :=
  iprop((dats hr 0 c).Φ t.succ ∗ (dats hr 0 c).owesAt () t.succ
    ∗ owns (c : Thread nD τ) (stg hr t 0) fullShare (iblk hr c 0 t)
    ∗ owns (c : Thread nD τ) (stg hr t 1) fullShare (iblk hr c 1 t)
    ∗ owns (c : Thread nD τ) (stg hr t 2) fullShare (iblk hr c 2 t)
    ∗ owns (c : Thread nD τ) (stg hr t 3) fullShare (iblk hr c 3 t)
    ∗ owns (c : Thread nD τ) (stg hr t 4) fullShare (iblk hr c 4 t)
    ∗ owns (c : Thread nD τ) (stg hr t 5) fullShare (iblk hr c 5 t)
    ∗ owns (c : Thread nD τ) (stg hr t 6) fullShare ((dats hr 0 c).after 6 t))

set_option pp.maxSteps 900 in
set_option maxHeartbeats 4000000 in
theorem sound_body (t : Fin (N0 hr)) : bodyPre hr c t ⊢ wp frame (wpE (defs₀ (F := F)) Variants.none c none) Set.univ (bodyAt hr t) (fun _ => bodyPost hr c t) := by
  unfold bodyPre bodyPost bodyAt
  rw [show (dats hr 0 c).Φ t.succ = inv m c (t.val + 1) from rfl, show (dats hr 0 c).Φ t.castSucc = inv m c t.val from rfl]
  unfold Pipeline.Dat.owesAt Pipeline.owesWithin
  rw [show (dats hr 0 c).owed t.castSucc = 0 from rfl, show (dats hr 0 c).owed t.succ = 0 from rfl]
  simp only [before_0, before_1, before_2, before_3, before_4, before_5]
  iintro ⟨Hinv, ⟨%W, -, HW⟩, ⟨%d0, H0⟩, ⟨%d1, H1⟩, ⟨%d2, H2⟩, ⟨%d3, H3⟩, ⟨%d4, H4⟩, ⟨%d5, H5⟩, ⟨%d6, H6⟩⟩
  have key := point_run hr c Variants.none t (stg hr t 0) (hstage0_0 (((cfg0 (adm hr 0)).slots t 0).cast nbuf0_0)) (stg hr t 1) (hstage0_1 (((cfg0 (adm hr 0)).slots t 1).cast nbuf0_1))
    (stg hr t 2) (hstage0_2 (((cfg0 (adm hr 0)).slots t 2).cast nbuf0_2)) (stg hr t 3) (hstage0_3 (((cfg0 (adm hr 0)).slots t 3).cast nbuf0_3)) (stg hr t 4) (hstage0_4 (((cfg0 (adm hr 0)).slots t 4).cast nbuf0_4))
    (stg hr t 5) (hstage0_5 (((cfg0 (adm hr 0)).slots t 5).cast nbuf0_5)) (stg hr t 6) (hstage0_6 (((cfg0 (adm hr 0)).slots t 6).cast nbuf0_6))
  ihave Hw := key $$ [Hinv HW H0 H1 H2 H3 H4 H5 H6]
  · isplitl [Hinv]; · iexact Hinv
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    iexists _; iexact H6
  iapply (wp_wand _ _ _) $$ Hw
  iintro %u ⟨Hinv, ⟨%W', HW'⟩, H0, H1, H2, H3, H4, H5, H6⟩
  isplitl [Hinv]; · iexact Hinv
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option pp.maxSteps 900 in
theorem body_obligation : Pipeline.BodyObligation (dats hr 0 c) (defs₀ (F := F)) Variants.none () Set.univ := fun t => by
  rw [bigSep_W0, bigSep_W0]
  refine triple_restated (sound_body hr c t) (by rw [← defs₀_row]) .rfl fun _ => ?_
  unfold bodyPost
  iintro ⟨Hinv, HW, H0, H1, H2, H3, H4, H5, H6⟩
  isplitl [Hinv]; · iexact Hinv
  isplitl [HW]; · iexact HW
  isplitl [H0]; · iexact H0
  isplitl [H1]; · iexact H1
  isplitl [H2]; · iexact H2
  isplitl [H3]; · iexact H3
  isplitl [H4]; · iexact H4
  isplitl [H5]; · iexact H5
  have hl : (Pipeline.pin (pcfgs (F := F)) (adm hr) 0).idle 6 ((Pipeline.pin (pcfgs (F := F)) (adm hr) 0).grid.coords t) = false := live hr _
  dsimp only
  split
  · rename_i h; exact absurd (h.symm.trans hl) (by decide)
  · iexact H6

theorem no_fresh : (hostOps0 : List (HloOp τ sig (Elt F))).Forall fun op => op.fresh = ∅ := by
  unfold hostOps0
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

set_option backward.isDefEq.respectTransparency.types false in
theorem hmain : Pipeline.HMainP (Ix := Unit) (Name := ℕ) (U := Pipeline.UD sig nD τ) (Lvl := ℕ) (pcfgs (F := F)) 0 (defs₀ (F := F)) Variants.none m (main (F := F)) (V m) :=
  Pipeline.hmainP_prefix pcfgs 0 defs₀ Variants.none m main hostOps0 hostOps0_sub no_fresh (fun c => main_chain c)

set_option backward.isDefEq.respectTransparency.types false in
/-- Every run ends; each array holds what the points left, every other buffer what it held, every counter zero. -/
theorem run_main : θ_run defs (onTc (τ := τ) (main (F := F))) (s₀ m ρ)
    (fun r => Pipeline.FramePost (Pipeline.pin (pcfgs (F := F)) (adm hr)) (dats hr) 0 (V m) r ∧ r.2.sem = fun _ => 0) :=
  Pipeline.θ_run_frameP_dma (Q' := _) pcfgs (adm hr) (dats hr) (0 : Fin 1) launch0 osem0 defs₀ Variants.none osem0_facts H0 H0_sub m ρ main
    (hbody := fun c => (body_obligation hr c).loose) (hshare := fun c => (dats hr 0 c).share_full fun _ => rfl)
    (howed := fun _ _ => rfl) (V := V m) (hmain := hmain) (hA := fun _ _ => rfl)
    (hpf := fun c k => by obtain rfl : c = 0 := Subsingleton.elim _ _; fin_cases k <;> rfl)
    (hin := fun c => enter c) (hout := fun c => leave hr c)

theorem V_in0 : V m c main_arg0 = m (c, main_arg0) := by
  unfold V
  after_results
theorem V_in1 : V m c main_arg1 = m (c, main_arg1) := by
  unfold V
  after_results
theorem V_in2 : V m c main_arg2 = m (c, main_arg2) := by
  unfold V
  after_results
theorem V_in3 : V m c main_arg3 = m (c, main_arg3) := by
  unfold V
  after_results
theorem V_in4 : V m c main_arg4 = m (c, main_arg4) := by
  unfold V
  after_results
theorem V_in5 : V m c main_arg5 = m (c, main_arg5) := by
  unfold V
  after_results
theorem V_in6 : V m c main_arg6 = m (c, main_arg6) := by
  unfold V
  after_results

include hr in
/-- The arguments are as they were and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (Pipeline.mem_restRefs_of (win := spec0) main_arg0 (by decide) (by decide))).trans (V_in0 c),
     ((h.1 c).2 main_arg1 (Pipeline.mem_restRefs_of (win := spec0) main_arg1 (by decide) (by decide))).trans (V_in1 c),
     ((h.1 c).2 main_arg2 (Pipeline.mem_restRefs_of (win := spec0) main_arg2 (by decide) (by decide))).trans (V_in2 c),
     ((h.1 c).2 main_arg3 (Pipeline.mem_restRefs_of (win := spec0) main_arg3 (by decide) (by decide))).trans (V_in3 c),
     ((h.1 c).2 main_arg4 (Pipeline.mem_restRefs_of (win := spec0) main_arg4 (by decide) (by decide))).trans (V_in4 c),
     ((h.1 c).2 main_arg5 (Pipeline.mem_restRefs_of (win := spec0) main_arg5 (by decide) (by decide))).trans (V_in5 c),
     ((h.1 c).2 main_arg6 (Pipeline.mem_restRefs_of (win := spec0) main_arg6 (by decide) (by decide))).trans (V_in6 c)⟩, h.2⟩) (run_main hr ρ)

end Cert.KernelIdeal.Hand

end
-- ==== Proof.Ranged.lean ====
/-
  The precondition read as ranges.
-/
module

public import proofs.«01_k».proof.Proof.Gen.Pre_routed
public import proofs.«01_k».proof.Proof.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4)

variable {F : FTy → Type} [FloatOps F]

local notation "𝕄" => MT nD τ sig Unit (Elt F) ℕ (Pipeline.UD sig nD τ) ℕ

variable {t : IVec S4 32} {s : IVec S34816 32} {x : FVec F S32768x1152 .f32} {g : FVec F S1x1024 .f32} {a b : FVec F S1x32x1024x256 .f32} {d : FVec F S1x32x256x1024 .f32}

theorem between (v : BitVec 32) (k : ℕ) (hk : k < 2147483648) (h : IntOp.andi (IntOp.cmpi .sge v 0#32) (IntOp.cmpi .slt v (BitVec.ofNat 32 k)) = 1#1) : v.toNat < k := by
  have e : ∀ p q : Bool, IntOp.andi (BitVec.ofBool p) (BitVec.ofBool q) = 1#1 → p = true ∧ q = true := by decide
  obtain ⟨h1, h2⟩ := e _ _ h
  simp only [BitVec.sle, BitVec.slt, decide_eq_true_eq, BitVec.toInt, BitVec.toNat_ofNat] at h1 h2
  have := v.isLt
  omega

/-- The precondition's two predicates, read as ranges of the words. -/
theorem ranges_of (h1 : (Cert.Pre_routed.fn t s x g a b d).1 = fun _ => 1#1) (h2 : (Cert.Pre_routed.fn t s x g a b d).2 = fun _ => 1#1) : Ranges t s where
  tile k := between (t k) 68 (by decide) (congrFun h2 k)
  row k := between (s k) 32768 (by decide) (congrFun h1 k)

end Cert.KernelIdeal.Hand

end
-- ==== Proof.Same.lean ====
/-
  The program as compiled and the program over the extended reals are the same text, so at any float values they run alike.
-/
module

public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

set_option maxHeartbeats 20000000 in
theorem moe_same : Kernel.cc0_moe (F := F) = KernelIdeal.cc0_moe (F := F) := rfl

set_option maxHeartbeats 20000000 in
theorem defs₀_same : Kernel.defs₀ (F := F) = KernelIdeal.defs₀ (F := F) :=
  congrArg Defs.onTc (funext fun l => funext fun a => by
    obtain ⟨l, hl⟩ := l
    obtain rfl : l = 0 := by omega
    obtain ⟨t, s⟩ := a
    rfl)

set_option maxHeartbeats 20000000 in
theorem defs_same : Kernel.defs (F := F) = KernelIdeal.defs (F := F) :=
  congrArg (Pipeline.defs (KernelIdeal.pcfgs (F := F))) defs₀_same

set_option maxHeartbeats 40000000 in
theorem main_same : Kernel.main (F := F) = KernelIdeal.main (F := F) := rfl

set_option maxHeartbeats 20000000 in
theorem run_same : (fun s => θ_run (Kernel.defs (F := F)) (onTc (Kernel.main (F := F))) s) =
    (fun s => θ_run (KernelIdeal.defs (F := F)) (onTc (KernelIdeal.main (F := F))) s) :=
  congrArg₂ (fun D M s => θ_run D (onTc M) s) defs_same main_same

set_option maxHeartbeats 20000000 in
/-- A statement about one program's run is a statement about the other's. -/
theorem run_of {s : MemSt KernelIdeal.nD KernelIdeal.τ KernelIdeal.sig (Elt F)} {Q : PUnit × MemSt KernelIdeal.nD KernelIdeal.τ KernelIdeal.sig (Elt F) → Prop}
    (h : θ_run (KernelIdeal.defs (F := F)) (onTc (KernelIdeal.main (F := F))) s Q) : θ_run (Kernel.defs (F := F)) (onTc (Kernel.main (F := F))) s Q :=
  (congrArg (fun w => w s Q) run_same).mpr h

end Cert.Proof

end
-- ==== Proof.Moe.lean ====
/-
  The layer's value at an element, over the extended reals.
-/
module

public import proofs.«01_k».proof.Proof.Norm
public import proofs.«01_k».proof.Proof.Tab
public import Idealize.ShloMosaic.Lib.Pointwise

@[expose] public section

noncomputable section

namespace Cert.Moe

open Idealize.ShloMosaic Cert.KernelIdeal.Hand

/-- One expert's share of an element: its gated products, weighed, through the last product. -/
def one (T : Fin 1024 → EReal) (A B : Fin 1024 → Fin 256 → EReal) (w : EReal) (D : Fin 256 → EReal) : EReal :=
  ∑ f, ((∑ k, T k * A k f) * Ideal.logistic (∑ k, T k * A k f) * ∑ k, T k * B k f) * w * D f

theorem one_zero (T : Fin 1024 → EReal) (A B : Fin 1024 → Fin 256 → EReal) (D : Fin 256 → EReal) : one T A B 0 D = 0 := by
  unfold one
  simp only [mul_zero, zero_mul, Finset.sum_const_zero]

/-- Expert `e` of group `g`, among all experts. -/
def ex (g : Fin 4) (e : Fin 8) : Fin 32 := ⟨8 * g.val + e.val, by omega⟩
/-- The column of a row that weighs expert `e`. -/
def wc (e : Fin 32) : Fin 1152 := ⟨1028 + e.val, by omega⟩
/-- A feature's column. -/
def fc (k : Fin 1024) : Fin 1152 := ⟨k.val, by omega⟩

/-- The group of tile `n`. -/
def grpF (t : IVec Cert.KernelIdeal.S4 32) (n : ℕ) : Fin 4 := ⟨grpN t n, by have := grpN_le t n; omega⟩

/-- The token of a row. -/
def rowOf (s : IVec Cert.KernelIdeal.S34816 32) (i : Fin 34816) : Fin 32768 := ⟨(s (ix1 i)).toNat % 32768, Nat.mod_lt _ (by decide)⟩

section

variable (s : IVec Cert.KernelIdeal.S34816 32) (x : FVec Ideal Cert.KernelIdeal.S32768x1152 .f32) (g : FVec Ideal Cert.KernelIdeal.S1x1024 .f32)
  (A B : FVec Ideal Cert.KernelIdeal.S1x32x1024x256 .f32) (D : FVec Ideal Cert.KernelIdeal.S1x32x256x1024 .f32)

/-- Expert `e`'s share of row `i`'s column `j`, weighed by `w`. -/
def part (w : EReal) (i : Fin 34816) (j : Fin 1024) (e : Fin 32) : EReal :=
  one (nrm (fun k => x (ix2 (rowOf s i) (fc k))) (fun k => g (ix2 0 k)))
    (fun k f => A (ix4 0 e k f)) (fun k f => B (ix4 0 e k f)) w (fun f => D (ix4 0 e f j))

/-- The layer's value: row `i`, column `j`, of a held row; nothing elsewhere. -/
def moe (t : IVec Cert.KernelIdeal.S4 32) (i : Fin 34816) (j : Fin 1024) : EReal :=
  if i.val / 512 < (t (at4 3)).toNat then ∑ e : Fin 8, part s x g A B D (x (ix2 (rowOf s i) (wc (ex (grpF t (i.val / 512)) e)))) i j (ex (grpF t (i.val / 512)) e) else 0

end

end Cert.Moe
end
-- ==== Proof.Val.lean ====
/-
  The tile's value over the extended reals.
-/
module

public import proofs.«01_k».proof.Proof.Out
public import proofs.«01_k».proof.Proof.Moe
public import Idealize.ShloMosaic.Lib.Pointwise

@[expose] public section

set_option maxRecDepth 16384

noncomputable section

namespace Cert.KernelIdeal.Hand

open Idealize.ShloMosaic Idealize.ShloMosaic.Pointwise Cert.KernelIdeal Cert.KernelIdeal.Gen Cert.Moe
set_option maxHeartbeats 1000000

/-- Expert `e`'s lane of a row's routing stretch, in group `g`. -/
def lane (g : Fin 4) (e : Fin 8) : Fin 128 := ⟨4 + (8 * g.val + e.val), by omega⟩

/-- Masking all lanes but one and summing reads that lane. -/
theorem lane_sum (C : Vec Ideal S512x128 .f32) (i : Fin 512) (w : BitVec 32) (L : Fin 128) (hw : w = BitVec.ofNat 32 L.val) :
    (∑ x : Fin 128, Scalar.select (IntOp.cmpi .eq (BitVec.ofNat 32 x.val) w) (C (ix2 i x)) 0 : EReal) = C (ix2 i L) := by
  have he : ∀ a b : Fin 128, (IntOp.cmpi .eq (BitVec.ofNat 32 a.val) (BitVec.ofNat 32 b.val) = 1#1) ↔ a = b := by decide +kernel
  subst hw
  rw [Finset.sum_eq_single L]
  · exact if_pos ((he L L).2 rfl)
  · intro x _ hx
    exact if_neg fun h => hx ((he x L).1 h)
  · exact fun h => absurd (Finset.mem_univ _) h

theorem lane_word : ∀ (g : Fin 4) (e : Fin 8), Scalar.addi (Scalar.addi (Scalar.addi 4#32 (Scalar.muli (BitVec.ofNat 32 g.val) 8#32)) (BitVec.ofNat 32 e.val)) 0#32
    = BitVec.ofNat 32 (lane g e).val := by decide +kernel

theorem tile_apply (g : Fin 4) (X : Vec Ideal S512x1024 .bf16) (C : Vec Ideal S512x128 .f32) (a b : Fin 8 → Vec Ideal S1x1x1024x256 .bf16)
    (d : Fin 8 → Vec Ideal S1x1x256x1024 .bf16) (i : Fin 512) (j : Fin 1024) : tileVal (BitVec.ofNat 32 g.val) X C a b d (ix2 i j)
      = ∑ e : Fin 8, one (fun k => X (ix2 i k)) (fun k f => a e (ix4 0 0 k f)) (fun k f => b e (ix4 0 0 k f)) (C (ix2 i (lane g e))) (fun f => d e (ix4 0 0 f j)) := by
  unfold tileVal acc8 acc7 acc6 acc5 acc4 acc3 acc2
  unfold_payloads
  pointwise []
  rw [Fin.sum_univ_eight, ← lane_sum C i _ _ (lane_word g 0), ← lane_sum C i _ _ (lane_word g 1), ← lane_sum C i _ _ (lane_word g 2), ← lane_sum C i _ _ (lane_word g 3),
    ← lane_sum C i _ _ (lane_word g 4), ← lane_sum C i _ _ (lane_word g 5), ← lane_sum C i _ _ (lane_word g 6), ← lane_sum C i _ _ (lane_word g 7)]
  rfl

theorem pay3_apply (T : Vec Ideal S1x512x1024 .f32) (g : Vec Ideal S1x1024 .f32) (i : Fin 512) (j : Fin 1024) :
    k0_pay3 T g (ix2 i j) = nrm (fun k => T (ix3 0 i k)) (fun k => g (ix2 0 k)) j := by
  unfold nrm
  unfold_payloads
  pointwise []

theorem pay4_apply (T : Vec Ideal S1x512x128 .f32) (i : Fin 512) (j : Fin 128) : k0_pay4 T (ix2 i j) = T (ix3 0 i j) := by
  unfold_payloads
  pointwise []

theorem rectA (e : Fin 8) (k : Fin 1024) (f : Fin 256) :
    (Rect.unit (s := S1x8x1024x256) ![0, e.val, 0, 0] S1x1x1024x256.size (inbA e)).toLoadRect.idx (ix4 0 0 k f : S1x1x1024x256.Idx) = (ix4 0 e k f : S1x8x1024x256.Idx) := by
  funext a
  apply Fin.ext
  fin_cases a
  · rfl
  · show e.val + 1 * 0 = e.val; omega
  · show 0 + 1 * k.val = k.val; omega
  · show 0 + 1 * f.val = f.val; omega

theorem rectB (e : Fin 8) (f : Fin 256) (k : Fin 1024) :
    (Rect.unit (s := S1x8x256x1024) ![0, e.val, 0, 0] S1x1x256x1024.size (inbB e)).toLoadRect.idx (ix4 0 0 f k : S1x1x256x1024.Idx) = (ix4 0 e f k : S1x8x256x1024.Idx) := by
  funext a
  apply Fin.ext
  fin_cases a
  · rfl
  · show e.val + 1 * 0 = e.val; omega
  · show 0 + 1 * f.val = f.val; omega
  · show 0 + 1 * k.val = k.val; omega

theorem rectG (k : Fin 1024) : (Rect.unit (s := S1x1024) ![0, 0] S1x1024.size inb_S1x1024_S1x1024_0_0).toLoadRect.idx (ix2 0 k : S1x1024.Idx) = (ix2 0 k : S1x1024.Idx) := by
  funext a
  apply Fin.ext
  fin_cases a
  · rfl
  · show 0 + 1 * k.val = k.val; omega

/-- The tile a point computes, at an element. -/
theorem tileIn_apply (g : Fin 4) (T : Vec Ideal S1x512x1024 .f32) (R : Vec Ideal S1x512x128 .f32) (G : S1x1024.Idx → Elt Ideal .f32)
    (A B : S1x8x1024x256.Idx → Elt Ideal .bf16) (D : S1x8x256x1024.Idx → Elt Ideal .bf16) (i : Fin 512) (j : Fin 1024) :
    tileIn (BitVec.ofNat 32 g.val) T R G A B D (ix2 i j)
      = ∑ e : Fin 8, one (nrm (fun k => T (ix3 0 i k)) (fun k => G (ix2 0 k))) (fun k f => A (ix4 0 e k f)) (fun k f => B (ix4 0 e k f)) (R (ix3 0 i (lane g e))) (fun f => D (ix4 0 e f j)) := by
  unfold tileIn
  rw [tile_apply]
  refine Finset.sum_congr rfl fun e _ => ?_
  simp only [pay3_apply, pay4_apply]
  refine congr (congrFun (congr (congr (congrArg one (funext fun k => ?_)) (funext fun k => funext fun f => congrArg A (rectA e k f)))
    (funext fun k => funext fun f => congrArg B (rectA e k f))) _) (funext fun f => congrArg D (rectB e f j))
  exact congrArg (fun q => nrm (fun k => T (ix3 0 i k)) q k) (funext fun k => congrArg G (rectG k))

variable (c : Dev nD) (i : grid0.Coords) (x : XtBuf (F := Ideal) c) (w : Fin 512 → Fin 32768)

/-- A landed row's features. -/
theorem ldT_apply (r : Fin 512) (k : Fin 1024) : ldT c i (landed x w) (ix3 0 r k) = (x : S32768x1152.Idx → EReal) (ix2 (w r) (fc k)) := by
  rw [ix2_eq_valueIdx]
  refine congrArg (x : S32768x1152.Idx → EReal) (congrArg₂ (ValueIdx.ix2 (n0 := 32768) (n1 := 1152)) (congrArg w (Fin.ext ?_)) (Fin.ext ?_))
  · show k0_off12 i 1 + 1 * r.val = r.val
    rw [off12_eq]; show 0 + 1 * r.val = r.val; omega
  · show k0_off12 i 2 + 1 * k.val = k.val
    rw [off12_eq]; show 0 + 1 * k.val = k.val; omega

/-- A landed row's routing stretch. -/
theorem ldR_apply (r : Fin 512) (g : Fin 4) (e : Fin 8) : ldR c i (landed x w) (ix3 0 r (lane g e)) = (x : S32768x1152.Idx → EReal) (ix2 (w r) (wc (ex g e))) := by
  rw [ix2_eq_valueIdx]
  refine congrArg (x : S32768x1152.Idx → EReal) (congrArg₂ (ValueIdx.ix2 (n0 := 32768) (n1 := 1152)) (congrArg w (Fin.ext ?_)) (Fin.ext ?_))
  · show k0_off13 i 1 + 1 * r.val = r.val
    rw [off13_eq]; show 0 + 1 * r.val = r.val; omega
  · show k0_off13 i 2 + 1 * (4 + (8 * g.val + e.val)) = 1028 + (8 * g.val + e.val)
    rw [off13_eq]; show 1024 + 1 * (4 + (8 * g.val + e.val)) = 1028 + (8 * g.val + e.val); omega

end Cert.KernelIdeal.Hand
end
-- ==== Proof.Layer.lean ====
/-
  The result array over the extended reals: the layer's value.
-/
module

public import proofs.«01_k».proof.Proof.Frame
public import proofs.«01_k».proof.Proof.Val
public import Idealize.ShloMosaic.Lib.Pipeline.Value

@[expose] public section

set_option maxRecDepth 16384

noncomputable section

namespace Cert.KernelIdeal.Hand

open Idealize.ShloMosaic Idealize.ShloMosaic.Pointwise Idealize.ShloMosaic.Tactic Idealize.ShloMosaic.TcCoe Cert.KernelIdeal Cert.KernelIdeal.Gen Cert.Moe
open Idealize.SL.Sem

variable {m : (ℓ : Loc nD τ sig) → Buf (Elt Ideal) ℓ} (hr : Routed m) (c : Dev nD)

/-! ## The arrays the region reads, element by element -/

theorem V_scale (k : Fin 1024) : (V m c main_v32 : S1x1024.Idx → EReal) (ix2 0 k) = (m (c, main_arg3) : S1x1024.Idx → EReal) (ix2 0 k) := by
  have e : V m c main_v32 = broadcastInDim S1x1024 ![1] bcast_S1024_S1x1024_1 (shapeCast S1024 (m (c, main_arg3)) shapeCasts_S1x1024_S1024) := by
    unfold V
    after_results
    rfl
  rw [e]
  pointwise []

/-- A stack of expert matrices, rounded and cut in groups. -/
theorem group_up (A : FVec Ideal S1x32x1024x256 .f32) (g : Fin 4) (e : Fin 8) (k : Fin 1024) (f : Fin 256) :
    (shapeCast S4x8x1024x256 (truncf .bf16 (shapeCast S32x1024x256 A shapeCasts_S1x32x1024x256_S32x1024x256) bitsLt_bf16_f32 : FVec Ideal S32x1024x256 .bf16) shapeCasts_S32x1024x256_S4x8x1024x256 : FVec Ideal S4x8x1024x256 .bf16) (ix4 g e k f)
      = A (ix4 0 (ex g e) k f) := by
  have h : g.val * 8 + e.val = 8 * g.val + e.val := by omega
  unfold ex
  pointwise []
  simp only [h]

theorem group_down (A : FVec Ideal S1x32x256x1024 .f32) (g : Fin 4) (e : Fin 8) (f : Fin 256) (k : Fin 1024) :
    (shapeCast S4x8x256x1024 (truncf .bf16 (shapeCast S32x256x1024 A shapeCasts_S1x32x256x1024_S32x256x1024) bitsLt_bf16_f32 : FVec Ideal S32x256x1024 .bf16) shapeCasts_S32x256x1024_S4x8x256x1024 : FVec Ideal S4x8x256x1024 .bf16) (ix4 g e f k)
      = A (ix4 0 (ex g e) f k) := by
  have h : g.val * 8 + e.val = 8 * g.val + e.val := by omega
  unfold ex
  pointwise []
  simp only [h]

theorem V_gate (g : Fin 4) (e : Fin 8) (k : Fin 1024) (f : Fin 256) :
    (V m c main_v35 : S4x8x1024x256.Idx → EReal) (ix4 g e k f) = (m (c, main_arg4) : S1x32x1024x256.Idx → EReal) (ix4 0 (ex g e) k f) := by
  have h : V m c main_v35 = (shapeCast S4x8x1024x256 (truncf .bf16 (shapeCast S32x1024x256 (m (c, main_arg4) : FVec Ideal S1x32x1024x256 .f32) shapeCasts_S1x32x1024x256_S32x1024x256) bitsLt_bf16_f32 : FVec Ideal S32x1024x256 .bf16) shapeCasts_S32x1024x256_S4x8x1024x256 : FVec Ideal S4x8x1024x256 .bf16) := by
    unfold V
    after_results
    rfl
  rw [h]
  exact group_up _ g e k f

theorem V_up (g : Fin 4) (e : Fin 8) (k : Fin 1024) (f : Fin 256) :
    (V m c main_v38 : S4x8x1024x256.Idx → EReal) (ix4 g e k f) = (m (c, main_arg5) : S1x32x1024x256.Idx → EReal) (ix4 0 (ex g e) k f) := by
  have h : V m c main_v38 = (shapeCast S4x8x1024x256 (truncf .bf16 (shapeCast S32x1024x256 (m (c, main_arg5) : FVec Ideal S1x32x1024x256 .f32) shapeCasts_S1x32x1024x256_S32x1024x256) bitsLt_bf16_f32 : FVec Ideal S32x1024x256 .bf16) shapeCasts_S32x1024x256_S4x8x1024x256 : FVec Ideal S4x8x1024x256 .bf16) := by
    unfold V
    after_results
    rfl
  rw [h]
  exact group_up _ g e k f

theorem V_down (g : Fin 4) (e : Fin 8) (f : Fin 256) (k : Fin 1024) :
    (V m c main_v41 : S4x8x256x1024.Idx → EReal) (ix4 g e f k) = (m (c, main_arg6) : S1x32x256x1024.Idx → EReal) (ix4 0 (ex g e) f k) := by
  have h : V m c main_v41 = (shapeCast S4x8x256x1024 (truncf .bf16 (shapeCast S32x256x1024 (m (c, main_arg6) : FVec Ideal S1x32x256x1024 .f32) shapeCasts_S1x32x256x1024_S32x256x1024) bitsLt_bf16_f32 : FVec Ideal S32x256x1024 .bf16) shapeCasts_S32x256x1024_S4x8x256x1024 : FVec Ideal S4x8x256x1024 .bf16) := by
    unfold V
    after_results
    rfl
  rw [h]
  exact group_down _ g e f k

/-! ## A point's blocks -/

variable (t : Fin (cfg0 (F := Ideal) (adm hr 0)).N)

/-- The group of point `t`. -/
abbrev grpAt : Fin 4 := grpF (tl m c) t.val

theorem blk2_apply (k : Fin 1024) : (iblk hr c 2 t (ix2 0 k : S1x1024.Idx) : EReal) = (m (c, main_arg3) : S1x1024.Idx → EReal) (ix2 0 k) := by
  refine Eq.trans (congrArg (V m c main_v32) ?_) (V_scale c k)
  funext a
  apply Fin.ext
  fin_cases a
  · rfl
  · show 0 * 1024 + 1 * k.val = k.val; omega

theorem tr_at (i : Fin 68) : ((grpF (tl m c) i.val).val = grpN (tl m 0) (grid0.coords i 0).val) := by
  obtain rfl : c = 0 := Subsingleton.elim _ _
  rw [coords_val]; rfl

theorem blk3_apply (e : Fin 8) (k : Fin 1024) (f : Fin 256) :
    (iblk hr c 3 t (ix4 0 e k f : S1x8x1024x256.Idx) : EReal) = (m (c, main_arg4) : S1x32x1024x256.Idx → EReal) (ix4 0 (ex (grpAt hr c t) e) k f) := by
  refine Eq.trans (congrArg (V m c main_v35) ?_) (V_gate c (grpAt hr c t) e k f)
  funext a
  apply Fin.ext
  fin_cases a
  · show cc0_transform_4 k0_off1_inb numel1_S1 (tabs m) (grid0.coords t) 0 * 1 + 1 * 0 = (grpAt hr c t).val
    rw [tr4 hr, show (grpAt hr c t).val = _ from tr_at c t]
    show grpN (tl m 0) (grid0.coords t 0).val * 1 + 1 * 0 = _
    omega
  · show 0 * 8 + 1 * e.val = e.val; omega
  · show 0 * 1024 + 1 * k.val = k.val; omega
  · show 0 * 256 + 1 * f.val = f.val; omega

theorem blk4_apply (e : Fin 8) (k : Fin 1024) (f : Fin 256) :
    (iblk hr c 4 t (ix4 0 e k f : S1x8x1024x256.Idx) : EReal) = (m (c, main_arg5) : S1x32x1024x256.Idx → EReal) (ix4 0 (ex (grpAt hr c t) e) k f) := by
  refine Eq.trans (congrArg (V m c main_v38) ?_) (V_up c (grpAt hr c t) e k f)
  funext a
  apply Fin.ext
  fin_cases a
  · show cc0_transform_5 k0_off1_inb numel1_S1 (tabs m) (grid0.coords t) 0 * 1 + 1 * 0 = (grpAt hr c t).val
    rw [tr5 hr, show (grpAt hr c t).val = _ from tr_at c t]
    show grpN (tl m 0) (grid0.coords t 0).val * 1 + 1 * 0 = _
    omega
  · show 0 * 8 + 1 * e.val = e.val; omega
  · show 0 * 1024 + 1 * k.val = k.val; omega
  · show 0 * 256 + 1 * f.val = f.val; omega

theorem blk5_apply (e : Fin 8) (f : Fin 256) (k : Fin 1024) :
    (iblk hr c 5 t (ix4 0 e f k : S1x8x256x1024.Idx) : EReal) = (m (c, main_arg6) : S1x32x256x1024.Idx → EReal) (ix4 0 (ex (grpAt hr c t) e) f k) := by
  refine Eq.trans (congrArg (V m c main_v41) ?_) (V_down c (grpAt hr c t) e f k)
  funext a
  apply Fin.ext
  fin_cases a
  · show cc0_transform_6 k0_off1_inb numel1_S1 (tabs m) (grid0.coords t) 0 * 1 + 1 * 0 = (grpAt hr c t).val
    rw [tr6 hr, show (grpAt hr c t).val = _ from tr_at c t]
    show grpN (tl m 0) (grid0.coords t 0).val * 1 + 1 * 0 = _
    omega
  · show 0 * 8 + 1 * e.val = e.val; omega
  · show 0 * 256 + 1 * f.val = f.val; omega
  · show 0 * 1024 + 1 * k.val = k.val; omega

/-! ## What a point leaves -/

theorem rowsN_eq (s : IVec S34816 32) (n : ℕ) (r : Fin 512) (I : Fin 34816) (hI : I.val = 512 * n + r.val) : rowsN s n r = rowOf s I := by
  apply Fin.ext
  show (s _).toNat % 32768 = (s _).toNat % 32768
  refine congrArg (fun y => (s y).toNat % 32768) ?_
  funext a
  apply Fin.ext
  fin_cases a
  show (512 * n + r.val) % 34816 = I.val
  have := I.isLt
  omega

/-- The layer's value, of the arguments. -/
abbrev layer (m : (ℓ : Loc nD τ sig) → Buf (Elt Ideal) ℓ) (c : Dev nD) (i : Fin 34816) (j : Fin 1024) : EReal :=
  moe (m (c, main_arg1)) (m (c, main_arg2)) (m (c, main_arg3)) (m (c, main_arg4)) (m (c, main_arg5)) (m (c, main_arg6)) (m (c, main_arg0)) i j

theorem tileN_apply (i : Fin 512) (j : Fin 1024) (I : Fin 34816) (hI : I.val = 512 * t.val + i.val) (ok : t.val < ((tl m c) (at4 3)).toNat) :
    tileN hr c t (ix2 i j) = layer m c I j := by
  have hn : I.val / 512 = t.val := by have := i.isLt; omega
  unfold layer moe
  rw [hn, if_pos ok]
  refine (tileIn_apply (grpAt hr c t) _ _ _ _ _ _ i j).trans ?_
  refine Finset.sum_congr rfl fun e _ => ?_
  unfold part
  have hx : (xt m c : S32768x1152.Idx → EReal) = m (c, main_arg2) := V_arg2 m c
  refine congr (congr (congr (congr (congrArg one ?_) ?_) ?_) ?_) ?_
  · refine congr (congrArg nrm (funext fun k => ?_)) (funext fun k => blk2_apply hr c t k)
    refine (ldT_apply c _ _ _ i k).trans ?_
    rw [hx, rowsN_eq _ _ _ I hI]
  · exact funext fun k => funext fun f => blk3_apply hr c t e k f
  · exact funext fun k => funext fun f => blk4_apply hr c t e k f
  · refine (ldR_apply c _ _ _ i _ e).trans ?_
    rw [hx, rowsN_eq _ _ _ I hI]
  · exact funext fun f => blk5_apply hr c t e f j

/-- The result array's contents. -/
def res (m : (ℓ : Loc nD τ sig) → Buf (Elt Ideal) ℓ) (c : Dev nD) : S278528x128.Idx → EReal := fun y =>
  layer m c ⟨(y 0).val / 8, by have : (y 0).val < 278528 := (y 0).isLt; omega⟩ ⟨(y 0).val % 8 * 128 + (y 1).val, by have : (y 1).val < 128 := (y 1).isLt; omega⟩

theorem out_apply (r : Fin 4096) (l : Fin 128) (R : Fin 278528) (hR : R.val = 4096 * t.val + r.val) :
    outBlk (okN (tl m c) t.val) (tileN hr c t) (ix2 r l) = res m c (ix2 R l) := by
  unfold outBlk okN
  by_cases ok : t.val < ((tl m c) (at4 3)).toNat
  · rw [if_pos ok, if_pos rfl]
    refine Eq.trans ?_ ((tileN_apply hr c t ⟨r.val / 8, by omega⟩ ⟨r.val % 8 * 128 + l.val, by omega⟩ ⟨R.val / 8, by omega⟩ (by show R.val / 8 = 512 * t.val + r.val / 8; omega) ok).trans ?_)
    · rw [ix2_eq_valueIdx (n0 := 512)]
      refine congrArg (tileN hr c t) (congrArg (ValueIdx.ix2 (n0 := 512) (n1 := 1024) _) (Fin.ext ?_))
      show 128 * (r.val % 8) + l.val = r.val % 8 * 128 + l.val
      omega
    · refine congrArg (layer m c _) (Fin.ext ?_)
      show r.val % 8 * 128 + l.val = R.val % 8 * 128 + l.val
      omega
  · rw [if_neg ok, if_neg (by decide)]
    unfold res layer moe
    rw [if_neg]
    · exact Ideal.ofBits_zero_f32
    · show ¬ R.val / 8 / 512 < _
      have : R.val / 8 / 512 = t.val := by omega
      rw [this]; exact ok

/-! ## The result array -/

theorem flush6 : ∀ i : Fin grid0.N, Pipeline.Window.flushOf grid0 true cc0_transform_7 i = true := by decide +kernel

theorem tr7_val : ∀ i : Fin 68, cc0_transform_7 (grid0.coords i) 0 = i.val := by decide +kernel

theorem emb6 (r : Fin 4096) (l : Fin 128) (R : Fin 278528) (hR : R.val = 4096 * t.val + r.val) :
    (((cfg0 (F := Ideal) (adm hr 0)).win 6).blk t).view.emb (ix2 r l : S4096x128.Idx) = (ix2 R l : S278528x128.Idx) := by
  funext a
  apply Fin.ext
  fin_cases a
  · show cc0_transform_7 (grid0.coords t) 0 * 4096 + 1 * r.val = R.val
    have := tr7_val t; omega
  · show 0 * 128 + 1 * l.val = l.val
    omega

theorem idx2 (y : S4096x128.Idx) : ∃ r l, y = ix2 r l := ⟨y 0, y 1, by funext a; fin_cases a <;> rfl⟩

theorem flushed_eq : (dats hr 0 c).flushed 6 t = (((cfg0 (F := Ideal) (adm hr 0)).win 6).blk t).view.read (Elt Ideal) (res m c) := by
  funext y
  obtain ⟨r, l, rfl⟩ := idx2 y
  have ht : t.val < 68 := t.isLt
  have hR : 4096 * t.val + r.val < 278528 := by omega
  refine (out_apply hr c t r l ⟨_, hR⟩ rfl).trans ?_
  exact congrArg (res m c) (emb6 hr t r l ⟨_, hR⟩ rfl).symm

theorem cover6 (y : S278528x128.Idx) : ∃ t : Fin (cfg0 (F := Ideal) (adm hr 0)).N, ((cfg0 (F := Ideal) (adm hr 0)).win 6).flush t = true
    ∧ y ∈ (((cfg0 (F := Ideal) (adm hr 0)).win 6).blk t).view.set := by
  have h0 : (y 0).val < 278528 := (y 0).isLt
  have hn : (y 0).val / 4096 < 68 := by omega
  refine ⟨⟨(y 0).val / 4096, hn⟩, flush6 ⟨_, hn⟩, ?_⟩
  have hy : (ix2 (y 0) (y 1) : S278528x128.Idx) = y := by funext a; fin_cases a <;> rfl
  have e := emb6 hr (⟨(y 0).val / 4096, hn⟩ : Fin 68) ⟨(y 0).val % 4096, by omega⟩ (y 1) (y 0) (by show (y 0).val = 4096 * ((y 0).val / 4096) + (y 0).val % 4096; omega)
  exact Finset.mem_map.2 ⟨_, Finset.mem_univ _, e.trans hy⟩

theorem final_out : (dats hr 0 c).arrAt 6 (cfg0 (F := Ideal) (adm hr 0)).N = res m c :=
  (dats hr 0 c).arrAt_eq_of_cover 6 (res m c) (fun t _ => flushed_eq hr c t) (cover6 hr)

include hr in
/-- The result is the layer's value and the arguments are as they were. -/
theorem value_main (ρ : Dev nD → PrngReg) : θ_run defs (onTc (τ := τ) (main (F := Ideal))) ⟨m, fun _ => 0, ρ⟩ (fun r => ∀ c : Dev nD,
      r.2.mem ((c.tc : Thread nD τ).loc main_v42) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h.1 c).1 6).trans (final_out hr c),
     ((h.1 c).2 main_arg0 (Pipeline.mem_restRefs_of (win := spec0) main_arg0 (by decide) (by decide))).trans (V_in0 c),
     ((h.1 c).2 main_arg1 (Pipeline.mem_restRefs_of (win := spec0) main_arg1 (by decide) (by decide))).trans (V_in1 c),
     ((h.1 c).2 main_arg2 (Pipeline.mem_restRefs_of (win := spec0) main_arg2 (by decide) (by decide))).trans (V_in2 c),
     ((h.1 c).2 main_arg3 (Pipeline.mem_restRefs_of (win := spec0) main_arg3 (by decide) (by decide))).trans (V_in3 c),
     ((h.1 c).2 main_arg4 (Pipeline.mem_restRefs_of (win := spec0) main_arg4 (by decide) (by decide))).trans (V_in4 c),
     ((h.1 c).2 main_arg5 (Pipeline.mem_restRefs_of (win := spec0) main_arg5 (by decide) (by decide))).trans (V_in5 c),
     ((h.1 c).2 main_arg6 (Pipeline.mem_restRefs_of (win := spec0) main_arg6 (by decide) (by decide))).trans (V_in6 c)⟩) (run_main hr ρ)

end Cert.KernelIdeal.Hand

end
-- ==== Proof.RefVal.lean ====
/-
  The reference's result read at an element, over the extended reals.
-/
module

public import proofs.«01_k».proof.Proof.Gen.ReferenceIdeal
public import proofs.«01_k».proof.Proof.Gen.ReferenceIdeal.Run
public import proofs.«01_k».proof.Proof.Moe
public import Idealize.ShloMosaic.Lib.Routing.Ops
public import Idealize.ShloMosaic.Lib.Pointwise

@[expose] public section

set_option maxRecDepth 16384

noncomputable section

namespace Cert.ReferenceIdeal.Hand

open Idealize.ShloMosaic Idealize.ShloMosaic.Pointwise Cert.ReferenceIdeal Cert.ReferenceIdeal.Gen Cert.Moe
open Cert.KernelIdeal.Hand (at4 grpN grpN_le bool_word)
set_option maxHeartbeats 4000000

/-- The rows taken by `src`. -/
def taken (x : FVec Ideal S32768x1152 .f32) (s : IVec S34816 32) : FVec Ideal S34816x1152 .f32 :=
  Host.gather gather_S32768x1152_S34816x1_S34816x1152_1_0_n_n_0_1_11152 x (broadcastInDim S34816x1 ![0] bcast_S34816_S34816x1_0 s)

/-- The features of the taken rows. -/
def feat (R : FVec Ideal S34816x1152 .f32) : FVec Ideal S34816x1024 .f32 := extractStridedSlice S34816x1024 ![0, 0] R slices_S34816x1152_S34816x1024_0_0

/-- The normalised rows. -/
def normed (R : FVec Ideal S34816x1152 .f32) (g : FVec Ideal S1x1024 .f32) : FVec Ideal S34816x1024 .f32 :=
  mulf (mulf (feat R) (broadcastInDim S34816x1024 ![0, 1] bcast_S34816x1_S34816x1024_0_1 (Host.rsqrt (addf (Host.divf (broadcastInDim S34816x1 ![0] bcast_S34816_S34816x1_0 (Host.reduceAdd (mulf (feat R) (feat R)) (constant S_ .f32 0x00000000#32) reducesTo_S34816x1024_S34816_d1 h_S_)) (broadcastInDim S34816x1 ![] bcast_S_S34816x1 (constant S_ .f32 0x44800000#32))) (broadcastInDim S34816x1 ![] bcast_S_S34816x1 (constant S_ .f32 0x358637BD#32)))))) (broadcastInDim S34816x1024 ![0, 1] bcast_S1x1024_S34816x1024_0_1 (broadcastInDim S1x1024 ![1] bcast_S1024_S1x1024_1 (shapeCast _ g shapeCasts_S1x1024_S1024)))

/-- The row at which a group ends. -/
def lastRow (t : IVec S4 32) (o : ℕ) (h : S4.Slices ![o] S1) : IVec S34816 32 :=
  broadcastInDim S34816 ![] bcast_S_S34816 (shapeCast _ (extractStridedSlice S1 ![o] (muli t (broadcastInDim S4 ![] bcast_S_S4 (constantI S_ 32 512#32))) h) shapeCasts_S1_S_)

/-- Each row's group. -/
def groupOf (t : IVec S4 32) : IVec S34816 32 :=
  addi (addi (addi (broadcastInDim S34816 ![] bcast_S_S34816 (constantI S_ 32 0#32)) (extui 32 (cmpi .sge (iotaInDim S34816 32 0) (lastRow t 0 slices_S4_S1_0)) natLt_1_32)) (extui 32 (cmpi .sge (iotaInDim S34816 32 0) (lastRow t 1 slices_S4_S1_1)) natLt_1_32)) (extui 32 (cmpi .sge (iotaInDim S34816 32 0) (lastRow t 2 slices_S4_S1_2)) natLt_1_32)

/-- Each expert's group. -/
def expertGroup : IVec S32 32 :=
  select (andi (cmpi .ne (signi (iotaInDim S32 32 0)) (broadcastInDim S32 ![] bcast_S_S32 (signi (id (constantI S_ 32 8#32))))) (cmpi .ne (Host.remsi (iotaInDim S32 32 0) (broadcastInDim S32 ![] bcast_S_S32 (id (constantI S_ 32 8#32)))) (broadcastInDim S32 ![] bcast_S_S32 (constantI S_ 32 0#32)))) (subi (Host.divsi (iotaInDim S32 32 0) (broadcastInDim S32 ![] bcast_S_S32 (id (constantI S_ 32 8#32)))) (broadcastInDim S32 ![] bcast_S_S32 (constantI S_ 32 1#32))) (Host.divsi (iotaInDim S32 32 0) (broadcastInDim S32 ![] bcast_S_S32 (id (constantI S_ 32 8#32))))

/-- Whether a row weighs an expert. -/
def owns (t : IVec S4 32) : IVec S34816x32 1 :=
  andi (cmpi .eq (broadcastInDim S34816x32 ![0, 1] bcast_S1x32_S34816x32_0_1 (broadcastInDim S1x32 ![1] bcast_S32_S1x32_1 expertGroup)) (broadcastInDim S34816x32 ![0, 1] bcast_S34816x1_S34816x32_0_1 (broadcastInDim S34816x1 ![0] bcast_S34816_S34816x1_0 (groupOf t)))) (broadcastInDim S34816x32 ![0, 1] bcast_S34816x1_S34816x32_0_1 (broadcastInDim S34816x1 ![0] bcast_S34816_S34816x1_0 (cmpi .slt (iotaInDim S34816 32 0) (lastRow t 3 slices_S4_S1_3))))

/-- The weights of the experts. -/
def weights (t : IVec S4 32) (R : FVec Ideal S34816x1152 .f32) : FVec Ideal S34816x32 .f32 :=
  select (owns t) (extractStridedSlice S34816x32 ![0, 1028] R slices_S34816x1152_S34816x32_0_1028) (broadcastInDim S34816x32 ![] bcast_S_S34816x32 (id (constant S_ .f32 0x00000000#32)))

/-- One product of the normalised rows with a group's weights. -/
def up (o : ℕ) (h : S32x1024x256.Slices ![o, 0, 0] S8x1024x256) (T : FVec Ideal S34816x1024 .f32) (A : FVec Ideal S1x32x1024x256 .f32) : FVec Ideal S34816x8x256 .f32 :=
  Host.dotGeneral dot_S34816x1024_S8x1024x256_S34816x8x256_1_1_0_02_n_n none T (extractStridedSlice S8x1024x256 ![o, 0, 0] (shapeCast _ A shapeCasts_S1x32x1024x256_S32x1024x256) h)

/-- One group's share of the result. -/
def share (o : ℕ) (h : S32x1024x256.Slices ![o, 0, 0] S8x1024x256) (h' : S34816x32.Slices ![0, o] S34816x8) (h'' : S32x256x1024.Slices ![o, 0, 0] S8x256x1024)
    (T : FVec Ideal S34816x1024 .f32) (C : FVec Ideal S34816x32 .f32) (A B : FVec Ideal S1x32x1024x256 .f32) (D : FVec Ideal S1x32x256x1024 .f32) : FVec Ideal S34816x1024 .f32 :=
  Host.dotGeneral dot_S34816x8x256_S8x256x1024_S34816x1024_12_01_0_2_n_n none (mulf (mulf (mulf (up o h T A) (Host.divf (broadcastInDim S34816x8x256 ![] bcast_S_S34816x8x256 (constant S_ .f32 0x3F800000#32)) (addf (broadcastInDim S34816x8x256 ![] bcast_S_S34816x8x256 (constant S_ .f32 0x3F800000#32)) (Host.exp (Host.negf (up o h T A)))))) (up o h T B)) (broadcastInDim S34816x8x256 ![0, 1, 2] bcast_S34816x8x1_S34816x8x256_0_1_2 (broadcastInDim S34816x8x1 ![0, 1] bcast_S34816x8_S34816x8x1_0_1 (extractStridedSlice S34816x8 ![0, o] C h')))) (extractStridedSlice S8x256x1024 ![o, 0, 0] (shapeCast _ D shapeCasts_S1x32x256x1024_S32x256x1024) h'')

/-- The result before its last reshape. -/
def total (t : IVec S4 32) (s : IVec S34816 32) (x : FVec Ideal S32768x1152 .f32) (g : FVec Ideal S1x1024 .f32) (A B : FVec Ideal S1x32x1024x256 .f32) (D : FVec Ideal S1x32x256x1024 .f32) :
    FVec Ideal S34816x1024 .f32 :=
  addf (addf (addf (addf (broadcastInDim S34816x1024 ![] bcast_S_S34816x1024 (constant S_ .f32 0x00000000#32))
    (share 0 slices_S32x1024x256_S8x1024x256_0_0_0 slices_S34816x32_S34816x8_0_0 slices_S32x256x1024_S8x256x1024_0_0_0 (normed (taken x s) g) (weights t (taken x s)) A B D))
    (share 8 slices_S32x1024x256_S8x1024x256_8_0_0 slices_S34816x32_S34816x8_0_8 slices_S32x256x1024_S8x256x1024_8_0_0 (normed (taken x s) g) (weights t (taken x s)) A B D))
    (share 16 slices_S32x1024x256_S8x1024x256_16_0_0 slices_S34816x32_S34816x8_0_16 slices_S32x256x1024_S8x256x1024_16_0_0 (normed (taken x s) g) (weights t (taken x s)) A B D))
    (share 24 slices_S32x1024x256_S8x1024x256_24_0_0 slices_S34816x32_S34816x8_0_24 slices_S32x256x1024_S8x256x1024_24_0_0 (normed (taken x s) g) (weights t (taken x s)) A B D)

theorem res_eq (m : (ℓ : Loc nD τ sig) → Buf (Elt Ideal) ℓ) (c : Dev nD) : Value.res_main_v119 m c =
    shapeCast _ (total (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))) shapeCasts_S34816x1024_S278528x128 := rfl

theorem cast_apply (v : FVec Ideal S34816x1024 .f32) (i : Fin 278528) (j : Fin 128) : (shapeCast S278528x128 v shapeCasts_S34816x1024_S278528x128 : FVec Ideal S278528x128 .f32) (ix2 i j)
    = v (ix2 ⟨i.val / 8, by omega⟩ ⟨i.val % 8 * 128 + j.val, by omega⟩) := by
  pointwise []

theorem normed_apply (R : FVec Ideal S34816x1152 .f32) (g : FVec Ideal S1x1024 .f32) (i : Fin 34816) (j : Fin 1024) :
    normed R g (ix2 i j) = nrm (fun k => R (ix2 i (fc k))) (fun k => g (ix2 0 k)) j := by
  unfold nrm fc
  pointwise [normed, feat]

theorem lastRow_apply (t : IVec S4 32) (o : ℕ) (h : S4.Slices ![o] S1) (ho : o < 4) (i : Fin 34816) :
    lastRow t o h (ix1 i) = IntOp.muli (t (ix1 ⟨o, ho⟩)) 512#32 := by
  pointwise [lastRow]

theorem owns_apply (t : IVec S4 32) (i : Fin 34816) (e : Fin 32) : owns t (ix2 i e)
    = IntOp.andi (IntOp.cmpi .eq (expertGroup (ix1 e)) (groupOf t (ix1 i))) (IntOp.cmpi .slt (BitVec.ofNat 32 i.val) (lastRow t 3 slices_S4_S1_3 (ix1 i))) := by
  pointwise [owns]

theorem weights_apply (t : IVec S4 32) (R : FVec Ideal S34816x1152 .f32) (i : Fin 34816) (e : Fin 32) :
    weights t R (ix2 i e) = Scalar.select (owns t (ix2 i e)) (R (ix2 i (wc e))) 0 := by
  unfold weights wc
  simp only [id_eq]
  pointwise []

theorem share_apply (o : ℕ) (ho : o + 8 ≤ 32) (h : S32x1024x256.Slices ![o, 0, 0] S8x1024x256) (h' : S34816x32.Slices ![0, o] S34816x8) (h'' : S32x256x1024.Slices ![o, 0, 0] S8x256x1024)
    (T : FVec Ideal S34816x1024 .f32) (C : FVec Ideal S34816x32 .f32) (A B : FVec Ideal S1x32x1024x256 .f32) (D : FVec Ideal S1x32x256x1024 .f32) (i : Fin 34816) (j : Fin 1024) :
    share o h h' h'' T C A B D (ix2 i j) = ∑ e : Fin 8, one (fun k => T (ix2 i k)) (fun k f => A (ix4 0 ⟨o + e.val, by omega⟩ k f)) (fun k f => B (ix4 0 ⟨o + e.val, by omega⟩ k f))
      (C (ix2 i ⟨o + e.val, by omega⟩)) (fun f => D (ix4 0 ⟨o + e.val, by omega⟩ f j)) := by
  unfold one Ideal.logistic
  pointwise [share, up]

theorem column_apply (s : IVec S34816 32) (i : Fin 34816) : (broadcastInDim S34816x1 ![0] bcast_S34816_S34816x1_0 s : IVec S34816x1 32) (ix2 i 0) = s (ix1 i) := by
  pointwise []

theorem taken_apply (x : FVec Ideal S32768x1152 .f32) (s : IVec S34816 32) (hs : ∀ k, (s k).toNat < 32768) (i : Fin 34816) (k : Fin 1152) :
    taken x s (ix2 i k) = x (ix2 (rowOf s i) k) := by
  have hb : (broadcastInDim S34816x1 ![0] bcast_S34816_S34816x1_0 s : IVec S34816x1 32) (ValueIdx.ix2 i 0) = BitVec.ofNat 32 (rowOf s i).val := by
    rw [← ix2_eq_valueIdx, column_apply]
    apply BitVec.eq_of_toNat_eq
    have := hs (ix1 i)
    show _ = ((s (ix1 i)).toNat % 32768) % 2 ^ 32
    omega
  rw [ix2_eq_valueIdx, ix2_eq_valueIdx]
  exact Routing.gather_row _ rfl rfl rfl rfl rfl x _ i k (rowOf s i) hb (by decide)

/-- Each expert's group is its number over eight. -/
theorem expertGroup_apply (e : Fin 32) : expertGroup (ix1 e) = BitVec.ofNat 32 (e.val / 8) := by
  revert e
  decide +kernel

theorem groupOf_apply (t : IVec S4 32) (i : Fin 34816) : groupOf t (ix1 i)
    = IntOp.addi (IntOp.addi (IntOp.addi 0#32 ((IntOp.cmpi .sge (BitVec.ofNat 32 i.val) (lastRow t 0 slices_S4_S1_0 (ix1 i))).setWidth 32))
        ((IntOp.cmpi .sge (BitVec.ofNat 32 i.val) (lastRow t 1 slices_S4_S1_1 (ix1 i))).setWidth 32)) ((IntOp.cmpi .sge (BitVec.ofNat 32 i.val) (lastRow t 2 slices_S4_S1_2 (ix1 i))).setWidth 32) := by
  pointwise [groupOf]

theorem at4_eq (j : Fin 4) : (at4 j : S4.Idx) = ix1 j := by
  funext a; fin_cases a; rfl

theorem end_toNat (k : BitVec 32) (hk : k.toNat < 68) : (IntOp.muli k 512#32).toNat = k.toNat * 512 := by
  show (k * 512#32).toNat = _
  rw [BitVec.toNat_mul]; simp only [BitVec.toNat_ofNat]; omega

theorem sge_end (i : Fin 34816) (k : BitVec 32) (hk : k.toNat < 68) :
    (IntOp.cmpi .sge (BitVec.ofNat 32 i.val) (IntOp.muli k 512#32)).setWidth 32 = if k.toNat ≤ i.val / 512 then 1#32 else 0#32 := by
  have e2 := end_toNat k hk
  have e1 : (BitVec.ofNat 32 i.val).toNat = i.val := by rw [BitVec.toNat_ofNat]; omega
  show (BitVec.ofBool ((IntOp.muli k 512#32).sle (BitVec.ofNat 32 i.val))).setWidth 32 = _
  rw [bool_word]
  refine if_congr ?_ rfl rfl
  simp only [BitVec.sle, decide_eq_true_eq, BitVec.toInt, e1, e2]
  omega

theorem slt_end (i : Fin 34816) (k : BitVec 32) (hk : k.toNat < 68) :
    IntOp.cmpi .slt (BitVec.ofNat 32 i.val) (IntOp.muli k 512#32) = BitVec.ofBool (decide (i.val / 512 < k.toNat)) := by
  have e2 := end_toNat k hk
  have e1 : (BitVec.ofNat 32 i.val).toNat = i.val := by rw [BitVec.toNat_ofNat]; omega
  show BitVec.ofBool ((BitVec.ofNat 32 i.val).slt (IntOp.muli k 512#32)) = _
  refine congrArg BitVec.ofBool ?_
  rw [Bool.eq_iff_iff]
  simp only [BitVec.slt, decide_eq_true_eq, BitVec.toInt, e1, e2]
  omega

theorem groupOf_word (t : IVec S4 32) (ht : ∀ k, (t k).toNat < 68) (i : Fin 34816) : groupOf t (ix1 i) = BitVec.ofNat 32 (grpF t (i.val / 512)).val := by
  rw [groupOf_apply, lastRow_apply t 0 _ (by decide), lastRow_apply t 1 _ (by decide), lastRow_apply t 2 _ (by decide),
    sge_end _ _ (ht _), sge_end _ _ (ht _), sge_end _ _ (ht _)]
  show _ = BitVec.ofNat 32 (grpN t (i.val / 512))
  unfold grpN
  rw [at4_eq, at4_eq, at4_eq]
  show IntOp.addi (IntOp.addi (IntOp.addi 0#32 (if (t (ix1 0)).toNat ≤ _ then _ else _)) (if (t (ix1 1)).toNat ≤ _ then _ else _)) (if (t (ix1 2)).toNat ≤ _ then _ else _) = _
  split <;> split <;> split <;> decide

/-- A row weighs the experts of its own group, if it is one of the held rows. -/
theorem weight_value (t : IVec S4 32) (ht : ∀ k, (t k).toNat < 68) (R : FVec Ideal S34816x1152 .f32) (i : Fin 34816) (g : Fin 4) (e : Fin 8) :
    weights t R (ix2 i (ex g e)) = if i.val / 512 < (t (at4 3)).toNat ∧ g = grpF t (i.val / 512) then R (ix2 i (wc (ex g e))) else 0 := by
  rw [weights_apply, owns_apply, expertGroup_apply, groupOf_word t ht, lastRow_apply t 3 _ (by decide), slt_end _ _ (ht _), at4_eq]
  have hd : (ex g e).val / 8 = g.val := by show (8 * g.val + e.val) / 8 = g.val; omega
  rw [hd]
  have he : ∀ a b : Fin 4, IntOp.cmpi .eq (BitVec.ofNat 32 a.val) (BitVec.ofNat 32 b.val) = BitVec.ofBool (decide (a = b)) := by decide
  rw [he]
  show Scalar.select (IntOp.andi (BitVec.ofBool (decide (g = grpF t (i.val / 512)))) (BitVec.ofBool (decide (i.val / 512 < (t (ix1 3)).toNat)))) _ _ = _
  by_cases h1 : g = grpF t (i.val / 512) <;> by_cases h2 : i.val / 512 < (t (ix1 3)).toNat
  · rw [if_pos ⟨h2, h1⟩, decide_eq_true h1, decide_eq_true h2]; rfl
  · rw [if_neg (fun h => h2 h.1), decide_eq_true h1, decide_eq_false h2]; rfl
  · rw [if_neg (fun h => h1 h.2), decide_eq_false h1, decide_eq_true h2]; rfl
  · rw [if_neg (fun h => h2 h.1), decide_eq_false h1, decide_eq_false h2]; rfl

theorem total_apply (t : IVec S4 32) (s : IVec S34816 32) (x : FVec Ideal S32768x1152 .f32) (g : FVec Ideal S1x1024 .f32) (A B : FVec Ideal S1x32x1024x256 .f32) (D : FVec Ideal S1x32x256x1024 .f32)
    (ht : ∀ k, (t k).toNat < 68) (hs : ∀ k, (s k).toNat < 32768) (i : Fin 34816) (j : Fin 1024) :
    total t s x g A B D (ix2 i j) = moe s x g A B D t i j := by
  have hp (o : ℕ) (q : Fin 4) (ho : o = 8 * q.val) (h : S32x1024x256.Slices ![o, 0, 0] S8x1024x256) (h' : S34816x32.Slices ![0, o] S34816x8) (h'' : S32x256x1024.Slices ![o, 0, 0] S8x256x1024) :
      share o h h' h'' (normed (taken x s) g) (weights t (taken x s)) A B D (ix2 i j)
        = ∑ e : Fin 8, part s x g A B D (if i.val / 512 < (t (at4 3)).toNat ∧ q = grpF t (i.val / 512) then x (ix2 (rowOf s i) (wc (ex q e))) else 0) i j (ex q e) := by
    subst ho
    rw [share_apply _ (by omega)]
    refine Finset.sum_congr rfl fun e _ => ?_
    have hn : (fun k => normed (taken x s) g (ix2 i k)) = nrm (fun k => x (ix2 (rowOf s i) (fc k))) (fun k => g (ix2 0 k)) := by
      funext k
      rw [normed_apply]
      simp only [taken_apply x s hs]
    rw [hn, ← taken_apply x s hs, ← weight_value t ht]
    rfl
  have hs4 : total t s x g A B D (ix2 i j)
      = ∑ q : Fin 4, ∑ e : Fin 8, part s x g A B D (if i.val / 512 < (t (at4 3)).toNat ∧ q = grpF t (i.val / 512) then x (ix2 (rowOf s i) (wc (ex q e))) else 0) i j (ex q e) := by
    rw [Fin.sum_univ_four, ← hp 0 0 rfl slices_S32x1024x256_S8x1024x256_0_0_0 slices_S34816x32_S34816x8_0_0 slices_S32x256x1024_S8x256x1024_0_0_0,
      ← hp 8 1 rfl slices_S32x1024x256_S8x1024x256_8_0_0 slices_S34816x32_S34816x8_0_8 slices_S32x256x1024_S8x256x1024_8_0_0,
      ← hp 16 2 rfl slices_S32x1024x256_S8x1024x256_16_0_0 slices_S34816x32_S34816x8_0_16 slices_S32x256x1024_S8x256x1024_16_0_0,
      ← hp 24 3 rfl slices_S32x1024x256_S8x1024x256_24_0_0 slices_S34816x32_S34816x8_0_24 slices_S32x256x1024_S8x256x1024_24_0_0]
    pointwise [total]
  rw [hs4]
  have hz (q : Fin 4) (h : ¬ (i.val / 512 < (t (at4 3)).toNat ∧ q = grpF t (i.val / 512))) :
      ∑ e : Fin 8, part s x g A B D (if i.val / 512 < (t (at4 3)).toNat ∧ q = grpF t (i.val / 512) then x (ix2 (rowOf s i) (wc (ex q e))) else 0) i j (ex q e) = 0 := by
    refine Finset.sum_eq_zero fun e _ => ?_
    rw [if_neg h]
    exact one_zero _ _ _ _
  unfold moe
  by_cases h : i.val / 512 < (t (at4 3)).toNat
  · rw [if_pos h, Finset.sum_eq_single (grpF t (i.val / 512)) (fun q _ hq => hz q fun h' => hq h'.2) (fun h' => absurd (Finset.mem_univ _) h')]
    simp only [h, and_self, if_true]
  · rw [if_neg h]
    exact Finset.sum_eq_zero fun q _ => hz q fun h' => h h'.1

theorem res_apply (m : (ℓ : Loc nD τ sig) → Buf (Elt Ideal) ℓ) (c : Dev nD) (ht : ∀ k, ((m ((c.tc : Thread nD τ).loc main_arg0) : IVec S4 32) k).toNat < 68)
    (hs : ∀ k, ((m ((c.tc : Thread nD τ).loc main_arg1) : IVec S34816 32) k).toNat < 32768) (i : Fin 278528) (j : Fin 128) : Value.res_main_v119 m c (ix2 i j)
      = moe (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg0)) ⟨i.val / 8, by omega⟩ ⟨i.val % 8 * 128 + j.val, by omega⟩ := by
  rw [res_eq, cast_apply]
  exact total_apply _ _ _ _ _ _ _ ht hs _ _

end Cert.ReferenceIdeal.Hand
end
-- ==== Proof.lean ====
/-
  The certificate: both programs' frames from one run over any float values, the reference's run, and the
  equality of the two results over the extended reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_routed
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.ProjEq
public import proofs.«01_k».proof.Proof.Ranged
public import proofs.«01_k».proof.Proof.Same
public import proofs.«01_k».proof.Proof.Layer
public import proofs.«01_k».proof.Proof.RefVal
public import Idealize.ShloMosaic.Adequacy
public import Idealize.ShloMosaic.Init

@[expose] public section

set_option maxRecDepth 16384

noncomputable section

namespace Cert.Proof

open Idealize.ShloMosaic Idealize.SL.Sem

theorem frame_ideal : Cert.quiescent_KernelIdeal := fun _ ρ h =>
  KernelIdeal.Hand.frame_main (fun c => KernelIdeal.Hand.ranges_of (h c).1 (h c).2) ρ

/-- The program as compiled is the same text: its frame is the same run's, at the machine's floats. -/
theorem frame_kernel : Cert.quiescent_Kernel := fun m ρ h =>
  run_of (F := Bits) (KernelIdeal.Hand.frame_main (F := Bits) (m := m) (fun c => KernelIdeal.Hand.ranges_of (h c).1 (h c).2) ρ)

theorem frame_reference : Cert.quiescent_ReferenceIdeal := fun m ρ _ =>
  (θ_run _ _ _).mono (fun r h => ⟨fun c => (h c).2, sem_eq_zero_of_no_sems (by decide) r.2⟩) (ReferenceIdeal.Value.run m ρ)

theorem frame_reference_routed : Cert.quiescent_ReferenceIdeal_pre_routed := fun m ρ _ => frame_reference m ρ trivial

/-- Over the extended reals the kernel's result is the reference's. -/
theorem algebraic : Cert.algebraic_KernelIdeal_ReferenceIdeal := fun m ρ m' ρ' h hargs => by
  have hr : KernelIdeal.Hand.Routed m := fun c => KernelIdeal.Hand.ranges_of (h c).1 (h c).2
  refine ⟨fun c => KernelIdeal.Hand.res m c, KernelIdeal.Hand.value_main hr ρ, ?_⟩
  refine (θ_run _ _ _).mono (fun r hv c => ⟨(hv c).1.trans ?_, (hv c).2⟩) (ReferenceIdeal.Value.run m' ρ')
  obtain ⟨h0, h1, h2, h3, h4, h5, h6⟩ := hargs c
  funext y
  obtain ⟨i, j, rfl⟩ : ∃ (i : Fin 278528) (j : Fin 128), y = ix2 i j := ⟨y 0, y 1, by funext a; fin_cases a <;> rfl⟩
  refine (ReferenceIdeal.Hand.res_apply m' c ?_ ?_ i j).trans ?_
  · rw [h0]; exact (hr c).tile
  · rw [h1]; exact (hr c).row
  · rw [h0, h1, h2, h3, h4, h5, h6]; rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_routed.Gen.facts,
    frame_kernel, frame_ideal, frame_reference, frame_reference_routed, Proj.frame_kernel, Proj.frame_ideal, Proj.frame_reference,
    trivial, algebraic, trivial, Proj.algebraic⟩

end Cert.Proof

end
